-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v39) = v1 c
          ∧ r.2.mem ((c.tc : Thread Cert.Reference16Ideal.nD Cert.Reference16Ideal.τ).loc Cert.Reference16Ideal.main_v42) = v2 c
          ∧ r.2.mem ((c.tc : Thread Cert.Reference16Ideal.nD Cert.Reference16Ideal.τ).loc Cert.Reference16Ideal.main_v45) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v40) = v2 c
          ∧ r.2.mem ((c.tc : Thread Cert.Reference17Ideal.nD Cert.Reference17Ideal.τ).loc Cert.Reference17Ideal.main_v43) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v34) = v0 c
          ∧ r.2.mem ((c.tc : Thread Cert.Reference18Ideal.nD Cert.Reference18Ideal.τ).loc Cert.Reference18Ideal.main_v37) = v1 c
          ∧ r.2.mem ((c.tc : Thread Cert.Reference18Ideal.nD Cert.Reference18Ideal.τ).loc Cert.Reference18Ideal.main_v40) = v2 c
          ∧ r.2.mem ((c.tc : Thread Cert.Reference18Ideal.nD Cert.Reference18Ideal.τ).loc Cert.Reference18Ideal.main_v43) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v52) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_v37) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v58) = v0 c
          ∧ r.2.mem ((c.tc : Thread Cert.Reference20Ideal.nD Cert.Reference20Ideal.τ).loc Cert.Reference20Ideal.main_v57) = v1 c
          ∧ r.2.mem ((c.tc : Thread Cert.Reference20Ideal.nD Cert.Reference20Ideal.τ).loc Cert.Reference20Ideal.main_v43) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel_KernelIdeal : Prop :=
  True

def algebraic_KernelIdeal_ReferenceIdeal_on_claimed [hKernelIdeal : Cert.KernelIdeal.Facts] [hReferenceIdeal : Cert.ReferenceIdeal.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![12, 2, 2048, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v34_0) i = v0 c i)
          ∧ (∀ i : (⟨2, ![3, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.KernelIdeal.nD Cert.KernelIdeal.τ).loc Cert.KernelIdeal.main_v34_1) i = v1 c i)
          ∧ (∀ i : (⟨3, ![8, 128, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.KernelIdeal.nD Cert.KernelIdeal.τ).loc Cert.KernelIdeal.main_v34_2) i = v2 c i)
          ∧ (∀ i : (⟨3, ![8, 128, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 i = 1#1 → r.2.mem ((c.tc : Thread Cert.KernelIdeal.nD Cert.KernelIdeal.τ).loc Cert.KernelIdeal.main_v34_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![12, 2, 2048, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v244) i = v0 c i)
          ∧ (∀ i : (⟨2, ![3, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.ReferenceIdeal.nD Cert.ReferenceIdeal.τ).loc Cert.ReferenceIdeal.main_v224) i = v1 c i)
          ∧ (∀ i : (⟨3, ![8, 128, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.ReferenceIdeal.nD Cert.ReferenceIdeal.τ).loc Cert.ReferenceIdeal.main_v163) i = v2 c i)
          ∧ (∀ i : (⟨3, ![8, 128, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 i = 1#1 → r.2.mem ((c.tc : Thread Cert.ReferenceIdeal.nD Cert.ReferenceIdeal.τ).loc Cert.ReferenceIdeal.main_v246) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel : Cert.Kernel.Facts) (hKernelIdeal : Cert.KernelIdeal.Facts) (hReferenceIdeal : Cert.ReferenceIdeal.Facts) (hOn_claimed : Cert.On_claimed.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel (hKernel := hKernel)
    ∧ quiescent_KernelIdeal (hKernelIdeal := hKernelIdeal)
    ∧ quiescent_ReferenceIdeal (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel_KernelIdeal
    ∧ algebraic_KernelIdeal_ReferenceIdeal_on_claimed (hKernelIdeal := hKernelIdeal) (hReferenceIdeal := hReferenceIdeal) (hOn_claimed := hOn_claimed)
-- ==== On_claimed.lean ====
abbrev S12x2x2048x1024 : Shape := ⟨4, ![12, 2, 2048, 1024]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1x1024 : Shape := ⟨2, ![1, 1024]⟩
abbrev S_ : Shape := ⟨0, ![]⟩

class Facts : Prop where
  bcast_S_S12x2x2048x1024 : S_.BroadcastsInDim S12x2x2048x1024 (![] : Fin 0 → Fin S12x2x2048x1024.rank)
  bcast_S_S3x1024 : S_.BroadcastsInDim S3x1024 (![] : Fin 0 → Fin S3x1024.rank)
  bcast_S_S8x128x128 : S_.BroadcastsInDim S8x128x128 (![] : Fin 0 → Fin S8x128x128.rank)

variable [Facts]

def fn_part1 {F : FTy → Type} [FloatOps F] (main_v0 : IVec S12x2x2048x1024 32) (main_v17 : IVec S12x2x2048x1024 1) : IVec S12x2x2048x1024 1 × IVec S3x1024 1 × IVec S8x128x128 1 × IVec S8x128x128 1 :=
  let main_c_5 : IVec S_ 32 := constantI S_ 32 11#32
  let main_v18 : IVec S12x2x2048x1024 32 := broadcastInDim S12x2x2048x1024 ![] bcast_S_S12x2x2048x1024 main_c_5
  let main_v19 : IVec S12x2x2048x1024 1 := cmpi .eq main_v0 main_v18
  let main_v20 : IVec S12x2x2048x1024 1 := ori main_v17 main_v19
  let main_c_6 : IVec S_ 1 := constantI S_ 1 1#1
  let main_v21 : IVec S3x1024 1 := broadcastInDim S3x1024 ![] bcast_S_S3x1024 main_c_6
  let main_c_7 : IVec S_ 1 := constantI S_ 1 1#1
  let main_v22 : IVec S8x128x128 1 := broadcastInDim S8x128x128 ![] bcast_S_S8x128x128 main_c_7
  let main_c_8 : IVec S_ 1 := constantI S_ 1 1#1
  let main_v23 : IVec S8x128x128 1 := broadcastInDim S8x128x128 ![] bcast_S_S8x128x128 main_c_8
  (main_v20, main_v21, main_v22, main_v23)

def fn {F : FTy → Type} [FloatOps F] (main_arg0 : FVec F S12x2x2048x1024 .bf16) (main_arg1 : FVec F S2x2048x1024 .bf16) (main_arg2 : FVec F S2x2048x1024 .f32) (main_arg3 : FVec F S2x2048x1024 .bf16) (main_arg4 : FVec F S3x1024 .f32) (main_arg5 : FVec F S8x128x128 .f32) (main_arg6 : FVec F S8x128 .f32) (main_arg7 : FVec F S4x1024 .f32) (main_arg8 : FVec F S1x1024 .f32) (main_arg9 : FVec F S8x128x128 .bf16) (main_arg10 : FVec F S8x128x128 .bf16) (main_arg11 : FVec F S1x1024 .f32) (main_arg12 : FVec F S1x1024 .f32) (main_arg13 : FVec F S1x1024 .f32) : IVec S12x2x2048x1024 1 × IVec S3x1024 1 × IVec S8x128x128 1 × IVec S8x128x128 1 :=
  let main_v0 : IVec S12x2x2048x1024 32 := iotaInDim S12x2x2048x1024 32 0
  let main_c : IVec S_ 32 := constantI S_ 32 0#32
  let main_v1 : IVec S12x2x2048x1024 32 := broadcastInDim S12x2x2048x1024 ![] bcast_S_S12x2x2048x1024 main_c
  let main_v2 : IVec S12x2x2048x1024 1 := cmpi .eq main_v0 main_v1
  let main_c_0 : IVec S_ 32 := constantI S_ 32 1#32
  let main_v3 : IVec S12x2x2048x1024 32 := broadcastInDim S12x2x2048x1024 ![] bcast_S_S12x2x2048x1024 main_c_0
  let main_v4 : IVec S12x2x2048x1024 1 := cmpi .eq main_v0 main_v3
  let main_v5 : IVec S12x2x2048x1024 1 := ori main_v2 main_v4
  let main_c_1 : IVec S_ 32 := constantI S_ 32 2#32
  let main_v6 : IVec S12x2x2048x1024 32 := broadcastInDim S12x2x2048x1024 ![] bcast_S_S12x2x2048x1024 main_c_1
  let main_v7 : IVec S12x2x2048x1024 1 := cmpi .eq main_v0 main_v6
  let main_v8 : IVec S12x2x2048x1024 1 := ori main_v5 main_v7
  let main_c_2 : IVec S_ 32 := constantI S_ 32 4#32
  let main_v9 : IVec S12x2x2048x1024 32 := broadcastInDim S12x2x2048x1024 ![] bcast_S_S12x2x2048x1024 main_c_2
  let main_v10 : IVec S12x2x2048x1024 1 := cmpi .eq main_v0 main_v9
  let main_v11 : IVec S12x2x2048x1024 1 := ori main_v8 main_v10
  let main_c_3 : IVec S_ 32 := constantI S_ 32 9#32
  let main_v12 : IVec S12x2x2048x1024 32 := broadcastInDim S12x2x2048x1024 ![] bcast_S_S12x2x2048x1024 main_c_3
  let main_v13 : IVec S12x2x2048x1024 1 := cmpi .eq main_v0 main_v12
  let main_v14 : IVec S12x2x2048x1024 1 := ori main_v11 main_v13
  let main_c_4 : IVec S_ 32 := constantI S_ 32 10#32
  let main_v15 : IVec S12x2x2048x1024 32 := broadcastInDim S12x2x2048x1024 ![] bcast_S_S12x2x2048x1024 main_c_4
  let main_v16 : IVec S12x2x2048x1024 1 := cmpi .eq main_v0 main_v15
  let main_v17 : IVec S12x2x2048x1024 1 := ori main_v14 main_v16
  fn_part1 (F := F) main_v0 main_v17
-- ==== Kernel3.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S2x2048x1024, .bf16⟩
  | .hbm, ⟨5, _⟩ => ⟨S1024x1024, .f32⟩
  | .hbm, ⟨6, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S2x2048x1024 : Shape := ⟨3, ![2, 2048, 1024]⟩
abbrev S1024x1024 : Shape := ⟨2, ![1024, 1024]⟩
abbrev S2x1x1024 : Shape := ⟨3, ![2, 1, 1024]⟩
abbrev S_ : Shape := ⟨0, ![]⟩
abbrev S2x1024 : Shape := ⟨2, ![2, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S2x2048x1024, .f32⟩
  | .hbm, ⟨5, _⟩ => ⟨S1024x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x1024, .f32⟩
  | .hbm, ⟨14, _⟩ => ⟨S2x1x1024, .f32⟩
  | .hbm, ⟨15, _⟩ => ⟨S1024x1024, .f32⟩
  | .hbm, ⟨16, _⟩ => ⟨S1024x1024, .f32⟩
  | .hbm, ⟨17, _⟩ => ⟨S2x2048x1024, .f32⟩
  | .hbm, ⟨18, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S12x2x2048x1024 : Shape := ⟨4, ![12, 2, 2048, 1024]⟩
abbrev S8x1024x1536 : Shape := ⟨3, ![8, 1024, 1536]⟩
abbrev S8x128 : Shape := ⟨2, ![8, 128]⟩
abbrev S2x2048x1024 : Shape := ⟨3, ![2, 2048, 1024]⟩
abbrev S1x1x1024x1024 : Shape := ⟨4, ![1, 1, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 4
  | .vmem => 15
  | .smem => 0
  | _ => 0

abbrev bufTy : (tb : Table) → Fin (tcTables nBuf tb) → BufTy
  | .hbm, ⟨0, _⟩ => ⟨S12x2x2048x1024, .bf16⟩
  | .hbm, ⟨1, _⟩ => ⟨S8x1024x1536, .bf16⟩
  | .hbm, ⟨2, _⟩ => ⟨S8x128, .f32⟩
  | .hbm, ⟨3, _⟩ => ⟨S2x2048x1024, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S8x128, .f32⟩
  | .local _ .vmem, ⟨13, _⟩ => ⟨S1x1024x1024, .f32⟩
  | .local _ .vmem, ⟨14, _⟩ => ⟨S1x1024x1024, .f32⟩
  | _, _ => ⟨S12x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 2, 6], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_20 : BitVec 32 := 0#32
  let v19 : BitVec 1 := Scalar.cmpi .ne v18 c0_i32_20
  v19

def k0_cond2 (i : grid0.Coords) : BitVec 1 :=
  let arg2 : BitVec 32 := BitVec.ofNat 32 (i 2).val
  let c0_i32_21 : BitVec 32 := 0#32
  let v20 : BitVec 1 := Scalar.cmpi .sgt arg2 c0_i32_21
  let v21 : BitVec 32 := Scalar.extui v20
  let c0_i32_22 : BitVec 32 := 0#32
  let v22 : BitVec 1 := Scalar.cmpi .ne v21 c0_i32_22
  v22

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c0_i32 : BitVec 32 := 0#32
  let v1 : BitVec 32 := Scalar.addi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c0_i32_6 : BitVec 32 := 0#32
  let v20 : BitVec 32 := Scalar.addi v19 c0_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi v0 c1_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli c4_i32_5 arg2
  let c1_i32_6 : BitVec 32 := 1#32
  let v20 : BitVec 32 := Scalar.addi v19 c1_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c2_i32 : BitVec 32 := 2#32
  let v1 : BitVec 32 := Scalar.addi v0 c2_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli c4_i32_4 arg2
  let c2_i32_5 : BitVec 32 := 2#32
  let v20 : BitVec 32 := Scalar.addi v19 c2_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c3_i32 : BitVec 32 := 3#32
  let v1 : BitVec 32 := Scalar.addi v0 c3_i32
  let c3_i32_0 : BitVec 32 := 3#32
  let v2 : BitVec 32 := Scalar.divsi v1 c3_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32_0 c0_i32_2
  let v9 : BitVec 32 := Scalar.extui v8
  let c0_i32_3 : BitVec 32 := 0#32
  let v10 : BitVec 1 := Scalar.cmpi .slt c3_i32_0 c0_i32_3
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c3_i32_6 : BitVec 32 := 3#32
  let v20 : BitVec 32 := Scalar.addi v19 c3_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference4Ideal.lean ====
abbrev S12x2x2048x1024 : Shape := ⟨4, ![12, 2, 2048, 1024]⟩
abbrev S8x1024x1536 : Shape := ⟨3, ![8, 1024, 1536]⟩
abbrev S8x128 : Shape := ⟨2, ![8, 128]⟩
abbrev S_ : Shape := ⟨0, ![]⟩
abbrev S2x2048x1024 : Shape := ⟨3, ![2, 2048, 1024]⟩
abbrev S1024x8x1536 : Shape := ⟨3, ![1024, 8, 1536]⟩
abbrev S1024x12288 : Shape := ⟨2, ![1024, 12288]⟩
abbrev S2x2048x12288 : Shape := ⟨3, ![2, 2048, 12288]⟩
abbrev S2x2048x12x1024 : Shape := ⟨4, ![2, 2048, 12, 1024]⟩

abbrev nBuf : Space → Nat
  | .hbm => 15
  | .vmem => 0
  | .smem => 0
  | _ => 0

abbrev bufTy : (tb : Table) → Fin (tcTables nBuf tb) → BufTy
  | .hbm, ⟨0, _⟩ => ⟨S12x2x2048x1024, .bf16⟩
  | .hbm, ⟨1, _⟩ => ⟨S8x1024x1536, .bf16⟩
  | .hbm, ⟨2, _⟩ => ⟨S8x128, .f32⟩
  | .hbm, ⟨3, _⟩ => ⟨S_, .f32⟩
  | .hbm, ⟨4, _⟩ => ⟨S2x2048x1024, .f32⟩
  | .hbm, ⟨5, _⟩ => ⟨S1024x8x1536, .bf16⟩
  | .hbm, ⟨6, _⟩ => ⟨S1024x12288, .bf16⟩
  | .hbm, ⟨7, _⟩ => ⟨S1024x12288, .f32⟩
  | .hbm, ⟨8, _⟩ => ⟨S2x2048x12288, .f32⟩
  | .hbm, ⟨9, _⟩ => ⟨S2x2048x12x1024, .f32⟩
  | .hbm, ⟨10, _⟩ => ⟨S12x2x2048x1024, .f32⟩
  | .hbm, ⟨11, _⟩ => ⟨S12x2x2048x1024, .f32⟩
  | .hbm, ⟨12, _⟩ => ⟨S2x2048x12x1024, .f32⟩
  | .hbm, ⟨13, _⟩ => ⟨S2x2048x12288, .f32⟩
  | .hbm, ⟨14, _⟩ => ⟨S2x2048x1024, .f32⟩
  | _, _ => ⟨S12x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S2x1024x2048 : Shape := ⟨3, ![2, 1024, 2048]⟩
abbrev S12x2x2048x1024 : Shape := ⟨4, ![12, 2, 2048, 1024]⟩
abbrev S8x128 : Shape := ⟨2, ![8, 128]⟩
abbrev S24x1024x512 : Shape := ⟨3, ![24, 1024, 512]⟩
abbrev S1x1024x2048 : Shape := ⟨3, ![1, 1024, 2048]⟩
abbrev S1x1x2048x1024 : Shape := ⟨4, ![1, 1, 2048, 1024]⟩
abbrev S2x1024x512 : Shape := ⟨3, ![2, 1024, 512]⟩
abbrev S1024x1024 : Shape := ⟨2, ![1024, 1024]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2x1024x2048, .bf16⟩
  | .hbm, ⟨1, _⟩ => ⟨S12x2x2048x1024, .bf16⟩
  | .hbm, ⟨2, _⟩ => ⟨S8x128, .f32⟩
  | .hbm, ⟨3, _⟩ => ⟨S24x1024x512, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S8x128, .f32⟩
  | .local _ .vmem, ⟨5, _⟩ => ⟨S2x1024x512, .bf16⟩
  | .local _ .vmem, ⟨6, _⟩ => ⟨S2x1024x512, .bf16⟩
  | .local _ .vmem, ⟨7, _⟩ => ⟨S1024x1024, .f32⟩
  | _, _ => ⟨S2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![12, 2, 1], ![false, false, false]⟩

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let arg2 : BitVec 32 := BitVec.ofNat 32 (i 2).val
  let c0_i32_12 : BitVec 32 := 0#32
  let v16 : BitVec 1 := Scalar.cmpi .eq arg2 c0_i32_12
  let v17 : BitVec 1 := Scalar.andi v15 v16
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference5Ideal.lean ====
abbrev S2x1024x2048 : Shape := ⟨3, ![2, 1024, 2048]⟩
abbrev S12x2x2048x1024 : Shape := ⟨4, ![12, 2, 2048, 1024]⟩
abbrev S8x128 : Shape := ⟨2, ![8, 128]⟩
abbrev S2x2048x1024 : Shape := ⟨3, ![2, 2048, 1024]⟩
abbrev S_ : Shape := ⟨0, ![]⟩
abbrev S1024x12288 : Shape := ⟨2, ![1024, 12288]⟩
abbrev S2x2048x12288 : Shape := ⟨3, ![2, 2048, 12288]⟩
abbrev S2x2048x12x1024 : Shape := ⟨4, ![2, 2048, 12, 1024]⟩
abbrev S12288x1024 : Shape := ⟨2, ![12288, 1024]⟩
abbrev S1024x24x512 : Shape := ⟨3, ![1024, 24, 512]⟩
abbrev S24x1024x512 : Shape := ⟨3, ![24, 1024, 512]⟩

abbrev nBuf : Space → Nat
  | .hbm => 18
  | .vmem => 0
  | .smem => 0
  | _ => 0

abbrev bufTy : (tb : Table) → Fin (tcTables nBuf tb) → BufTy
  | .hbm, ⟨0, _⟩ => ⟨S2x1024x2048, .bf16⟩
  | .hbm, ⟨1, _⟩ => ⟨S12x2x2048x1024, .bf16⟩
  | .hbm, ⟨2, _⟩ => ⟨S8x128, .f32⟩
  | .hbm, ⟨3, _⟩ => ⟨S2x2048x1024, .bf16⟩
  | .hbm, ⟨4, _⟩ => ⟨S2x2048x1024, .f32⟩
  | .hbm, ⟨5, _⟩ => ⟨S_, .f32⟩
  | .hbm, ⟨6, _⟩ => ⟨S1024x12288, .f32⟩
  | .hbm, ⟨7, _⟩ => ⟨S2x2048x12288, .f32⟩
  | .hbm, ⟨8, _⟩ => ⟨S2x2048x12x1024, .f32⟩
  | .hbm, ⟨9, _⟩ => ⟨S12x2x2048x1024, .f32⟩
  | .hbm, ⟨10, _⟩ => ⟨S12x2x2048x1024, .f32⟩
  | .hbm, ⟨11, _⟩ => ⟨S2x2048x12x1024, .f32⟩
  | .hbm, ⟨12, _⟩ => ⟨S2x2048x12288, .f32⟩
  | .hbm, ⟨13, _⟩ => ⟨S12288x1024, .f32⟩
  | .hbm, ⟨14, _⟩ => ⟨S1024x12288, .f32⟩
  | .hbm, ⟨15, _⟩ => ⟨S1024x24x512, .f32⟩
  | .hbm, ⟨16, _⟩ => ⟨S24x1024x512, .f32⟩
  | .hbm, ⟨17, _⟩ => ⟨S24x1024x512, .bf16⟩
  | _, _ => ⟨S2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S2x2048x1024 : Shape := ⟨3, ![2, 2048, 1024]⟩
abbrev S8x1024x1536 : Shape := ⟨3, ![8, 1024, 1536]⟩
abbrev S8x128 : Shape := ⟨2, ![8, 128]⟩
abbrev S12x2x2048x1024 : Shape := ⟨4, ![12, 2, 2048, 1024]⟩
abbrev S1x2048x1024 : Shape := ⟨3, ![1, 2048, 1024]⟩
abbrev S1x1024x512 : Shape := ⟨3, ![1, 1024, 512]⟩
abbrev S1x1x2048x1024 : Shape := ⟨4, ![1, 1, 2048, 1024]⟩
abbrev S2048x1024 : Shape := ⟨2, ![2048, 1024]⟩
abbrev S1024x512 : Shape := ⟨2, ![1024, 512]⟩
abbrev S2048x512 : Shape := ⟨2, ![2048, 512]⟩
abbrev S1x1x2048x512 : Shape := ⟨4, ![1, 1, 2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1536, .bf16⟩
  | .hbm, ⟨2, _⟩ => ⟨S8x128, .f32⟩
  | .hbm, ⟨3, _⟩ => ⟨S12x2x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S8x128, .f32⟩
  | .local _ .vmem, ⟨7, _⟩ => ⟨S1x1x2048x1024, .bf16⟩
  | .local _ .vmem, ⟨8, _⟩ => ⟨S1x1x2048x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg1
  let c0_i32_6 : BitVec 32 := 0#32
  let v20 : BitVec 32 := Scalar.addi v19 c0_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg1
  let c1_i32_6 : BitVec 32 := 1#32
  let v20 : BitVec 32 := Scalar.addi v19 c1_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x2048x1024 : Shape := ⟨3, ![2, 2048, 1024]⟩
abbrev S8x1024x1536 : Shape := ⟨3, ![8, 1024, 1536]⟩
abbrev S8x128 : Shape := ⟨2, ![8, 128]⟩
abbrev S1024x8x1536 : Shape := ⟨3, ![1024, 8, 1536]⟩
abbrev S1024x12288 : Shape := ⟨2, ![1024, 12288]⟩
abbrev S2x2048x12288 : Shape := ⟨3, ![2, 2048, 12288]⟩
abbrev S2x2048x12x1024 : Shape := ⟨4, ![2, 2048, 12, 1024]⟩
abbrev S12x2x2048x1024 : Shape := ⟨4, ![12, 2, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1536, .bf16⟩
  | .hbm, ⟨2, _⟩ => ⟨S8x128, .f32⟩
  | .hbm, ⟨3, _⟩ => ⟨S2x2048x1024, .f32⟩
  | .hbm, ⟨4, _⟩ => ⟨S1024x8x1536, .bf16⟩
  | .hbm, ⟨5, _⟩ => ⟨S1024x12288, .bf16⟩
  | .hbm, ⟨6, _⟩ => ⟨S1024x12288, .f32⟩
  | .hbm, ⟨7, _⟩ => ⟨S2x2048x12288, .f32⟩
  | .hbm, ⟨8, _⟩ => ⟨S2x2048x12x1024, .f32⟩
  | .hbm, ⟨9, _⟩ => ⟨S12x2x2048x1024, .f32⟩
  | .hbm, ⟨10, _⟩ => ⟨S12x2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2x2048x1024 : Shape := ⟨3, ![2, 2048, 1024]⟩
abbrev S1x1024 : Shape := ⟨2, ![1, 1024]⟩
abbrev S2x1x1024 : Shape := ⟨3, ![2, 1, 1024]⟩
abbrev S2x1024x2048 : Shape := ⟨3, ![2, 1024, 2048]⟩
abbrev S1x512x1024 : Shape := ⟨3, ![1, 512, 1024]⟩
abbrev S1x1x1024 : Shape := ⟨3, ![1, 1, 1024]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x2048x1024, .bf16⟩
  | .hbm, ⟨5, _⟩ => ⟨S2x1024x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x1024x512, .bf16⟩
  | .local _ .vmem, ⟨10, _⟩ => ⟨S1x1024x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024x2048 : Shape := ⟨3, ![2, 1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .bf16⟩
  | .hbm, ⟨28, _⟩ => ⟨S2x1024x2048, .f32⟩
  | .hbm, ⟨29, _⟩ => ⟨S2x1024x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S2x1024x2048 : Shape := ⟨3, ![2, 1024, 2048]⟩
abbrev S1x512x1024 : Shape := ⟨3, ![1, 512, 1024]⟩
abbrev S1x1x1024 : Shape := ⟨3, ![1, 1, 1024]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S2x2048x1024, .bf16⟩
  | .hbm, ⟨9, _⟩ => ⟨S2x1024x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x1024x512, .bf16⟩
  | .local _ .vmem, ⟨17, _⟩ => ⟨S1x1024x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024x2048 : Shape := ⟨3, ![2, 1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S1024x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .bf16⟩
  | .hbm, ⟨37, _⟩ => ⟨S2x1024x2048, .f32⟩
  | .hbm, ⟨38, _⟩ => ⟨S2x1024x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel10.lean ====
abbrev S16x1024 : Shape := ⟨2, ![16, 1024]⟩
abbrev S4x1024x384 : Shape := ⟨3, ![4, 1024, 384]⟩
abbrev S4x1x384 : Shape := ⟨3, ![4, 1, 384]⟩
abbrev S4x16x384 : Shape := ⟨3, ![4, 16, 384]⟩
abbrev S1x1024x384 : Shape := ⟨3, ![1, 1024, 384]⟩
abbrev S1x1x384 : Shape := ⟨3, ![1, 1, 384]⟩
abbrev S1x16x384 : Shape := ⟨3, ![1, 16, 384]⟩
abbrev S1024x384 : Shape := ⟨2, ![1024, 384]⟩
abbrev S16x384 : Shape := ⟨2, ![16, 384]⟩
abbrev S1x384 : Shape := ⟨2, ![1, 384]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x384, .f32⟩
  | .hbm, ⟨2, _⟩ => ⟨S4x1x384, .f32⟩
  | .hbm, ⟨3, _⟩ => ⟨S4x16x384, .f32⟩
  | .local _ .vmem, ⟨0, _⟩ => ⟨S16x1024, .f32⟩
  | .local _ .vmem, ⟨1, _⟩ => ⟨S1x1024x384, .f32⟩
  | .local _ .vmem, ⟨2, _⟩ => ⟨S1x1024x384, .f32⟩
  | .local _ .vmem, ⟨3, _⟩ => ⟨S1x1x384, .f32⟩
  | .local _ .vmem, ⟨4, _⟩ => ⟨S1x1x384, .f32⟩
  | .local _ .vmem, ⟨5, _⟩ => ⟨S1x16x384, .f32⟩
  | .local _ .vmem, ⟨6, _⟩ => ⟨S1x16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S16x1024 : Shape := ⟨2, ![16, 1024]⟩
abbrev S4x1024x384 : Shape := ⟨3, ![4, 1024, 384]⟩
abbrev S4x1x384 : Shape := ⟨3, ![4, 1, 384]⟩
abbrev S_ : Shape := ⟨0, ![]⟩
abbrev S4x384x16 : Shape := ⟨3, ![4, 384, 16]⟩
abbrev S4x16x384 : Shape := ⟨3, ![4, 16, 384]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x384, .f32⟩
  | .hbm, ⟨2, _⟩ => ⟨S4x1x384, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x384x16, .f32⟩
  | .hbm, ⟨13, _⟩ => ⟨S4x16x384, .f32⟩
  | .hbm, ⟨14, _⟩ => ⟨S4x16x384, .f32⟩
  | .hbm, ⟨15, _⟩ => ⟨S4x16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel11.lean ====
abbrev S16x1024 : Shape := ⟨2, ![16, 1024]⟩
abbrev S4x16x3072 : Shape := ⟨3, ![4, 16, 3072]⟩
abbrev S4x16x384 : Shape := ⟨3, ![4, 16, 384]⟩
abbrev S4x1024x384 : Shape := ⟨3, ![4, 1024, 384]⟩
abbrev S4x1x3072 : Shape := ⟨3, ![4, 1, 3072]⟩
abbrev S1x16x3072 : Shape := ⟨3, ![1, 16, 3072]⟩
abbrev S1x16x384 : Shape := ⟨3, ![1, 16, 384]⟩
abbrev S1x1024x384 : Shape := ⟨3, ![1, 1024, 384]⟩
abbrev S1x1x3072 : Shape := ⟨3, ![1, 1, 3072]⟩
abbrev S16x384 : Shape := ⟨2, ![16, 384]⟩
abbrev S1024x384 : Shape := ⟨2, ![1024, 384]⟩
abbrev S16x3072 : Shape := ⟨2, ![16, 3072]⟩
abbrev S3072 : Shape := ⟨1, ![3072]⟩
abbrev S1x3072 : Shape := ⟨2, ![1, 3072]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S4x16x3072, .f32⟩
  | .hbm, ⟨2, _⟩ => ⟨S4x16x384, .f32⟩
  | .hbm, ⟨3, _⟩ => ⟨S4x1024x384, .f32⟩
  | .hbm, ⟨4, _⟩ => ⟨S4x1x3072, .f32⟩
  | .local _ .vmem, ⟨0, _⟩ => ⟨S16x1024, .f32⟩
  | .local _ .vmem, ⟨1, _⟩ => ⟨S1x16x3072, .f32⟩
  | .local _ .vmem, ⟨2, _⟩ => ⟨S1x16x3072, .f32⟩
  | .local _ .vmem, ⟨3, _⟩ => ⟨S1x16x384, .f32⟩
  | .local _ .vmem, ⟨4, _⟩ => ⟨S1x16x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1x3072, .f32⟩
  | .local _ .vmem, ⟨8, _⟩ => ⟨S1x1x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16x1024 : Shape := ⟨2, ![16, 1024]⟩
abbrev S4x16x3072 : Shape := ⟨3, ![4, 16, 3072]⟩
abbrev S4x16x384 : Shape := ⟨3, ![4, 16, 384]⟩
abbrev S_ : Shape := ⟨0, ![]⟩
abbrev S4x1024x384 : Shape := ⟨3, ![4, 1024, 384]⟩
abbrev S4x1x3072 : Shape := ⟨3, ![4, 1, 3072]⟩
abbrev S4x384x16 : Shape := ⟨3, ![4, 384, 16]⟩
abbrev S4x3072 : Shape := ⟨2, ![4, 3072]⟩
abbrev S4x384x1024 : Shape := ⟨3, ![4, 384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x3072, .f32⟩
  | .hbm, ⟨2, _⟩ => ⟨S4x16x384, .f32⟩
  | .hbm, ⟨3, _⟩ => ⟨S_, .f32⟩
  | .hbm, ⟨4, _⟩ => ⟨S4x1024x384, .f32⟩
  | .hbm, ⟨5, _⟩ => ⟨S_, .f32⟩
  | .hbm, ⟨6, _⟩ => ⟨S4x1x3072, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S4x384x16, .f32⟩
  | .hbm, ⟨17, _⟩ => ⟨S4x16x384, .f32⟩
  | .hbm, ⟨18, _⟩ => ⟨S4x16x3072, .f32⟩
  | .hbm, ⟨19, _⟩ => ⟨S_, .f32⟩
  | .hbm, ⟨20, _⟩ => ⟨S4x3072, .f32⟩
  | .hbm, ⟨21, _⟩ => ⟨S4x1x3072, .f32⟩
  | .hbm, ⟨22, _⟩ => ⟨S4x384x16, .f32⟩
  | .hbm, ⟨23, _⟩ => ⟨S4x384x1024, .f32⟩
  | .hbm, ⟨24, _⟩ => ⟨S4x1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Kernel12.lean ====
abbrev S1x1x4096x384 : Shape := ⟨4, ![1, 1, 4096, 384]⟩
abbrev S4096x384 : Shape := ⟨2, ![4096, 384]⟩
abbrev S1x1x512x384 : Shape := ⟨4, ![1, 1, 512, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .local _ .vmem, ⟨0, _⟩ => ⟨S1x1x512x384, .f32⟩
  | .local _ .vmem, ⟨1, _⟩ => ⟨S1x1x512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S1x1x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S1x1x4096x384 : Shape := ⟨4, ![1, 1, 4096, 384]⟩
abbrev S4096x384 : Shape := ⟨2, ![4096, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1x4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S_, .f32⟩
  | .hbm, ⟨6, _⟩ => ⟨S4096x384, .f32⟩
  | .hbm, ⟨7, _⟩ => ⟨S4096x384, .f32⟩
  | .hbm, ⟨8, _⟩ => ⟨S_, .f32⟩
  | .hbm, ⟨9, _⟩ => ⟨S4096x384, .f32⟩
  | .hbm, ⟨10, _⟩ => ⟨S4096x384, .f32⟩
  | .hbm, ⟨11, _⟩ => ⟨S4096x384, .f32⟩
  | .hbm, ⟨12, _⟩ => ⟨S_, .f32⟩
  | .hbm, ⟨13, _⟩ => ⟨S4096x384, .f32⟩
  | .hbm, ⟨14, _⟩ => ⟨S4096x384, .f32⟩
  | .hbm, ⟨15, _⟩ => ⟨S4096x384, .f32⟩
  | .hbm, ⟨16, _⟩ => ⟨S_, .f32⟩
  | .hbm, ⟨17, _⟩ => ⟨S4096x384, .f32⟩
  | .hbm, ⟨18, _⟩ => ⟨S4096x384, .f32⟩
  | .hbm, ⟨19, _⟩ => ⟨S4096x384, .f32⟩
  | .hbm, ⟨20, _⟩ => ⟨S_, .f32⟩
  | .hbm, ⟨21, _⟩ => ⟨S4096x384, .f32⟩
  | .hbm, ⟨22, _⟩ => ⟨S4096x384, .f32⟩
  | .hbm, ⟨23, _⟩ => ⟨S_, .f32⟩
  | .hbm, ⟨24, _⟩ => ⟨S4096x384, .f32⟩
  | .hbm, ⟨25, _⟩ => ⟨S4096x384, .f32⟩
  | .hbm, ⟨26, _⟩ => ⟨S4096x384, .f32⟩
  | .hbm, ⟨27, _⟩ => ⟨S_, .f32⟩
  | .hbm, ⟨28, _⟩ => ⟨S4096x384, .f32⟩
  | .hbm, ⟨29, _⟩ => ⟨S4096x384, .f32⟩
  | .hbm, ⟨30, _⟩ => ⟨S4096x384, .f32⟩
  | .hbm, ⟨31, _⟩ => ⟨S_, .f32⟩
  | .hbm, ⟨32, _⟩ => ⟨S4096x384, .f32⟩
  | .hbm, ⟨33, _⟩ => ⟨S4096x384, .f32⟩
  | .hbm, ⟨34, _⟩ => ⟨S4096x384, .f32⟩
  | .hbm, ⟨35, _⟩ => ⟨S_, .f32⟩
  | .hbm, ⟨36, _⟩ => ⟨S4096x384, .f32⟩
  | .hbm, ⟨37, _⟩ => ⟨S4096x384, .f32⟩
  | _, _ => ⟨S1x1x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel13.lean ====
abbrev S1x1x4x3072 : Shape := ⟨4, ![1, 1, 4, 3072]⟩
abbrev S4x3072 : Shape := ⟨2, ![4, 3072]⟩

abbrev nBuf : Space → Nat
  | .hbm => 8
  | .vmem => 8
  | .smem => 0
  | _ => 0

abbrev bufTy : (tb : Table) → Fin (tcTables nBuf tb) → BufTy
  | .hbm, ⟨0, _⟩ => ⟨S1x1x4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .hbm, ⟨7, _⟩ => ⟨S4x3072, .f32⟩
  | .local _ .vmem, ⟨0, _⟩ => ⟨S1x1x4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | .local _ .vmem, ⟨7, _⟩ => ⟨S4x3072, .f32⟩
  | _, _ => ⟨S1x1x4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x1x4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference13Ideal.lean ====
abbrev S1x1x4x3072 : Shape := ⟨4, ![1, 1, 4, 3072]⟩
abbrev S4x3072 : Shape := ⟨2, ![4, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1x4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S_, .f32⟩
  | .hbm, ⟨6, _⟩ => ⟨S4x3072, .f32⟩
  | .hbm, ⟨7, _⟩ => ⟨S4x3072, .f32⟩
  | .hbm, ⟨8, _⟩ => ⟨S_, .f32⟩
  | .hbm, ⟨9, _⟩ => ⟨S4x3072, .f32⟩
  | .hbm, ⟨10, _⟩ => ⟨S4x3072, .f32⟩
  | .hbm, ⟨11, _⟩ => ⟨S4x3072, .f32⟩
  | .hbm, ⟨12, _⟩ => ⟨S_, .f32⟩
  | .hbm, ⟨13, _⟩ => ⟨S4x3072, .f32⟩
  | .hbm, ⟨14, _⟩ => ⟨S4x3072, .f32⟩
  | .hbm, ⟨15, _⟩ => ⟨S4x3072, .f32⟩
  | .hbm, ⟨16, _⟩ => ⟨S_, .f32⟩
  | .hbm, ⟨17, _⟩ => ⟨S4x3072, .f32⟩
  | .hbm, ⟨18, _⟩ => ⟨S4x3072, .f32⟩
  | .hbm, ⟨19, _⟩ => ⟨S4x3072, .f32⟩
  | .hbm, ⟨20, _⟩ => ⟨S_, .f32⟩
  | .hbm, ⟨21, _⟩ => ⟨S4x3072, .f32⟩
  | .hbm, ⟨22, _⟩ => ⟨S4x3072, .f32⟩
  | .hbm, ⟨23, _⟩ => ⟨S_, .f32⟩
  | .hbm, ⟨24, _⟩ => ⟨S4x3072, .f32⟩
  | .hbm, ⟨25, _⟩ => ⟨S4x3072, .f32⟩
  | .hbm, ⟨26, _⟩ => ⟨S4x3072, .f32⟩
  | .hbm, ⟨27, _⟩ => ⟨S_, .f32⟩
  | .hbm, ⟨28, _⟩ => ⟨S4x3072, .f32⟩
  | .hbm, ⟨29, _⟩ => ⟨S4x3072, .f32⟩
  | .hbm, ⟨30, _⟩ => ⟨S4x3072, .f32⟩
  | .hbm, ⟨31, _⟩ => ⟨S_, .f32⟩
  | .hbm, ⟨32, _⟩ => ⟨S4x3072, .f32⟩
  | .hbm, ⟨33, _⟩ => ⟨S4x3072, .f32⟩
  | .hbm, ⟨34, _⟩ => ⟨S4x3072, .f32⟩
  | .hbm, ⟨35, _⟩ => ⟨S_, .f32⟩
  | .hbm, ⟨36, _⟩ => ⟨S4x3072, .f32⟩
  | .hbm, ⟨37, _⟩ => ⟨S4x3072, .f32⟩
  | _, _ => ⟨S1x1x4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel14.lean ====
abbrev S8x1x5x1024 : Shape := ⟨4, ![8, 1, 5, 1024]⟩
abbrev S5x1024 : Shape := ⟨2, ![5, 1024]⟩
abbrev S1x1x5x1024 : Shape := ⟨4, ![1, 1, 5, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x5x1024, .f32⟩
  | .hbm, ⟨1, _⟩ => ⟨S5x1024, .f32⟩
  | .hbm, ⟨2, _⟩ => ⟨S5x1024, .f32⟩
  | .hbm, ⟨3, _⟩ => ⟨S5x1024, .f32⟩
  | .hbm, ⟨4, _⟩ => ⟨S5x1024, .f32⟩
  | .hbm, ⟨5, _⟩ => ⟨S5x1024, .f32⟩
  | .hbm, ⟨6, _⟩ => ⟨S5x1024, .f32⟩
  | .hbm, ⟨7, _⟩ => ⟨S5x1024, .f32⟩
  | .local _ .vmem, ⟨0, _⟩ => ⟨S8x1x5x1024, .f32⟩
  | .local _ .vmem, ⟨1, _⟩ => ⟨S5x1024, .f32⟩
  | .local _ .vmem, ⟨2, _⟩ => ⟨S5x1024, .f32⟩
  | .local _ .vmem, ⟨3, _⟩ => ⟨S5x1024, .f32⟩
  | .local _ .vmem, ⟨4, _⟩ => ⟨S5x1024, .f32⟩
  | .local _ .vmem, ⟨5, _⟩ => ⟨S5x1024, .f32⟩
  | .local _ .vmem, ⟨6, _⟩ => ⟨S5x1024, .f32⟩
  | .local _ .vmem, ⟨7, _⟩ => ⟨S5x1024, .f32⟩
  | _, _ => ⟨S8x1x5x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x1x5x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S5x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S5x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S5x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S5x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x1x5x1024 : Shape := ⟨4, ![8, 1, 5, 1024]⟩
abbrev S5x1024 : Shape := ⟨2, ![5, 1024]⟩
abbrev S8x5x1024 : Shape := ⟨3, ![8, 5, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1x5x1024, .f32⟩
  | .hbm, ⟨1, _⟩ => ⟨S5x1024, .f32⟩
  | .hbm, ⟨2, _⟩ => ⟨S5x1024, .f32⟩
  | .hbm, ⟨3, _⟩ => ⟨S5x1024, .f32⟩
  | .hbm, ⟨4, _⟩ => ⟨S8x5x1024, .f32⟩
  | .hbm, ⟨5, _⟩ => ⟨S_, .f32⟩
  | .hbm, ⟨6, _⟩ => ⟨S5x1024, .f32⟩
  | .hbm, ⟨7, _⟩ => ⟨S_, .f32⟩
  | .hbm, ⟨8, _⟩ => ⟨S5x1024, .f32⟩
  | .hbm, ⟨9, _⟩ => ⟨S5x1024, .f32⟩
  | .hbm, ⟨10, _⟩ => ⟨S_, .f32⟩
  | .hbm, ⟨11, _⟩ => ⟨S5x1024, .f32⟩
  | .hbm, ⟨12, _⟩ => ⟨S5x1024, .f32⟩
  | .hbm, ⟨13, _⟩ => ⟨S5x1024, .f32⟩
  | .hbm, ⟨14, _⟩ => ⟨S_, .f32⟩
  | .hbm, ⟨15, _⟩ => ⟨S5x1024, .f32⟩
  | .hbm, ⟨16, _⟩ => ⟨S5x1024, .f32⟩
  | .hbm, ⟨17, _⟩ => ⟨S5x1024, .f32⟩
  | .hbm, ⟨18, _⟩ => ⟨S_, .f32⟩
  | .hbm, ⟨19, _⟩ => ⟨S5x1024, .f32⟩
  | .hbm, ⟨20, _⟩ => ⟨S5x1024, .f32⟩
  | .hbm, ⟨21, _⟩ => ⟨S5x1024, .f32⟩
  | .hbm, ⟨22, _⟩ => ⟨S_, .f32⟩
  | .hbm, ⟨23, _⟩ => ⟨S5x1024, .f32⟩
  | .hbm, ⟨24, _⟩ => ⟨S5x1024, .f32⟩
  | .hbm, ⟨25, _⟩ => ⟨S_, .f32⟩
  | .hbm, ⟨26, _⟩ => ⟨S5x1024, .f32⟩
  | .hbm, ⟨27, _⟩ => ⟨S5x1024, .f32⟩
  | .hbm, ⟨28, _⟩ => ⟨S5x1024, .f32⟩
  | .hbm, ⟨29, _⟩ => ⟨S_, .f32⟩
  | .hbm, ⟨30, _⟩ => ⟨S5x1024, .f32⟩
  | .hbm, ⟨31, _⟩ => ⟨S5x1024, .f32⟩
  | .hbm, ⟨32, _⟩ => ⟨S5x1024, .f32⟩
  | .hbm, ⟨33, _⟩ => ⟨S_, .f32⟩
  | .hbm, ⟨34, _⟩ => ⟨S5x1024, .f32⟩
  | .hbm, ⟨35, _⟩ => ⟨S5x1024, .f32⟩
  | .hbm, ⟨36, _⟩ => ⟨S5x1024, .f32⟩
  | .hbm, ⟨37, _⟩ => ⟨S_, .f32⟩
  | .hbm, ⟨38, _⟩ => ⟨S5x1024, .f32⟩
  | .hbm, ⟨39, _⟩ => ⟨S5x1024, .f32⟩
  | _, _ => ⟨S8x1x5x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x1x28x128 : Shape := ⟨4, ![8, 1, 28, 128]⟩
abbrev S28x128 : Shape := ⟨2, ![28, 128]⟩
abbrev S1x1x28x128 : Shape := ⟨4, ![1, 1, 28, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1x28x128, .f32⟩
  | .hbm, ⟨1, _⟩ => ⟨S28x128, .f32⟩
  | .hbm, ⟨2, _⟩ => ⟨S28x128, .f32⟩
  | .hbm, ⟨3, _⟩ => ⟨S28x128, .f32⟩
  | .hbm, ⟨4, _⟩ => ⟨S28x128, .f32⟩
  | .hbm, ⟨5, _⟩ => ⟨S28x128, .f32⟩
  | .hbm, ⟨6, _⟩ => ⟨S28x128, .f32⟩
  | .hbm, ⟨7, _⟩ => ⟨S28x128, .f32⟩
  | .local _ .vmem, ⟨0, _⟩ => ⟨S8x1x28x128, .f32⟩
  | .local _ .vmem, ⟨1, _⟩ => ⟨S28x128, .f32⟩
  | .local _ .vmem, ⟨2, _⟩ => ⟨S28x128, .f32⟩
  | .local _ .vmem, ⟨3, _⟩ => ⟨S28x128, .f32⟩
  | .local _ .vmem, ⟨4, _⟩ => ⟨S28x128, .f32⟩
  | .local _ .vmem, ⟨5, _⟩ => ⟨S28x128, .f32⟩
  | .local _ .vmem, ⟨6, _⟩ => ⟨S28x128, .f32⟩
  | .local _ .vmem, ⟨7, _⟩ => ⟨S28x128, .f32⟩
  | _, _ => ⟨S8x1x28x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x1x28x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S28x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S28x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S28x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S28x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S28x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S28x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S8x1x28x128 : Shape := ⟨4, ![8, 1, 28, 128]⟩
abbrev S28x128 : Shape := ⟨2, ![28, 128]⟩
abbrev S8x28x128 : Shape := ⟨3, ![8, 28, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1x28x128, .f32⟩
  | .hbm, ⟨1, _⟩ => ⟨S28x128, .f32⟩
  | .hbm, ⟨2, _⟩ => ⟨S28x128, .f32⟩
  | .hbm, ⟨3, _⟩ => ⟨S28x128, .f32⟩
  | .hbm, ⟨4, _⟩ => ⟨S8x28x128, .f32⟩
  | .hbm, ⟨5, _⟩ => ⟨S_, .f32⟩
  | .hbm, ⟨6, _⟩ => ⟨S28x128, .f32⟩
  | .hbm, ⟨7, _⟩ => ⟨S_, .f32⟩
  | .hbm, ⟨8, _⟩ => ⟨S28x128, .f32⟩
  | .hbm, ⟨9, _⟩ => ⟨S28x128, .f32⟩
  | .hbm, ⟨10, _⟩ => ⟨S_, .f32⟩
  | .hbm, ⟨11, _⟩ => ⟨S28x128, .f32⟩
  | .hbm, ⟨12, _⟩ => ⟨S28x128, .f32⟩
  | .hbm, ⟨13, _⟩ => ⟨S28x128, .f32⟩
  | .hbm, ⟨14, _⟩ => ⟨S_, .f32⟩
  | .hbm, ⟨15, _⟩ => ⟨S28x128, .f32⟩
  | .hbm, ⟨16, _⟩ => ⟨S28x128, .f32⟩
  | .hbm, ⟨17, _⟩ => ⟨S28x128, .f32⟩
  | .hbm, ⟨18, _⟩ => ⟨S_, .f32⟩
  | .hbm, ⟨19, _⟩ => ⟨S28x128, .f32⟩
  | .hbm, ⟨20, _⟩ => ⟨S28x128, .f32⟩
  | .hbm, ⟨21, _⟩ => ⟨S28x128, .f32⟩
  | .hbm, ⟨22, _⟩ => ⟨S_, .f32⟩
  | .hbm, ⟨23, _⟩ => ⟨S28x128, .f32⟩
  | .hbm, ⟨24, _⟩ => ⟨S28x128, .f32⟩
  | .hbm, ⟨25, _⟩ => ⟨S_, .f32⟩
  | .hbm, ⟨26, _⟩ => ⟨S28x128, .f32⟩
  | .hbm, ⟨27, _⟩ => ⟨S28x128, .f32⟩
  | .hbm, ⟨28, _⟩ => ⟨S28x128, .f32⟩
  | .hbm, ⟨29, _⟩ => ⟨S_, .f32⟩
  | .hbm, ⟨30, _⟩ => ⟨S28x128, .f32⟩
  | .hbm, ⟨31, _⟩ => ⟨S28x128, .f32⟩
  | .hbm, ⟨32, _⟩ => ⟨S28x128, .f32⟩
  | .hbm, ⟨33, _⟩ => ⟨S_, .f32⟩
  | .hbm, ⟨34, _⟩ => ⟨S28x128, .f32⟩
  | .hbm, ⟨35, _⟩ => ⟨S28x128, .f32⟩
  | .hbm, ⟨36, _⟩ => ⟨S28x128, .f32⟩
  | .hbm, ⟨37, _⟩ => ⟨S_, .f32⟩
  | .hbm, ⟨38, _⟩ => ⟨S28x128, .f32⟩
  | .hbm, ⟨39, _⟩ => ⟨S28x128, .f32⟩
  | _, _ => ⟨S8x1x28x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x3x1024x512 : Shape := ⟨4, ![8, 3, 1024, 512]⟩
abbrev S4x1024x1536 : Shape := ⟨3, ![4, 1024, 1536]⟩
abbrev S8x1x512x512 : Shape := ⟨4, ![8, 1, 512, 512]⟩
abbrev S1x512x512 : Shape := ⟨3, ![1, 512, 512]⟩
abbrev S1x1x512x512 : Shape := ⟨4, ![1, 1, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x3x1024x512, .bf16⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S4x1024x1536, .f32⟩
  | .local _ .vmem, ⟨0, _⟩ => ⟨S8x1x512x512, .bf16⟩
  | .local _ .vmem, ⟨1, _⟩ => ⟨S8x1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S8x3x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S8x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8x3x1024x512 : Shape := ⟨4, ![8, 3, 1024, 512]⟩
abbrev S4x1024x1536 : Shape := ⟨3, ![4, 1024, 1536]⟩
abbrev S_ : Shape := ⟨0, ![]⟩
abbrev S3x1024x512 : Shape := ⟨3, ![3, 1024, 512]⟩
abbrev S1024x3x512 : Shape := ⟨3, ![1024, 3, 512]⟩
abbrev S1024x1536 : Shape := ⟨2, ![1024, 1536]⟩
abbrev S1x1024x1536 : Shape := ⟨3, ![1, 1024, 1536]⟩
abbrev S3x1024x1536 : Shape := ⟨3, ![3, 1024, 1536]⟩

abbrev nBuf : Space → Nat
  | .hbm => 64
  | .vmem => 0
  | .smem => 0
  | _ => 0

abbrev bufTy : (tb : Table) → Fin (tcTables nBuf tb) → BufTy
  | .hbm, ⟨0, _⟩ => ⟨S8x3x1024x512, .bf16⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S8x3x1024x512, .f32⟩
  | .hbm, ⟨9, _⟩ => ⟨S_, .f32⟩
  | .hbm, ⟨10, _⟩ => ⟨S3x1024x512, .f32⟩
  | .hbm, ⟨11, _⟩ => ⟨S1024x3x512, .f32⟩
  | .hbm, ⟨12, _⟩ => ⟨S1024x1536, .f32⟩
  | .hbm, ⟨13, _⟩ => ⟨S1x1024x1536, .f32⟩
  | .hbm, ⟨14, _⟩ => ⟨S1024x1536, .f32⟩
  | .hbm, ⟨15, _⟩ => ⟨S1x1024x1536, .f32⟩
  | .hbm, ⟨16, _⟩ => ⟨S1024x1536, .f32⟩
  | .hbm, ⟨17, _⟩ => ⟨S1x1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | .hbm, ⟨40, _⟩ => ⟨S1024x1536, .f32⟩
  | .hbm, ⟨41, _⟩ => ⟨S_, .f32⟩
  | .hbm, ⟨42, _⟩ => ⟨S1024x1536, .f32⟩
  | .hbm, ⟨43, _⟩ => ⟨S1024x1536, .f32⟩
  | .hbm, ⟨44, _⟩ => ⟨S1024x1536, .f32⟩
  | .hbm, ⟨45, _⟩ => ⟨S_, .f32⟩
  | .hbm, ⟨46, _⟩ => ⟨S1024x1536, .f32⟩
  | .hbm, ⟨47, _⟩ => ⟨S1024x1536, .f32⟩
  | .hbm, ⟨48, _⟩ => ⟨S1024x1536, .f32⟩
  | .hbm, ⟨49, _⟩ => ⟨S_, .f32⟩
  | .hbm, ⟨50, _⟩ => ⟨S1024x1536, .f32⟩
  | .hbm, ⟨51, _⟩ => ⟨S1024x1536, .f32⟩
  | .hbm, ⟨52, _⟩ => ⟨S1x1024x1536, .f32⟩
  | .hbm, ⟨53, _⟩ => ⟨S3x1024x1536, .f32⟩
  | .hbm, ⟨54, _⟩ => ⟨S4x1024x1536, .f32⟩
  | .hbm, ⟨55, _⟩ => ⟨S1x1024x1536, .f32⟩
  | .hbm, ⟨56, _⟩ => ⟨S3x1024x1536, .f32⟩
  | .hbm, ⟨57, _⟩ => ⟨S4x1024x1536, .f32⟩
  | .hbm, ⟨58, _⟩ => ⟨S1x1024x1536, .f32⟩
  | .hbm, ⟨59, _⟩ => ⟨S3x1024x1536, .f32⟩
  | .hbm, ⟨60, _⟩ => ⟨S4x1024x1536, .f32⟩
  | .hbm, ⟨61, _⟩ => ⟨S1x1024x1536, .f32⟩
  | .hbm, ⟨62, _⟩ => ⟨S3x1024x1536, .f32⟩
  | .hbm, ⟨63, _⟩ => ⟨S4x1024x1536, .f32⟩
  | _, _ => ⟨S8x3x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel17.lean ====
abbrev S8x1x128x1024 : Shape := ⟨4, ![8, 1, 128, 1024]⟩
abbrev S4x128x1024 : Shape := ⟨3, ![4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x1x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S8x1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference17Ideal.lean ====
abbrev S8x1x128x1024 : Shape := ⟨4, ![8, 1, 128, 1024]⟩
abbrev S4x128x1024 : Shape := ⟨3, ![4, 128, 1024]⟩
abbrev S1x128x1024 : Shape := ⟨3, ![1, 128, 1024]⟩
abbrev S128x1024 : Shape := ⟨2, ![128, 1024]⟩
abbrev S8x128x1024 : Shape := ⟨3, ![8, 128, 1024]⟩
abbrev S_ : Shape := ⟨0, ![]⟩
abbrev S3x128x1024 : Shape := ⟨3, ![3, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x1x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S1x128x1024, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S3x128x1024, .f32⟩
  | .hbm, ⟨52, _⟩ => ⟨S4x128x1024, .f32⟩
  | .hbm, ⟨53, _⟩ => ⟨S1x128x1024, .f32⟩
  | .hbm, ⟨54, _⟩ => ⟨S3x128x1024, .f32⟩
  | .hbm, ⟨55, _⟩ => ⟨S4x128x1024, .f32⟩
  | .hbm, ⟨56, _⟩ => ⟨S1x128x1024, .f32⟩
  | .hbm, ⟨57, _⟩ => ⟨S3x128x1024, .f32⟩
  | .hbm, ⟨58, _⟩ => ⟨S4x128x1024, .f32⟩
  | .hbm, ⟨59, _⟩ => ⟨S1x128x1024, .f32⟩
  | .hbm, ⟨60, _⟩ => ⟨S3x128x1024, .f32⟩
  | .hbm, ⟨61, _⟩ => ⟨S4x128x1024, .f32⟩
  | _, _ => ⟨S8x1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel18.lean ====
abbrev S8x1x2560x128 : Shape := ⟨4, ![8, 1, 2560, 128]⟩
abbrev S4x2560x128 : Shape := ⟨3, ![4, 2560, 128]⟩
abbrev S8x1x512x128 : Shape := ⟨4, ![8, 1, 512, 128]⟩
abbrev S1x512x128 : Shape := ⟨3, ![1, 512, 128]⟩
abbrev S1x1x512x128 : Shape := ⟨4, ![1, 1, 512, 128]⟩
abbrev S512x128 : Shape := ⟨2, ![512, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x1x2560x128, .f32⟩
  | .hbm, ⟨1, _⟩ => ⟨S4x2560x128, .f32⟩
  | .hbm, ⟨2, _⟩ => ⟨S4x2560x128, .f32⟩
  | .hbm, ⟨3, _⟩ => ⟨S4x2560x128, .f32⟩
  | .hbm, ⟨4, _⟩ => ⟨S4x2560x128, .f32⟩
  | .hbm, ⟨5, _⟩ => ⟨S4x2560x128, .f32⟩
  | .hbm, ⟨6, _⟩ => ⟨S4x2560x128, .f32⟩
  | .hbm, ⟨7, _⟩ => ⟨S4x2560x128, .f32⟩
  | .hbm, ⟨8, _⟩ => ⟨S4x2560x128, .f32⟩
  | .hbm, ⟨9, _⟩ => ⟨S4x2560x128, .f32⟩
  | .hbm, ⟨10, _⟩ => ⟨S4x2560x128, .f32⟩
  | .hbm, ⟨11, _⟩ => ⟨S4x2560x128, .f32⟩
  | .local _ .vmem, ⟨0, _⟩ => ⟨S8x1x512x128, .f32⟩
  | .local _ .vmem, ⟨1, _⟩ => ⟨S8x1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S8x1x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S8x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x1x2560x128 : Shape := ⟨4, ![8, 1, 2560, 128]⟩
abbrev S4x2560x128 : Shape := ⟨3, ![4, 2560, 128]⟩
abbrev S1x2560x128 : Shape := ⟨3, ![1, 2560, 128]⟩
abbrev S2560x128 : Shape := ⟨2, ![2560, 128]⟩
abbrev S8x2560x128 : Shape := ⟨3, ![8, 2560, 128]⟩
abbrev S_ : Shape := ⟨0, ![]⟩
abbrev S3x2560x128 : Shape := ⟨3, ![3, 2560, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x1x2560x128, .f32⟩
  | .hbm, ⟨1, _⟩ => ⟨S4x2560x128, .f32⟩
  | .hbm, ⟨2, _⟩ => ⟨S4x2560x128, .f32⟩
  | .hbm, ⟨3, _⟩ => ⟨S4x2560x128, .f32⟩
  | .hbm, ⟨4, _⟩ => ⟨S4x2560x128, .f32⟩
  | .hbm, ⟨5, _⟩ => ⟨S4x2560x128, .f32⟩
  | .hbm, ⟨6, _⟩ => ⟨S4x2560x128, .f32⟩
  | .hbm, ⟨7, _⟩ => ⟨S4x2560x128, .f32⟩
  | .hbm, ⟨8, _⟩ => ⟨S1x2560x128, .f32⟩
  | .hbm, ⟨9, _⟩ => ⟨S2560x128, .f32⟩
  | .hbm, ⟨10, _⟩ => ⟨S8x2560x128, .f32⟩
  | .hbm, ⟨11, _⟩ => ⟨S_, .f32⟩
  | .hbm, ⟨12, _⟩ => ⟨S2560x128, .f32⟩
  | .hbm, ⟨13, _⟩ => ⟨S1x2560x128, .f32⟩
  | .hbm, ⟨14, _⟩ => ⟨S2560x128, .f32⟩
  | .hbm, ⟨15, _⟩ => ⟨S1x2560x128, .f32⟩
  | .hbm, ⟨16, _⟩ => ⟨S2560x128, .f32⟩
  | .hbm, ⟨17, _⟩ => ⟨S_, .f32⟩
  | .hbm, ⟨18, _⟩ => ⟨S2560x128, .f32⟩
  | .hbm, ⟨19, _⟩ => ⟨S2560x128, .f32⟩
  | .hbm, ⟨20, _⟩ => ⟨S_, .f32⟩
  | .hbm, ⟨21, _⟩ => ⟨S2560x128, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S_, .f32⟩
  | .hbm, ⟨36, _⟩ => ⟨S2560x128, .f32⟩
  | .hbm, ⟨37, _⟩ => ⟨S2560x128, .f32⟩
  | .hbm, ⟨38, _⟩ => ⟨S2560x128, .f32⟩
  | .hbm, ⟨39, _⟩ => ⟨S_, .f32⟩
  | .hbm, ⟨40, _⟩ => ⟨S2560x128, .f32⟩
  | .hbm, ⟨41, _⟩ => ⟨S2560x128, .f32⟩
  | .hbm, ⟨42, _⟩ => ⟨S2560x128, .f32⟩
  | .hbm, ⟨43, _⟩ => ⟨S_, .f32⟩
  | .hbm, ⟨44, _⟩ => ⟨S2560x128, .f32⟩
  | .hbm, ⟨45, _⟩ => ⟨S2560x128, .f32⟩
  | .hbm, ⟨46, _⟩ => ⟨S2560x128, .f32⟩
  | .hbm, ⟨47, _⟩ => ⟨S_, .f32⟩
  | .hbm, ⟨48, _⟩ => ⟨S2560x128, .f32⟩
  | .hbm, ⟨49, _⟩ => ⟨S2560x128, .f32⟩
  | .hbm, ⟨50, _⟩ => ⟨S1x2560x128, .f32⟩
  | .hbm, ⟨51, _⟩ => ⟨S3x2560x128, .f32⟩
  | .hbm, ⟨52, _⟩ => ⟨S4x2560x128, .f32⟩
  | .hbm, ⟨53, _⟩ => ⟨S1x2560x128, .f32⟩
  | .hbm, ⟨54, _⟩ => ⟨S3x2560x128, .f32⟩
  | .hbm, ⟨55, _⟩ => ⟨S4x2560x128, .f32⟩
  | .hbm, ⟨56, _⟩ => ⟨S1x2560x128, .f32⟩
  | .hbm, ⟨57, _⟩ => ⟨S3x2560x128, .f32⟩
  | .hbm, ⟨58, _⟩ => ⟨S4x2560x128, .f32⟩
  | .hbm, ⟨59, _⟩ => ⟨S1x2560x128, .f32⟩
  | .hbm, ⟨60, _⟩ => ⟨S3x2560x128, .f32⟩
  | .hbm, ⟨61, _⟩ => ⟨S4x2560x128, .f32⟩
  | _, _ => ⟨S8x1x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel19.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S2x1x1024, .f32⟩
  | .hbm, ⟨7, _⟩ => ⟨S2x1x1024, .f32⟩
  | .hbm, ⟨8, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference19Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x1024, .f32⟩
  | .hbm, ⟨37, _⟩ => ⟨S2x1x1024, .f32⟩
  | .hbm, ⟨38, _⟩ => ⟨S2x2048x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2x2048x1024, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S2x2048x1024, .f32⟩
  | .hbm, ⟨58, _⟩ => ⟨S2x2048x1024, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel20.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S1x1024, .f32⟩
  | .hbm, ⟨5, _⟩ => ⟨S2x2048x1024, .f32⟩
  | .hbm, ⟨6, _⟩ => ⟨S1x1024, .f32⟩
  | .hbm, ⟨7, _⟩ => ⟨S2x2048x1024, .f32⟩
  | .hbm, ⟨8, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference20Ideal.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024x1024, .bf16⟩
  | .hbm, ⟨3, _⟩ => ⟨S2x1x1024, .f32⟩
  | .hbm, ⟨4, _⟩ => ⟨S1x1024, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S_, .f32⟩
  | .hbm, ⟨40, _⟩ => ⟨S2x2048, .f32⟩
  | .hbm, ⟨41, _⟩ => ⟨S2x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x2048, .f32⟩
  | .hbm, ⟨50, _⟩ => ⟨S_, .f32⟩
  | .hbm, ⟨51, _⟩ => ⟨S2x2048, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S2x2048x1, .f32⟩
  | .hbm, ⟨71, _⟩ => ⟨S_, .f32⟩
  | .hbm, ⟨72, _⟩ => ⟨S2x2048x1, .f32⟩
  | .hbm, ⟨73, _⟩ => ⟨S2x2048x1, .f32⟩
  | .hbm, ⟨74, _⟩ => ⟨S_, .f32⟩
  | .hbm, ⟨75, _⟩ => ⟨S2x2048, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel.lean ====
abbrev S12x2x2048x1024 : Shape := ⟨4, ![12, 2, 2048, 1024]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1x1024 : Shape := ⟨2, ![1, 1024]⟩
abbrev S1x2x2048x1024 : Shape := ⟨4, ![1, 2, 2048, 1024]⟩
abbrev S_ : Shape := ⟨0, ![]⟩
abbrev S2x2x1024 : Shape := ⟨3, ![2, 2, 1024]⟩
abbrev S2x2050x1024 : Shape := ⟨3, ![2, 2050, 1024]⟩
abbrev S1024 : Shape := ⟨1, ![1024]⟩
abbrev S1x1x1024 : Shape := ⟨3, ![1, 1, 1024]⟩
abbrev S8x128x1 : Shape := ⟨3, ![8, 128, 1]⟩
abbrev S8x1024 : Shape := ⟨2, ![8, 1024]⟩
abbrev S12x1x2048x128 : Shape := ⟨4, ![12, 1, 2048, 128]⟩
abbrev S1x2048x128 : Shape := ⟨3, ![1, 2048, 128]⟩
abbrev S3x128 : Shape := ⟨2, ![3, 128]⟩
abbrev S1x128x128 : Shape := ⟨3, ![1, 128, 128]⟩
abbrev S4x128 : Shape := ⟨2, ![4, 128]⟩
abbrev S1x128 : Shape := ⟨2, ![1, 128]⟩
abbrev S128x128 : Shape := ⟨2, ![128, 128]⟩
abbrev S16x128 : Shape := ⟨2, ![16, 128]⟩
abbrev S1x1x128x128 : Shape := ⟨4, ![1, 1, 128, 128]⟩
abbrev S128 : Shape := ⟨1, ![128]⟩
abbrev S128x1 : Shape := ⟨2, ![128, 1]⟩
abbrev S1x16x128 : Shape := ⟨3, ![1, 16, 128]⟩
abbrev S144x128 : Shape := ⟨2, ![144, 128]⟩
abbrev S16x8x128 : Shape := ⟨3, ![16, 8, 128]⟩
abbrev S1x8x128 : Shape := ⟨3, ![1, 8, 128]⟩

abbrev nBuf : Space → Nat
  | .hbm => 58
  | .vmem => 46
  | .smem => 0
  | _ => 0

abbrev bufTy : (tb : Table) → Fin (tcTables nBuf tb) → BufTy
  | .hbm, ⟨0, _⟩ => ⟨S12x2x2048x1024, .bf16⟩
  | .hbm, ⟨1, _⟩ => ⟨S2x2048x1024, .bf16⟩
  | .hbm, ⟨2, _⟩ => ⟨S2x2048x1024, .f32⟩
  | .hbm, ⟨3, _⟩ => ⟨S2x2048x1024, .bf16⟩
  | .hbm, ⟨4, _⟩ => ⟨S3x1024, .f32⟩
  | .hbm, ⟨5, _⟩ => ⟨S8x128x128, .f32⟩
  | .hbm, ⟨6, _⟩ => ⟨S8x128, .f32⟩
  | .hbm, ⟨7, _⟩ => ⟨S4x1024, .f32⟩
  | .hbm, ⟨8, _⟩ => ⟨S1x1024, .f32⟩
  | .hbm, ⟨9, _⟩ => ⟨S8x128x128, .bf16⟩
  | .hbm, ⟨10, _⟩ => ⟨S8x128x128, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x2x2048x1024, .bf16⟩
  | .hbm, ⟨15, _⟩ => ⟨S2x2048x1024, .bf16⟩
  | .hbm, ⟨16, _⟩ => ⟨S2x2048x1024, .f32⟩
  | .hbm, ⟨17, _⟩ => ⟨S1x2x2048x1024, .bf16⟩
  | .hbm, ⟨18, _⟩ => ⟨S2x2048x1024, .bf16⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2x1024, .f32⟩
  | .hbm, ⟨23, _⟩ => ⟨S2x2050x1024, .f32⟩
  | .hbm, ⟨24, _⟩ => ⟨S1x1024, .f32⟩
  | .hbm, ⟨25, _⟩ => ⟨S1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S1x1024, .f32⟩
  | .hbm, ⟨34, _⟩ => ⟨S1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1x1024, .f32⟩
  | .hbm, ⟨41, _⟩ => ⟨S1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .bf16⟩
  | .hbm, ⟨48, _⟩ => ⟨S8x128x1, .f32⟩
  | .hbm, ⟨49, _⟩ => ⟨S8x128x128, .f32⟩
  | .hbm, ⟨50, _⟩ => ⟨S12x2x2048x1024, .bf16⟩
  | .hbm, ⟨51, _⟩ => ⟨S3x1024, .f32⟩
  | .hbm, ⟨52, _⟩ => ⟨S8x128x128, .f32⟩
  | .hbm, ⟨53, _⟩ => ⟨S8x128x128, .f32⟩
  | .hbm, ⟨54, _⟩ => ⟨S4x1024, .f32⟩
  | .hbm, ⟨55, _⟩ => ⟨S8x1024, .f32⟩
  | .hbm, ⟨56, _⟩ => ⟨S8x128x128, .f32⟩
  | .hbm, ⟨57, _⟩ => ⟨S8x128x128, .f32⟩
  | .local _ .vmem, ⟨0, _⟩ => ⟨S12x1x2048x128, .bf16⟩
  | .local _ .vmem, ⟨1, _⟩ => ⟨S12x1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S3x128, .f32⟩
  | .local _ .vmem, ⟨11, _⟩ => ⟨S3x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S4x128, .f32⟩
  | .local _ .vmem, ⟨17, _⟩ => ⟨S4x128, .f32⟩
  | .local _ .vmem, ⟨18, _⟩ => ⟨S1x128, .f32⟩
  | .local _ .vmem, ⟨19, _⟩ => ⟨S1x128, .f32⟩
  | .local _ .vmem, ⟨20, _⟩ => ⟨S1x128x128, .bf16⟩
  | .local _ .vmem, ⟨21, _⟩ => ⟨S1x128x128, .bf16⟩
  | .local _ .vmem, ⟨22, _⟩ => ⟨S1x128x128, .bf16⟩
  | .local _ .vmem, ⟨23, _⟩ => ⟨S1x128x128, .bf16⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S12x1x2048x128, .bf16⟩
  | .local _ .vmem, ⟨31, _⟩ => ⟨S12x1x2048x128, .bf16⟩
  | .local _ .vmem, ⟨32, _⟩ => ⟨S3x128, .f32⟩
  | .local _ .vmem, ⟨33, _⟩ => ⟨S3x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S1x128x128, .f32⟩
  | .local _ .vmem, ⟨38, _⟩ => ⟨S4x128, .f32⟩
  | .local _ .vmem, ⟨39, _⟩ => ⟨S4x128, .f32⟩
  | .local _ .vmem, ⟨40, _⟩ => ⟨S8x128, .f32⟩
  | .local _ .vmem, ⟨41, _⟩ => ⟨S8x128, .f32⟩
  | .local _ .vmem, ⟨42, _⟩ => ⟨S1x128x128, .f32⟩
  | .local _ .vmem, ⟨43, _⟩ => ⟨S1x128x128, .f32⟩
  | .local _ .vmem, ⟨44, _⟩ => ⟨S1x128x128, .f32⟩
  | .local _ .vmem, ⟨45, _⟩ => ⟨S1x128x128, .f32⟩
  | _, _ => ⟨S12x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v34_5 : Ref sig .tc := ⟨.hbm, 55, rfl⟩
abbrev main_v34_6 : Ref sig .tc := ⟨.hbm, 56, rfl⟩
abbrev main_v34_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨2, ![8, 2], ![false, false]⟩

def k0_mult1 : BitVec 32 :=
  let c15_i32 : BitVec 32 := 15#32
  let c16_i32 : BitVec 32 := 16#32
  let c0_i32_44 : BitVec 32 := 0#32
  let v64 : BitVec 32 := Scalar.muli c16_i32 c0_i32_44
  let c0_i32_45 : BitVec 32 := 0#32
  let v65 : BitVec 32 := Scalar.addi v64 c0_i32_45
  let v66 : BitVec 32 := Scalar.subi c15_i32 v65
  let c128_i32 : BitVec 32 := 128#32
  let v67 : BitVec 32 := Scalar.muli v66 c128_i32
  v67
def k0_mult2 : BitVec 32 :=
  let c15_i32 : BitVec 32 := 15#32
  let c16_i32 : BitVec 32 := 16#32
  let c0_i32_44 : BitVec 32 := 0#32
  let v64 : BitVec 32 := Scalar.muli c16_i32 c0_i32_44
  let c0_i32_45 : BitVec 32 := 0#32
  let v65 : BitVec 32 := Scalar.addi v64 c0_i32_45
  let v66 : BitVec 32 := Scalar.subi c15_i32 v65
  let c128_i32_46 : BitVec 32 := 128#32
  let v69 : BitVec 32 := Scalar.muli v66 c128_i32_46
  let c16_i32_47 : BitVec 32 := 16#32
  let v70 : BitVec 32 := Scalar.subi v69 c16_i32_47
  let c0_i32_48 : BitVec 32 := 0#32
  let v71 : BitVec 32 := Scalar.maxsi v70 c0_i32_48
  v71
def k0_off1 (c0_i32_45 : BitVec 32) : Fin 3 → Nat :=
  let c0_49 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v73 : Index := Scalar.indexCast v68
  let c0_50 : Index := 0#32
  ![0, v73.toNat, 0]
def k0_off2 (c0_i32_45 : BitVec 32) : Fin 4 → Nat :=
  let c0_53 : Index := 0#32
  let c0_54 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v81 : Index := Scalar.indexCast v68
  let c0_55 : Index := 0#32
  ![0, 0, v81.toNat, 0]
def k0_off3 (c0_i32_45 : BitVec 32) : Fin 4 → Nat :=
  let c2_56 : Index := 2#32
  let c0_57 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v85 : Index := Scalar.indexCast v68
  let c0_58 : Index := 0#32
  ![2, 0, v85.toNat, 0]
def k0_off4 (c0_i32_45 : BitVec 32) : Fin 4 → Nat :=
  let c1_59 : Index := 1#32
  let c0_60 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v89 : Index := Scalar.indexCast v68
  let c0_61 : Index := 0#32
  ![1, 0, v89.toNat, 0]
def k0_off5 (c0_i32_45 : BitVec 32) : Fin 4 → Nat :=
  let c3_62 : Index := 3#32
  let c0_63 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v93 : Index := Scalar.indexCast v68
  let c0_64 : Index := 0#32
  ![3, 0, v93.toNat, 0]
def k0_off6 (c0_i32_45 : BitVec 32) : Fin 4 → Nat :=
  let c5 : Index := 5#32
  let c0_68 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v108 : Index := Scalar.indexCast v68
  let c0_69 : Index := 0#32
  ![5, 0, v108.toNat, 0]
def k0_off7 (c0_i32_45 : BitVec 32) : Fin 4 → Nat :=
  let c4 : Index := 4#32
  let c0_76 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v131 : Index := Scalar.indexCast v68
  let c0_77 : Index := 0#32
  ![4, 0, v131.toNat, 0]
def k0_off8 (c0_i32_45 : BitVec 32) : Fin 4 → Nat :=
  let c6 : Index := 6#32
  let c0_78 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v135 : Index := Scalar.indexCast v68
  let c0_79 : Index := 0#32
  ![6, 0, v135.toNat, 0]
def k0_off9 (c0_i32_45 : BitVec 32) : Fin 4 → Nat :=
  let c7 : Index := 7#32
  let c0_83 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v149 : Index := Scalar.indexCast v68
  let c0_84 : Index := 0#32
  ![7, 0, v149.toNat, 0]
def k0_off10 (c0_i32_45 : BitVec 32) : Fin 4 → Nat :=
  let c8 : Index := 8#32
  let c0_101 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v200 : Index := Scalar.indexCast v68
  let c0_102 : Index := 0#32
  ![8, 0, v200.toNat, 0]
def k0_off11 (c0_i32_45 : BitVec 32) : Fin 4 → Nat :=
  let c9 : Index := 9#32
  let c0_106 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v212 : Index := Scalar.indexCast v68
  let c0_107 : Index := 0#32
  ![9, 0, v212.toNat, 0]
def k0_off12 (c0_i32_45 : BitVec 32) : Fin 4 → Nat :=
  let c10 : Index := 10#32
  let c0_111 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v223 : Index := Scalar.indexCast v68
  let c0_112 : Index := 0#32
  ![10, 0, v223.toNat, 0]
def k0_off13 (c0_i32_45 : BitVec 32) : Fin 4 → Nat :=
  let c11 : Index := 11#32
  let c0_116 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32 : BitVec 32 := 128#32
  let v67 : BitVec 32 := Scalar.muli v66 c128_i32
  let v68 : BitVec 32 := v67
  let v234 : Index := Scalar.indexCast v68
  let c0_117 : Index := 0#32
  ![11, 0, v234.toNat, 0]
def k0_off14 (c0_i32_45 : BitVec 32) : Fin 3 → Nat :=
  let c0_124 : Index := 0#32
  let c15_i32 : BitVec 32 := 15#32
  let c16_i32 : BitVec 32 := 16#32
  let c0_i32_44 : BitVec 32 := 0#32
  let v64 : BitVec 32 := Scalar.muli c16_i32 c0_i32_44
  let v65 : BitVec 32 := Scalar.addi v64 c0_i32_45
  let v66 : BitVec 32 := Scalar.subi c15_i32 v65
  let c128_i32_46 : BitVec 32 := 128#32
  let v69 : BitVec 32 := Scalar.muli v66 c128_i32_46
  let c16_i32_47 : BitVec 32 := 16#32
  let v70 : BitVec 32 := Scalar.subi v69 c16_i32_47
  let c0_i32_48 : BitVec 32 := 0#32
  let v71 : BitVec 32 := Scalar.maxsi v70 c0_i32_48
  let v72 : BitVec 32 := v71
  let v249 : Index := Scalar.indexCast v72
  let c0_125 : Index := 0#32
  ![0, v249.toNat, 0]
def k0_mult3 : BitVec 32 :=
  let c15_i32_281 : BitVec 32 := 15#32
  let c16_i32_279 : BitVec 32 := 16#32
  let c0_i32_44 : BitVec 32 := 0#32
  let v726 : BitVec 32 := Scalar.muli c16_i32_279 c0_i32_44
  let c1_i32_280 : BitVec 32 := 1#32
  let v727 : BitVec 32 := Scalar.addi v726 c1_i32_280
  let v728 : BitVec 32 := Scalar.subi c15_i32_281 v727
  let c128_i32_282 : BitVec 32 := 128#32
  let v729 : BitVec 32 := Scalar.muli v728 c128_i32_282
  v729
def k0_mult4 : BitVec 32 :=
  let c15_i32_281 : BitVec 32 := 15#32
  let c16_i32_279 : BitVec 32 := 16#32
  let c0_i32_44 : BitVec 32 := 0#32
  let v726 : BitVec 32 := Scalar.muli c16_i32_279 c0_i32_44
  let c1_i32_280 : BitVec 32 := 1#32
  let v727 : BitVec 32 := Scalar.addi v726 c1_i32_280
  let v728 : BitVec 32 := Scalar.subi c15_i32_281 v727
  let c128_i32_283 : BitVec 32 := 128#32
  let v731 : BitVec 32 := Scalar.muli v728 c128_i32_283
  let c16_i32_284 : BitVec 32 := 16#32
  let v732 : BitVec 32 := Scalar.subi v731 c16_i32_284
  let c0_i32_285 : BitVec 32 := 0#32
  let v733 : BitVec 32 := Scalar.maxsi v732 c0_i32_285
  v733
def k0_mult5 : BitVec 32 :=
  let c15_i32_532 : BitVec 32 := 15#32
  let c16_i32_531 : BitVec 32 := 16#32
  let c0_i32_44 : BitVec 32 := 0#32
  let v1388 : BitVec 32 := Scalar.muli c16_i32_531 c0_i32_44
  let c2_i32 : BitVec 32 := 2#32
  let v1389 : BitVec 32 := Scalar.addi v1388 c2_i32
  let v1390 : BitVec 32 := Scalar.subi c15_i32_532 v1389
  let c128_i32_533 : BitVec 32 := 128#32
  let v1391 : BitVec 32 := Scalar.muli v1390 c128_i32_533
  v1391
def k0_mult6 : BitVec 32 :=
  let c15_i32_532 : BitVec 32 := 15#32
  let c16_i32_531 : BitVec 32 := 16#32
  let c0_i32_44 : BitVec 32 := 0#32
  let v1388 : BitVec 32 := Scalar.muli c16_i32_531 c0_i32_44
  let c2_i32 : BitVec 32 := 2#32
  let v1389 : BitVec 32 := Scalar.addi v1388 c2_i32
  let v1390 : BitVec 32 := Scalar.subi c15_i32_532 v1389
  let c128_i32_534 : BitVec 32 := 128#32
  let v1393 : BitVec 32 := Scalar.muli v1390 c128_i32_534
  let c16_i32_535 : BitVec 32 := 16#32
  let v1394 : BitVec 32 := Scalar.subi v1393 c16_i32_535
  let c0_i32_536 : BitVec 32 := 0#32
  let v1395 : BitVec 32 := Scalar.maxsi v1394 c0_i32_536
  v1395
def k0_mult7 : BitVec 32 :=
  let c15_i32_783 : BitVec 32 := 15#32
  let c16_i32_782 : BitVec 32 := 16#32
  let c0_i32_44 : BitVec 32 := 0#32
  let v2050 : BitVec 32 := Scalar.muli c16_i32_782 c0_i32_44
  let c3_i32 : BitVec 32 := 3#32
  let v2051 : BitVec 32 := Scalar.addi v2050 c3_i32
  let v2052 : BitVec 32 := Scalar.subi c15_i32_783 v2051
  let c128_i32_784 : BitVec 32 := 128#32
  let v2053 : BitVec 32 := Scalar.muli v2052 c128_i32_784
  v2053
def k0_mult8 : BitVec 32 :=
  let c15_i32_783 : BitVec 32 := 15#32
  let c16_i32_782 : BitVec 32 := 16#32
  let c0_i32_44 : BitVec 32 := 0#32
  let v2050 : BitVec 32 := Scalar.muli c16_i32_782 c0_i32_44
  let c3_i32 : BitVec 32 := 3#32
  let v2051 : BitVec 32 := Scalar.addi v2050 c3_i32
  let v2052 : BitVec 32 := Scalar.subi c15_i32_783 v2051
  let c128_i32_785 : BitVec 32 := 128#32
  let v2055 : BitVec 32 := Scalar.muli v2052 c128_i32_785
  let c16_i32_786 : BitVec 32 := 16#32
  let v2056 : BitVec 32 := Scalar.subi v2055 c16_i32_786
  let c0_i32_787 : BitVec 32 := 0#32
  let v2057 : BitVec 32 := Scalar.maxsi v2056 c0_i32_787
  v2057
def k0_mult9 : BitVec 32 :=
  let c15_i32_1035 : BitVec 32 := 15#32
  let c16_i32_1033 : BitVec 32 := 16#32
  let c0_i32_44 : BitVec 32 := 0#32
  let v2712 : BitVec 32 := Scalar.muli c16_i32_1033 c0_i32_44
  let c4_i32_1034 : BitVec 32 := 4#32
  let v2713 : BitVec 32 := Scalar.addi v2712 c4_i32_1034
  let v2714 : BitVec 32 := Scalar.subi c15_i32_1035 v2713
  let c128_i32_1036 : BitVec 32 := 128#32
  let v2715 : BitVec 32 := Scalar.muli v2714 c128_i32_1036
  v2715
def k0_mult10 : BitVec 32 :=
  let c15_i32_1035 : BitVec 32 := 15#32
  let c16_i32_1033 : BitVec 32 := 16#32
  let c0_i32_44 : BitVec 32 := 0#32
  let v2712 : BitVec 32 := Scalar.muli c16_i32_1033 c0_i32_44
  let c4_i32_1034 : BitVec 32 := 4#32
  let v2713 : BitVec 32 := Scalar.addi v2712 c4_i32_1034
  let v2714 : BitVec 32 := Scalar.subi c15_i32_1035 v2713
  let c128_i32_1037 : BitVec 32 := 128#32
  let v2717 : BitVec 32 := Scalar.muli v2714 c128_i32_1037
  let c16_i32_1038 : BitVec 32 := 16#32
  let v2718 : BitVec 32 := Scalar.subi v2717 c16_i32_1038
  let c0_i32_1039 : BitVec 32 := 0#32
  let v2719 : BitVec 32 := Scalar.maxsi v2718 c0_i32_1039
  v2719
def k0_mult11 : BitVec 32 :=
  let c15_i32_1286 : BitVec 32 := 15#32
  let c16_i32_1285 : BitVec 32 := 16#32
  let c0_i32_44 : BitVec 32 := 0#32
  let v3374 : BitVec 32 := Scalar.muli c16_i32_1285 c0_i32_44
  let c5_i32 : BitVec 32 := 5#32
  let v3375 : BitVec 32 := Scalar.addi v3374 c5_i32
  let v3376 : BitVec 32 := Scalar.subi c15_i32_1286 v3375
  let c128_i32_1287 : BitVec 32 := 128#32
  let v3377 : BitVec 32 := Scalar.muli v3376 c128_i32_1287
  v3377
def k0_mult12 : BitVec 32 :=
  let c15_i32_1286 : BitVec 32 := 15#32
  let c16_i32_1285 : BitVec 32 := 16#32
  let c0_i32_44 : BitVec 32 := 0#32
  let v3374 : BitVec 32 := Scalar.muli c16_i32_1285 c0_i32_44
  let c5_i32 : BitVec 32 := 5#32
  let v3375 : BitVec 32 := Scalar.addi v3374 c5_i32
  let v3376 : BitVec 32 := Scalar.subi c15_i32_1286 v3375
  let c128_i32_1288 : BitVec 32 := 128#32
  let v3379 : BitVec 32 := Scalar.muli v3376 c128_i32_1288
  let c16_i32_1289 : BitVec 32 := 16#32
  let v3380 : BitVec 32 := Scalar.subi v3379 c16_i32_1289
  let c0_i32_1290 : BitVec 32 := 0#32
  let v3381 : BitVec 32 := Scalar.maxsi v3380 c0_i32_1290
  v3381
def k0_mult13 : BitVec 32 :=
  let c15_i32_1538 : BitVec 32 := 15#32
  let c16_i32_1536 : BitVec 32 := 16#32
  let c0_i32_44 : BitVec 32 := 0#32
  let v4036 : BitVec 32 := Scalar.muli c16_i32_1536 c0_i32_44
  let c6_i32_1537 : BitVec 32 := 6#32
  let v4037 : BitVec 32 := Scalar.addi v4036 c6_i32_1537
  let v4038 : BitVec 32 := Scalar.subi c15_i32_1538 v4037
  let c128_i32_1539 : BitVec 32 := 128#32
  let v4039 : BitVec 32 := Scalar.muli v4038 c128_i32_1539
  v4039
def k0_mult14 : BitVec 32 :=
  let c15_i32_1538 : BitVec 32 := 15#32
  let c16_i32_1536 : BitVec 32 := 16#32
  let c0_i32_44 : BitVec 32 := 0#32
  let v4036 : BitVec 32 := Scalar.muli c16_i32_1536 c0_i32_44
  let c6_i32_1537 : BitVec 32 := 6#32
  let v4037 : BitVec 32 := Scalar.addi v4036 c6_i32_1537
  let v4038 : BitVec 32 := Scalar.subi c15_i32_1538 v4037
  let c128_i32_1540 : BitVec 32 := 128#32
  let v4041 : BitVec 32 := Scalar.muli v4038 c128_i32_1540
  let c16_i32_1541 : BitVec 32 := 16#32
  let v4042 : BitVec 32 := Scalar.subi v4041 c16_i32_1541
  let c0_i32_1542 : BitVec 32 := 0#32
  let v4043 : BitVec 32 := Scalar.maxsi v4042 c0_i32_1542
  v4043
def k0_mult15 : BitVec 32 :=
  let c15_i32_1790 : BitVec 32 := 15#32
  let c16_i32_1788 : BitVec 32 := 16#32
  let c0_i32_44 : BitVec 32 := 0#32
  let v4698 : BitVec 32 := Scalar.muli c16_i32_1788 c0_i32_44
  let c7_i32_1789 : BitVec 32 := 7#32
  let v4699 : BitVec 32 := Scalar.addi v4698 c7_i32_1789
  let v4700 : BitVec 32 := Scalar.subi c15_i32_1790 v4699
  let c128_i32_1791 : BitVec 32 := 128#32
  let v4701 : BitVec 32 := Scalar.muli v4700 c128_i32_1791
  v4701
def k0_mult16 : BitVec 32 :=
  let c15_i32_1790 : BitVec 32 := 15#32
  let c16_i32_1788 : BitVec 32 := 16#32
  let c0_i32_44 : BitVec 32 := 0#32
  let v4698 : BitVec 32 := Scalar.muli c16_i32_1788 c0_i32_44
  let c7_i32_1789 : BitVec 32 := 7#32
  let v4699 : BitVec 32 := Scalar.addi v4698 c7_i32_1789
  let v4700 : BitVec 32 := Scalar.subi c15_i32_1790 v4699
  let c128_i32_1792 : BitVec 32 := 128#32
  let v4703 : BitVec 32 := Scalar.muli v4700 c128_i32_1792
  let c16_i32_1793 : BitVec 32 := 16#32
  let v4704 : BitVec 32 := Scalar.subi v4703 c16_i32_1793
  let c0_i32_1794 : BitVec 32 := 0#32
  let v4705 : BitVec 32 := Scalar.maxsi v4704 c0_i32_1794
  v4705
def k0_mult17 : BitVec 32 :=
  let c15_i32_2041 : BitVec 32 := 15#32
  let c16_i32_2040 : BitVec 32 := 16#32
  let c0_i32_44 : BitVec 32 := 0#32
  let v5360 : BitVec 32 := Scalar.muli c16_i32_2040 c0_i32_44
  let c8_i32 : BitVec 32 := 8#32
  let v5361 : BitVec 32 := Scalar.addi v5360 c8_i32
  let v5362 : BitVec 32 := Scalar.subi c15_i32_2041 v5361
  let c128_i32_2042 : BitVec 32 := 128#32
  let v5363 : BitVec 32 := Scalar.muli v5362 c128_i32_2042
  v5363
def k0_mult18 : BitVec 32 :=
  let c15_i32_2041 : BitVec 32 := 15#32
  let c16_i32_2040 : BitVec 32 := 16#32
  let c0_i32_44 : BitVec 32 := 0#32
  let v5360 : BitVec 32 := Scalar.muli c16_i32_2040 c0_i32_44
  let c8_i32 : BitVec 32 := 8#32
  let v5361 : BitVec 32 := Scalar.addi v5360 c8_i32
  let v5362 : BitVec 32 := Scalar.subi c15_i32_2041 v5361
  let c128_i32_2043 : BitVec 32 := 128#32
  let v5365 : BitVec 32 := Scalar.muli v5362 c128_i32_2043
  let c16_i32_2044 : BitVec 32 := 16#32
  let v5366 : BitVec 32 := Scalar.subi v5365 c16_i32_2044
  let c0_i32_2045 : BitVec 32 := 0#32
  let v5367 : BitVec 32 := Scalar.maxsi v5366 c0_i32_2045
  v5367
def k0_mult19 : BitVec 32 :=
  let c15_i32_2292 : BitVec 32 := 15#32
  let c16_i32_2291 : BitVec 32 := 16#32
  let c0_i32_44 : BitVec 32 := 0#32
  let v6022 : BitVec 32 := Scalar.muli c16_i32_2291 c0_i32_44
  let c9_i32 : BitVec 32 := 9#32
  let v6023 : BitVec 32 := Scalar.addi v6022 c9_i32
  let v6024 : BitVec 32 := Scalar.subi c15_i32_2292 v6023
  let c128_i32_2293 : BitVec 32 := 128#32
  let v6025 : BitVec 32 := Scalar.muli v6024 c128_i32_2293
  v6025
def k0_mult20 : BitVec 32 :=
  let c15_i32_2292 : BitVec 32 := 15#32
  let c16_i32_2291 : BitVec 32 := 16#32
  let c0_i32_44 : BitVec 32 := 0#32
  let v6022 : BitVec 32 := Scalar.muli c16_i32_2291 c0_i32_44
  let c9_i32 : BitVec 32 := 9#32
  let v6023 : BitVec 32 := Scalar.addi v6022 c9_i32
  let v6024 : BitVec 32 := Scalar.subi c15_i32_2292 v6023
  let c128_i32_2294 : BitVec 32 := 128#32
  let v6027 : BitVec 32 := Scalar.muli v6024 c128_i32_2294
  let c16_i32_2295 : BitVec 32 := 16#32
  let v6028 : BitVec 32 := Scalar.subi v6027 c16_i32_2295
  let c0_i32_2296 : BitVec 32 := 0#32
  let v6029 : BitVec 32 := Scalar.maxsi v6028 c0_i32_2296
  v6029
def k0_mult21 : BitVec 32 :=
  let c15_i32_2543 : BitVec 32 := 15#32
  let c16_i32_2542 : BitVec 32 := 16#32
  let c0_i32_44 : BitVec 32 := 0#32
  let v6684 : BitVec 32 := Scalar.muli c16_i32_2542 c0_i32_44
  let c10_i32 : BitVec 32 := 10#32
  let v6685 : BitVec 32 := Scalar.addi v6684 c10_i32
  let v6686 : BitVec 32 := Scalar.subi c15_i32_2543 v6685
  let c128_i32_2544 : BitVec 32 := 128#32
  let v6687 : BitVec 32 := Scalar.muli v6686 c128_i32_2544
  v6687
def k0_mult22 : BitVec 32 :=
  let c15_i32_2543 : BitVec 32 := 15#32
  let c16_i32_2542 : BitVec 32 := 16#32
  let c0_i32_44 : BitVec 32 := 0#32
  let v6684 : BitVec 32 := Scalar.muli c16_i32_2542 c0_i32_44
  let c10_i32 : BitVec 32 := 10#32
  let v6685 : BitVec 32 := Scalar.addi v6684 c10_i32
  let v6686 : BitVec 32 := Scalar.subi c15_i32_2543 v6685
  let c128_i32_2545 : BitVec 32 := 128#32
  let v6689 : BitVec 32 := Scalar.muli v6686 c128_i32_2545
  let c16_i32_2546 : BitVec 32 := 16#32
  let v6690 : BitVec 32 := Scalar.subi v6689 c16_i32_2546
  let c0_i32_2547 : BitVec 32 := 0#32
  let v6691 : BitVec 32 := Scalar.maxsi v6690 c0_i32_2547
  v6691
def k0_mult23 : BitVec 32 :=
  let c15_i32_2794 : BitVec 32 := 15#32
  let c16_i32_2793 : BitVec 32 := 16#32
  let c0_i32_44 : BitVec 32 := 0#32
  let v7346 : BitVec 32 := Scalar.muli c16_i32_2793 c0_i32_44
  let c11_i32 : BitVec 32 := 11#32
  let v7347 : BitVec 32 := Scalar.addi v7346 c11_i32
  let v7348 : BitVec 32 := Scalar.subi c15_i32_2794 v7347
  let c128_i32_2795 : BitVec 32 := 128#32
  let v7349 : BitVec 32 := Scalar.muli v7348 c128_i32_2795
  v7349
def k0_mult24 : BitVec 32 :=
  let c15_i32_2794 : BitVec 32 := 15#32
  let c16_i32_2793 : BitVec 32 := 16#32
  let c0_i32_44 : BitVec 32 := 0#32
  let v7346 : BitVec 32 := Scalar.muli c16_i32_2793 c0_i32_44
  let c11_i32 : BitVec 32 := 11#32
  let v7347 : BitVec 32 := Scalar.addi v7346 c11_i32
  let v7348 : BitVec 32 := Scalar.subi c15_i32_2794 v7347
  let c128_i32_2796 : BitVec 32 := 128#32
  let v7351 : BitVec 32 := Scalar.muli v7348 c128_i32_2796
  let c16_i32_2797 : BitVec 32 := 16#32
  let v7352 : BitVec 32 := Scalar.subi v7351 c16_i32_2797
  let c0_i32_2798 : BitVec 32 := 0#32
  let v7353 : BitVec 32 := Scalar.maxsi v7352 c0_i32_2798
  v7353
def k0_mult25 : BitVec 32 :=
  let c15_i32_3045 : BitVec 32 := 15#32
  let c16_i32_3044 : BitVec 32 := 16#32
  let c0_i32_44 : BitVec 32 := 0#32
  let v8008 : BitVec 32 := Scalar.muli c16_i32_3044 c0_i32_44
  let c12_i32 : BitVec 32 := 12#32
  let v8009 : BitVec 32 := Scalar.addi v8008 c12_i32
  let v8010 : BitVec 32 := Scalar.subi c15_i32_3045 v8009
  let c128_i32_3046 : BitVec 32 := 128#32
  let v8011 : BitVec 32 := Scalar.muli v8010 c128_i32_3046
  v8011
def k0_mult26 : BitVec 32 :=
  let c15_i32_3045 : BitVec 32 := 15#32
  let c16_i32_3044 : BitVec 32 := 16#32
  let c0_i32_44 : BitVec 32 := 0#32
  let v8008 : BitVec 32 := Scalar.muli c16_i32_3044 c0_i32_44
  let c12_i32 : BitVec 32 := 12#32
  let v8009 : BitVec 32 := Scalar.addi v8008 c12_i32
  let v8010 : BitVec 32 := Scalar.subi c15_i32_3045 v8009
  let c128_i32_3047 : BitVec 32 := 128#32
  let v8013 : BitVec 32 := Scalar.muli v8010 c128_i32_3047
  let c16_i32_3048 : BitVec 32 := 16#32
  let v8014 : BitVec 32 := Scalar.subi v8013 c16_i32_3048
  let c0_i32_3049 : BitVec 32 := 0#32
  let v8015 : BitVec 32 := Scalar.maxsi v8014 c0_i32_3049
  v8015
def k0_mult27 : BitVec 32 :=
  let c15_i32_3296 : BitVec 32 := 15#32
  let c16_i32_3295 : BitVec 32 := 16#32
  let c0_i32_44 : BitVec 32 := 0#32
  let v8670 : BitVec 32 := Scalar.muli c16_i32_3295 c0_i32_44
  let c13_i32 : BitVec 32 := 13#32
  let v8671 : BitVec 32 := Scalar.addi v8670 c13_i32
  let v8672 : BitVec 32 := Scalar.subi c15_i32_3296 v8671
  let c128_i32_3297 : BitVec 32 := 128#32
  let v8673 : BitVec 32 := Scalar.muli v8672 c128_i32_3297
  v8673
def k0_mult28 : BitVec 32 :=
  let c15_i32_3296 : BitVec 32 := 15#32
  let c16_i32_3295 : BitVec 32 := 16#32
  let c0_i32_44 : BitVec 32 := 0#32
  let v8670 : BitVec 32 := Scalar.muli c16_i32_3295 c0_i32_44
  let c13_i32 : BitVec 32 := 13#32
  let v8671 : BitVec 32 := Scalar.addi v8670 c13_i32
  let v8672 : BitVec 32 := Scalar.subi c15_i32_3296 v8671
  let c128_i32_3298 : BitVec 32 := 128#32
  let v8675 : BitVec 32 := Scalar.muli v8672 c128_i32_3298
  let c16_i32_3299 : BitVec 32 := 16#32
  let v8676 : BitVec 32 := Scalar.subi v8675 c16_i32_3299
  let c0_i32_3300 : BitVec 32 := 0#32
  let v8677 : BitVec 32 := Scalar.maxsi v8676 c0_i32_3300
  v8677
def k0_mult29 : BitVec 32 :=
  let c15_i32_3547 : BitVec 32 := 15#32
  let c16_i32_3546 : BitVec 32 := 16#32
  let c0_i32_44 : BitVec 32 := 0#32
  let v9332 : BitVec 32 := Scalar.muli c16_i32_3546 c0_i32_44
  let c14_i32 : BitVec 32 := 14#32
  let v9333 : BitVec 32 := Scalar.addi v9332 c14_i32
  let v9334 : BitVec 32 := Scalar.subi c15_i32_3547 v9333
  let c128_i32_3548 : BitVec 32 := 128#32
  let v9335 : BitVec 32 := Scalar.muli v9334 c128_i32_3548
  v9335
def k0_mult30 : BitVec 32 :=
  let c15_i32_3547 : BitVec 32 := 15#32
  let c16_i32_3546 : BitVec 32 := 16#32
  let c0_i32_44 : BitVec 32 := 0#32
  let v9332 : BitVec 32 := Scalar.muli c16_i32_3546 c0_i32_44
  let c14_i32 : BitVec 32 := 14#32
  let v9333 : BitVec 32 := Scalar.addi v9332 c14_i32
  let v9334 : BitVec 32 := Scalar.subi c15_i32_3547 v9333
  let c128_i32_3549 : BitVec 32 := 128#32
  let v9337 : BitVec 32 := Scalar.muli v9334 c128_i32_3549
  let c16_i32_3550 : BitVec 32 := 16#32
  let v9338 : BitVec 32 := Scalar.subi v9337 c16_i32_3550
  let c0_i32_3551 : BitVec 32 := 0#32
  let v9339 : BitVec 32 := Scalar.maxsi v9338 c0_i32_3551
  v9339
def k0_mult31 : BitVec 32 :=
  let c15_i32_3799 : BitVec 32 := 15#32
  let c16_i32_3797 : BitVec 32 := 16#32
  let c0_i32_44 : BitVec 32 := 0#32
  let v9994 : BitVec 32 := Scalar.muli c16_i32_3797 c0_i32_44
  let c15_i32_3798 : BitVec 32 := 15#32
  let v9995 : BitVec 32 := Scalar.addi v9994 c15_i32_3798
  let v9996 : BitVec 32 := Scalar.subi c15_i32_3799 v9995
  let c128_i32_3800 : BitVec 32 := 128#32
  let v9997 : BitVec 32 := Scalar.muli v9996 c128_i32_3800
  v9997
def k0_mult32 : BitVec 32 :=
  let c15_i32_3799 : BitVec 32 := 15#32
  let c16_i32_3797 : BitVec 32 := 16#32
  let c0_i32_44 : BitVec 32 := 0#32
  let v9994 : BitVec 32 := Scalar.muli c16_i32_3797 c0_i32_44
  let c15_i32_3798 : BitVec 32 := 15#32
  let v9995 : BitVec 32 := Scalar.addi v9994 c15_i32_3798
  let v9996 : BitVec 32 := Scalar.subi c15_i32_3799 v9995
  let c128_i32_3801 : BitVec 32 := 128#32
  let v9999 : BitVec 32 := Scalar.muli v9996 c128_i32_3801
  let c16_i32_3802 : BitVec 32 := 16#32
  let v10000 : BitVec 32 := Scalar.subi v9999 c16_i32_3802
  let c0_i32_3803 : BitVec 32 := 0#32
  let v10001 : BitVec 32 := Scalar.maxsi v10000 c0_i32_3803
  v10001
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S12x1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S3x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== ReferenceIdeal.lean ====
abbrev S12x2x2048x1024 : Shape := ⟨4, ![12, 2, 2048, 1024]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1x1024 : Shape := ⟨2, ![1, 1024]⟩
abbrev S1x2x2048x1024 : Shape := ⟨4, ![1, 2, 2048, 1024]⟩
abbrev S_ : Shape := ⟨0, ![]⟩
abbrev S2x2x1024 : Shape := ⟨3, ![2, 2, 1024]⟩
abbrev S2x2050x1024 : Shape := ⟨3, ![2, 2050, 1024]⟩
abbrev S1024 : Shape := ⟨1, ![1024]⟩
abbrev S1x1x1024 : Shape := ⟨3, ![1, 1, 1024]⟩
abbrev S2x16x128x8x128 : Shape := ⟨5, ![2, 16, 128, 8, 128]⟩
abbrev S2x16x128x8 : Shape := ⟨4, ![2, 16, 128, 8]⟩
abbrev S2x16x128x8x1 : Shape := ⟨5, ![2, 16, 128, 8, 1]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S8x128x1 : Shape := ⟨3, ![8, 128, 1]⟩

abbrev nBuf : Space → Nat
  | .hbm => 362
  | .vmem => 0
  | .smem => 0
  | _ => 0

abbrev hbmTy0_0 (i : Nat) : BufTy := match i % 128 with
  | 0 => ⟨S12x2x2048x1024, .bf16⟩
  | 1 => ⟨S2x2048x1024, .bf16⟩
  | 2 => ⟨S2x2048x1024, .f32⟩
  | 3 => ⟨S2x2048x1024, .bf16⟩
  | 4 => ⟨S3x1024, .f32⟩
  | 5 => ⟨S8x128x128, .f32⟩
  | 6 => ⟨S8x128, .f32⟩
  | 7 => ⟨S4x1024, .f32⟩
  | 8 => ⟨S1x1024, .f32⟩
  | 9 => ⟨S8x128x128, .bf16⟩
  | 10 => ⟨S8x128x128, .bf16⟩
  | 11 => ⟨S1x1024, .f32⟩
  | 12 => ⟨S1x1024, .f32⟩
  | 13 => ⟨S1x1024, .f32⟩
  | 14 => ⟨S1x2x2048x1024, .bf16⟩
  | 15 => ⟨S2x2048x1024, .bf16⟩
  | 16 => ⟨S2x2048x1024, .f32⟩
  | 17 => ⟨S1x2x2048x1024, .bf16⟩
  | 18 => ⟨S2x2048x1024, .bf16⟩
  | 19 => ⟨S2x2048x1024, .f32⟩
  | 20 => ⟨S1x2x2048x1024, .bf16⟩
  | 21 => ⟨S2x2048x1024, .bf16⟩
  | 22 => ⟨S2x2048x1024, .f32⟩
  | 23 => ⟨S1x2x2048x1024, .bf16⟩
  | 24 => ⟨S2x2048x1024, .bf16⟩
  | 25 => ⟨S2x2048x1024, .f32⟩
  | 26 => ⟨S1x2x2048x1024, .bf16⟩
  | 27 => ⟨S2x2048x1024, .bf16⟩
  | 28 => ⟨S2x2048x1024, .f32⟩
  | 29 => ⟨S1x2x2048x1024, .bf16⟩
  | 30 => ⟨S2x2048x1024, .bf16⟩
  | 31 => ⟨S2x2048x1024, .f32⟩
  | 32 => ⟨S1x2x2048x1024, .bf16⟩
  | 33 => ⟨S2x2048x1024, .bf16⟩
  | 34 => ⟨S2x2048x1024, .f32⟩
  | 35 => ⟨S1x2x2048x1024, .bf16⟩
  | 36 => ⟨S2x2048x1024, .bf16⟩
  | 37 => ⟨S2x2048x1024, .f32⟩
  | 38 => ⟨S1x2x2048x1024, .bf16⟩
  | 39 => ⟨S2x2048x1024, .bf16⟩
  | 40 => ⟨S2x2048x1024, .f32⟩
  | 41 => ⟨S1x2x2048x1024, .bf16⟩
  | 42 => ⟨S2x2048x1024, .bf16⟩
  | 43 => ⟨S2x2048x1024, .f32⟩
  | 44 => ⟨S1x2x2048x1024, .bf16⟩
  | 45 => ⟨S2x2048x1024, .bf16⟩
  | 46 => ⟨S2x2048x1024, .f32⟩
  | 47 => ⟨S1x2x2048x1024, .bf16⟩
  | 48 => ⟨S2x2048x1024, .bf16⟩
  | 49 => ⟨S2x2048x1024, .f32⟩
  | 50 => ⟨S2x2048x1024, .f32⟩
  | 51 => ⟨S2x2048x1024, .f32⟩
  | 52 => ⟨S_, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S_, .f32⟩
  | 65 => ⟨S2x2x1024, .f32⟩
  | 66 => ⟨S2x2050x1024, .f32⟩
  | 67 => ⟨S_, .f32⟩
  | 68 => ⟨S2x2x1024, .f32⟩
  | 69 => ⟨S1x1024, .f32⟩
  | 70 => ⟨S1024, .f32⟩
  | 71 => ⟨S2x2048x1024, .f32⟩
  | 72 => ⟨S1x1x1024, .f32⟩
  | 73 => ⟨S2x2048x1024, .f32⟩
  | 74 => ⟨S2x2048x1024, .f32⟩
  | 75 => ⟨S_, .f32⟩
  | 76 => ⟨S2x2048x1024, .f32⟩
  | 77 => ⟨S2x2048x1024, .f32⟩
  | 78 => ⟨S1x1024, .f32⟩
  | 79 => ⟨S1024, .f32⟩
  | 80 => ⟨S2x2048x1024, .f32⟩
  | 81 => ⟨S1x1x1024, .f32⟩
  | 82 => ⟨S2x2048x1024, .f32⟩
  | 83 => ⟨S2x2048x1024, .f32⟩
  | 84 => ⟨S2x2048x1024, .f32⟩
  | 85 => ⟨S1x1024, .f32⟩
  | 86 => ⟨S1024, .f32⟩
  | 87 => ⟨S2x2048x1024, .f32⟩
  | 88 => ⟨S1x1x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S_, .f32⟩
  | 97 => ⟨S2x2048x1024, .f32⟩
  | 98 => ⟨S2x2048x1024, .f32⟩
  | 99 => ⟨S_, .f32⟩
  | 100 => ⟨S2x2048x1024, .f32⟩
  | 101 => ⟨S2x2048x1024, .f32⟩
  | 102 => ⟨S_, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x16x128x8x128, .f32⟩
  | 108 => ⟨S_, .f32⟩
  | 109 => ⟨S2x16x128x8, .f32⟩
  | 110 => ⟨S2x16x128x8x1, .f32⟩
  | 111 => ⟨S_, .f32⟩
  | 112 => ⟨S2x16x128x8x1, .f32⟩
  | 113 => ⟨S2x16x128x8x1, .f32⟩
  | 114 => ⟨S2x16x128x8x128, .f32⟩
  | 115 => ⟨S2x16x128x8x128, .f32⟩
  | 116 => ⟨S2x16x128x8x128, .f32⟩
  | 117 => ⟨S_, .f32⟩
  | 118 => ⟨S2x16x128x8x128, .f32⟩
  | 119 => ⟨S2x16x128x8x128, .f32⟩
  | 120 => ⟨S_, .f32⟩
  | 121 => ⟨S2x16x128x8, .f32⟩
  | 122 => ⟨S2x16x128x8x1, .f32⟩
  | 123 => ⟨S_, .f32⟩
  | 124 => ⟨S2x16x128x8x1, .f32⟩
  | 125 => ⟨S2x16x128x8x1, .f32⟩
  | 126 => ⟨S2x16x128x8x128, .f32⟩
  | 127 => ⟨S2x16x128x8x128, .f32⟩
  | _ => ⟨S12x2x2048x1024, .bf16⟩

abbrev hbmTy0_1 (i : Nat) : BufTy := match i % 128 with
  | 0 => ⟨S_, .f32⟩
  | 1 => ⟨S2x16x128x8x1, .f32⟩
  | 2 => ⟨S2x16x128x8x1, .f32⟩
  | 3 => ⟨S2x16x128x8x1, .f32⟩
  | 4 => ⟨S2x16x128x8x1, .f32⟩
  | 5 => ⟨S_, .f32⟩
  | 6 => ⟨S2x16x128x8x1, .f32⟩
  | 7 => ⟨S2x16x128x8x1, .f32⟩
  | 8 => ⟨S2x16x128x8x128, .f32⟩
  | 9 => ⟨S2x16x128x8x128, .f32⟩
  | 10 => ⟨S_, .i1⟩
  | 11 => ⟨S128x128, .i1⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .i1⟩
  | 19 => ⟨S128x128, .i1⟩
  | 20 => ⟨S128x128, .i1⟩
  | 21 => ⟨S1x128x128, .i1⟩
  | 22 => ⟨S_, .f32⟩
  | 23 => ⟨S8x128x128, .f32⟩
  | 24 => ⟨S8x128x128, .i1⟩
  | 25 => ⟨S8x128x128, .f32⟩
  | 26 => ⟨S_, .f32⟩
  | 27 => ⟨S8x128x128, .f32⟩
  | 28 => ⟨S8x2x16x128x128, .f32⟩
  | 29 => ⟨S2x16x128x8x128, .f32⟩
  | 30 => ⟨S128x8, .f32⟩
  | 31 => ⟨S1x1x128x8x1, .f32⟩
  | 32 => ⟨S2x16x128x8x128, .f32⟩
  | 33 => ⟨S2x16x128x8x128, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S_, .f32⟩
  | 40 => ⟨S2x2048x1024, .f32⟩
  | 41 => ⟨S2x2048x1024, .f32⟩
  | 42 => ⟨S_, .f32⟩
  | 43 => ⟨S2x2048x1024, .f32⟩
  | 44 => ⟨S2x2048x1024, .f32⟩
  | 45 => ⟨S_, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S2x2048x1024, .f32⟩
  | 53 => ⟨S_, .f32⟩
  | 54 => ⟨S2x2048x1024, .f32⟩
  | 55 => ⟨S2x2048x1024, .f32⟩
  | 56 => ⟨S_, .f32⟩
  | 57 => ⟨S2x2048x1024, .f32⟩
  | 58 => ⟨S2x2048x1024, .f32⟩
  | 59 => ⟨S_, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S_, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S_, .f32⟩
  | 81 => ⟨S2x2048x1024, .f32⟩
  | 82 => ⟨S2x2048x1024, .f32⟩
  | 83 => ⟨S_, .f32⟩
  | 84 => ⟨S2x2048x1024, .f32⟩
  | 85 => ⟨S2x2048x1024, .f32⟩
  | 86 => ⟨S_, .f32⟩
  | 87 => ⟨S2x2048x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S2x2048x1024, .f32⟩
  | 98 => ⟨S2x2048x1024, .f32⟩
  | 99 => ⟨S2x2048x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S2x16x128x8x128, .f32⟩
  | 112 => ⟨S_, .f32⟩
  | 113 => ⟨S128x8, .f32⟩
  | 114 => ⟨S1x1x128x8x1, .f32⟩
  | 115 => ⟨S_, .f32⟩
  | 116 => ⟨S128x8, .f32⟩
  | 117 => ⟨S8x128, .f32⟩
  | 118 => ⟨S8x2x16x128x128, .f32⟩
  | 119 => ⟨S8x128x128, .f32⟩
  | 120 => ⟨S8x2x16x128x128, .f32⟩
  | 121 => ⟨S2x16x128x8x128, .f32⟩
  | 122 => ⟨S_, .f32⟩
  | 123 => ⟨S8x128x128, .f32⟩
  | 124 => ⟨S8x128x128, .f32⟩
  | 125 => ⟨S2x16x128x8x128, .f32⟩
  | 126 => ⟨S_, .f32⟩
  | 127 => ⟨S2x16x128x8, .f32⟩
  | _ => ⟨S12x2x2048x1024, .bf16⟩

abbrev hbmTy0_2 (i : Nat) : BufTy := match i % 128 with
  | 0 => ⟨S2x16x128x8x1, .f32⟩
  | 1 => ⟨S2x16x128x8x128, .f32⟩
  | 2 => ⟨S2x16x128x8x128, .f32⟩
  | 3 => ⟨S2x16x128x8x1, .f32⟩
  | 4 => ⟨S2x16x128x8x128, .f32⟩
  | 5 => ⟨S_, .f32⟩
  | 6 => ⟨S2x16x128x8, .f32⟩
  | 7 => ⟨S2x16x128x8x1, .f32⟩
  | 8 => ⟨S_, .f32⟩
  | 9 => ⟨S2x16x128x8x1, .f32⟩
  | 10 => ⟨S2x16x128x8x1, .f32⟩
  | 11 => ⟨S_, .f32⟩
  | 12 => ⟨S2x16x128x8, .f32⟩
  | 13 => ⟨S2x16x128x8x128, .f32⟩
  | 14 => ⟨S2x16x128x8x128, .f32⟩
  | 15 => ⟨S2x16x128x8x128, .f32⟩
  | 16 => ⟨S_, .f32⟩
  | 17 => ⟨S2x16x128x8, .f32⟩
  | 18 => ⟨S2x16x128x8x1, .f32⟩
  | 19 => ⟨S2x16x128x8x128, .f32⟩
  | 20 => ⟨S2x16x128x8x1, .f32⟩
  | 21 => ⟨S_, .f32⟩
  | 22 => ⟨S2x16x128x8x1, .f32⟩
  | 23 => ⟨S2x16x128x8x1, .f32⟩
  | 24 => ⟨S_, .f32⟩
  | 25 => ⟨S2x16x128x8, .f32⟩
  | 26 => ⟨S2x16x128x8x128, .f32⟩
  | 27 => ⟨S2x16x128x8x128, .f32⟩
  | 28 => ⟨S2x2048x1024, .f32⟩
  | 29 => ⟨S2x2048x1024, .f32⟩
  | 30 => ⟨S2x2048x1024, .f32⟩
  | 31 => ⟨S2x2048x1024, .f32⟩
  | 32 => ⟨S2x2048x1024, .f32⟩
  | 33 => ⟨S2x2048x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S_, .f32⟩
  | 41 => ⟨S1024, .f32⟩
  | 42 => ⟨S1x1x1024, .f32⟩
  | 43 => ⟨S_, .f32⟩
  | 44 => ⟨S1024, .f32⟩
  | 45 => ⟨S_, .f32⟩
  | 46 => ⟨S2x2050x1024, .f32⟩
  | 47 => ⟨S1x1024, .f32⟩
  | 48 => ⟨S_, .f32⟩
  | 49 => ⟨S3x1024, .f32⟩
  | 50 => ⟨S2x2048x1024, .f32⟩
  | 51 => ⟨S2x2048x1024, .f32⟩
  | 52 => ⟨S2x2048x1024, .f32⟩
  | 53 => ⟨S_, .f32⟩
  | 54 => ⟨S1024, .f32⟩
  | 55 => ⟨S1x1x1024, .f32⟩
  | 56 => ⟨S_, .f32⟩
  | 57 => ⟨S1024, .f32⟩
  | 58 => ⟨S_, .f32⟩
  | 59 => ⟨S2x2050x1024, .f32⟩
  | 60 => ⟨S2x2050x1024, .f32⟩
  | 61 => ⟨S1x1024, .f32⟩
  | 62 => ⟨S_, .f32⟩
  | 63 => ⟨S3x1024, .f32⟩
  | 64 => ⟨S3x1024, .f32⟩
  | 65 => ⟨S2x2048x1024, .f32⟩
  | 66 => ⟨S2x2048x1024, .f32⟩
  | 67 => ⟨S2x2048x1024, .f32⟩
  | 68 => ⟨S_, .f32⟩
  | 69 => ⟨S1024, .f32⟩
  | 70 => ⟨S1x1x1024, .f32⟩
  | 71 => ⟨S_, .f32⟩
  | 72 => ⟨S1024, .f32⟩
  | 73 => ⟨S_, .f32⟩
  | 74 => ⟨S2x2050x1024, .f32⟩
  | 75 => ⟨S2x2050x1024, .f32⟩
  | 76 => ⟨S1x1024, .f32⟩
  | 77 => ⟨S_, .f32⟩
  | 78 => ⟨S3x1024, .f32⟩
  | 79 => ⟨S3x1024, .f32⟩
  | 80 => ⟨S2x2x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S2x2048x1024, .f32⟩
  | 86 => ⟨S2x2048x1024, .f32⟩
  | 87 => ⟨S2x2048x1024, .f32⟩
  | 88 => ⟨S_, .f32⟩
  | 89 => ⟨S2x2048x1024, .f32⟩
  | 90 => ⟨S1x2x2048x1024, .f32⟩
  | 91 => ⟨S1x2x2048x1024, .f32⟩
  | 92 => ⟨S1x2x2048x1024, .f32⟩
  | 93 => ⟨S1x2x2048x1024, .f32⟩
  | 94 => ⟨S1x2x2048x1024, .f32⟩
  | 95 => ⟨S1x2x2048x1024, .f32⟩
  | 96 => ⟨S1x2x2048x1024, .f32⟩
  | 97 => ⟨S1x2x2048x1024, .f32⟩
  | 98 => ⟨S1x2x2048x1024, .f32⟩
  | 99 => ⟨S1x2x2048x1024, .f32⟩
  | 100 => ⟨S1x2x2048x1024, .f32⟩
  | 101 => ⟨S1x2x2048x1024, .f32⟩
  | 102 => ⟨S12x2x2048x1024, .f32⟩
  | 103 => ⟨S12x2x2048x1024, .bf16⟩
  | 104 => ⟨S8x128x1, .f32⟩
  | 105 => ⟨S8x128x128, .f32⟩
  | _ => ⟨S12x2x2048x1024, .bf16⟩

abbrev hbmTy (i : Nat) : BufTy := match i / 128 with
  | 0 => hbmTy0_0 i
  | 1 => hbmTy0_1 i
  | 2 => hbmTy0_2 i
  | _ => ⟨S12x2x2048x1024, .bf16⟩

abbrev bufTy : (tb : Table) → Fin (tcTables nBuf tb) → BufTy
  | .hbm, ⟨i, _⟩ => hbmTy i
  | _, _ => ⟨S12x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_v37 : Ref sig .tc := ⟨.hbm, 63, rfl⟩
abbrev main_cst : Ref sig .tc := ⟨.hbm, 64, rfl⟩
abbrev main_v38 : Ref sig .tc := ⟨.hbm, 65, rfl⟩
abbrev main_v39 : Ref sig .tc := ⟨.hbm, 66, rfl⟩
abbrev main_cst_0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_v65_2 : Ref sig .tc := ⟨.hbm, 101, rfl⟩
abbrev main_call1_cst_1 : Ref sig .tc := ⟨.hbm, 102, rfl⟩
abbrev main_call1_v6 : Ref sig .tc := ⟨.hbm, 103, rfl⟩
abbrev main_call1_v7 : Ref sig .tc := ⟨.hbm, 104, rfl⟩
abbrev main_v65_1 : Ref sig .tc := ⟨.hbm, 105, rfl⟩
abbrev main_v65_0 : Ref sig .tc := ⟨.hbm, 106, rfl⟩
abbrev main_v66 : Ref sig .tc := ⟨.hbm, 107, rfl⟩
abbrev main_cst_2 : Ref sig .tc := ⟨.hbm, 108, rfl⟩
abbrev main_v67 : Ref sig .tc := ⟨.hbm, 109, rfl⟩
abbrev main_v68 : Ref sig .tc := ⟨.hbm, 110, rfl⟩
abbrev main_cst_3 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_4 : Ref sig .tc := ⟨.hbm, 117, rfl⟩
abbrev main_v74 : Ref sig .tc := ⟨.hbm, 118, rfl⟩
abbrev main_v75 : Ref sig .tc := ⟨.hbm, 119, rfl⟩
abbrev main_cst_5 : Ref sig .tc := ⟨.hbm, 120, rfl⟩
abbrev main_v76 : Ref sig .tc := ⟨.hbm, 121, rfl⟩
abbrev main_v77 : Ref sig .tc := ⟨.hbm, 122, rfl⟩
abbrev main_cst_6 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_7 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_8 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c : Ref sig .tc := ⟨.hbm, 138, rfl⟩
abbrev main_v90 : Ref sig .tc := ⟨.hbm, 139, rfl⟩
abbrev main_call2_v0 : Ref sig .tc := ⟨.hbm, 140, rfl⟩
abbrev main_call2_c : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_c_0 : Ref sig .tc := ⟨.hbm, 146, rfl⟩
abbrev main_call2_v5 : Ref sig .tc := ⟨.hbm, 147, rfl⟩
abbrev main_v91 : Ref sig .tc := ⟨.hbm, 148, rfl⟩
abbrev main_v92 : Ref sig .tc := ⟨.hbm, 149, rfl⟩
abbrev main_cst_9 : Ref sig .tc := ⟨.hbm, 150, rfl⟩
abbrev main_v93 : Ref sig .tc := ⟨.hbm, 151, rfl⟩
abbrev main_v94_1 : Ref sig .tc := ⟨.hbm, 152, rfl⟩
abbrev main_v94_0 : Ref sig .tc := ⟨.hbm, 153, rfl⟩
abbrev main_call3_cst : Ref sig .tc := ⟨.hbm, 154, rfl⟩
abbrev main_v94_2 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_v104_2 : Ref sig .tc := ⟨.hbm, 172, rfl⟩
abbrev main_call4_cst_1 : Ref sig .tc := ⟨.hbm, 173, rfl⟩
abbrev main_call4_v6 : Ref sig .tc := ⟨.hbm, 174, rfl⟩
abbrev main_call4_v7 : Ref sig .tc := ⟨.hbm, 175, rfl⟩
abbrev main_v104_1 : Ref sig .tc := ⟨.hbm, 176, rfl⟩
abbrev main_v104_0 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_10 : Ref sig .tc := ⟨.hbm, 181, rfl⟩
abbrev main_v108 : Ref sig .tc := ⟨.hbm, 182, rfl⟩
abbrev main_v109 : Ref sig .tc := ⟨.hbm, 183, rfl⟩
abbrev main_cst_11 : Ref sig .tc := ⟨.hbm, 184, rfl⟩
abbrev main_v110 : Ref sig .tc := ⟨.hbm, 185, rfl⟩
abbrev main_v111 : Ref sig .tc := ⟨.hbm, 186, rfl⟩
abbrev main_cst_12 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_13 : Ref sig .tc := ⟨.hbm, 194, rfl⟩
abbrev main_v118 : Ref sig .tc := ⟨.hbm, 195, rfl⟩
abbrev main_v119 : Ref sig .tc := ⟨.hbm, 196, rfl⟩
abbrev main_cst_14 : Ref sig .tc := ⟨.hbm, 197, rfl⟩
abbrev main_v120 : Ref sig .tc := ⟨.hbm, 198, rfl⟩
abbrev main_v121 : Ref sig .tc := ⟨.hbm, 199, rfl⟩
abbrev main_cst_15 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_cst_16 : Ref sig .tc := ⟨.hbm, 208, rfl⟩
abbrev main_v129 : Ref sig .tc := ⟨.hbm, 209, rfl⟩
abbrev main_v130 : Ref sig .tc := ⟨.hbm, 210, rfl⟩
abbrev main_cst_17 : Ref sig .tc := ⟨.hbm, 211, rfl⟩
abbrev main_v131 : Ref sig .tc := ⟨.hbm, 212, rfl⟩
abbrev main_v132 : Ref sig .tc := ⟨.hbm, 213, rfl⟩
abbrev main_cst_18 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_19 : Ref sig .tc := ⟨.hbm, 240, rfl⟩
abbrev main_v155 : Ref sig .tc := ⟨.hbm, 241, rfl⟩
abbrev main_v156 : Ref sig .tc := ⟨.hbm, 242, rfl⟩
abbrev main_cst_20 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_call6_cst : Ref sig .tc := ⟨.hbm, 250, rfl⟩
abbrev main_call6_v0 : Ref sig .tc := ⟨.hbm, 251, rfl⟩
abbrev main_v163 : Ref sig .tc := ⟨.hbm, 252, rfl⟩
abbrev main_v164 : Ref sig .tc := ⟨.hbm, 253, rfl⟩
abbrev main_cst_21 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_22 : Ref sig .tc := ⟨.hbm, 261, rfl⟩
abbrev main_v171 : Ref sig .tc := ⟨.hbm, 262, rfl⟩
abbrev main_v172 : Ref sig .tc := ⟨.hbm, 263, rfl⟩
abbrev main_cst_23 : Ref sig .tc := ⟨.hbm, 264, rfl⟩
abbrev main_v173 : Ref sig .tc := ⟨.hbm, 265, rfl⟩
abbrev main_v174 : Ref sig .tc := ⟨.hbm, 266, rfl⟩
abbrev main_cst_24 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_cst_25 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_cst_26 : Ref sig .tc := ⟨.hbm, 277, rfl⟩
abbrev main_v183 : Ref sig .tc := ⟨.hbm, 278, rfl⟩
abbrev main_v184 : Ref sig .tc := ⟨.hbm, 279, rfl⟩
abbrev main_cst_27 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_call7_v0 : Ref sig .tc := ⟨.hbm, 285, rfl⟩
abbrev main_call7_v1 : Ref sig .tc := ⟨.hbm, 286, rfl⟩
abbrev main_call7_v2 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_cst_28 : Ref sig .tc := ⟨.hbm, 296, rfl⟩
abbrev main_v197 : Ref sig .tc := ⟨.hbm, 297, rfl⟩
abbrev main_v198 : Ref sig .tc := ⟨.hbm, 298, rfl⟩
abbrev main_cst_29 : Ref sig .tc := ⟨.hbm, 299, rfl⟩
abbrev main_v199 : Ref sig .tc := ⟨.hbm, 300, rfl⟩
abbrev main_cst_30 : Ref sig .tc := ⟨.hbm, 301, rfl⟩
abbrev main_v200 : Ref sig .tc := ⟨.hbm, 302, rfl⟩
abbrev main_v201 : Ref sig .tc := ⟨.hbm, 303, rfl⟩
abbrev main_cst_31 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_cst_32 : Ref sig .tc := ⟨.hbm, 309, rfl⟩
abbrev main_v206 : Ref sig .tc := ⟨.hbm, 310, rfl⟩
abbrev main_v207 : Ref sig .tc := ⟨.hbm, 311, rfl⟩
abbrev main_cst_33 : Ref sig .tc := ⟨.hbm, 312, rfl⟩
abbrev main_v208 : Ref sig .tc := ⟨.hbm, 313, rfl⟩
abbrev main_cst_34 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_cst_35 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_cst_36 : Ref sig .tc := ⟨.hbm, 324, rfl⟩
abbrev main_v217 : Ref sig .tc := ⟨.hbm, 325, rfl⟩
abbrev main_v218 : Ref sig .tc := ⟨.hbm, 326, rfl⟩
abbrev main_cst_37 : Ref sig .tc := ⟨.hbm, 327, rfl⟩
abbrev main_v219 : Ref sig .tc := ⟨.hbm, 328, rfl⟩
abbrev main_cst_38 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_cst_39 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_call8_v0 : Ref sig .tc := ⟨.hbm, 340, rfl⟩
abbrev main_call8_v1 : Ref sig .tc := ⟨.hbm, 341, rfl⟩
abbrev main_call8_v2 : Ref sig .tc := ⟨.hbm, 342, rfl⟩
abbrev main_v229 : Ref sig .tc := ⟨.hbm, 343, rfl⟩
abbrev main_cst_40 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩

abbrev nD : Nat := 1
abbrev τ : Topo := Topo.v7x

variable {F : FTy → Type} [FloatOps F]
-- ==== Proof.OutProjBwd.lean ====
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutProjBwd

open Cert.Kernel3Ideal Cert.Kernel3Ideal.Gen
open Cert.Reference3Ideal.Read

variable (m : (ℓ : Loc nD τ sig) → Buf (Elt Ideal) ℓ)

/-- The reference's first result, the gradient of the merged branches. -/
abbrev REFM (c : Dev nD) : FVec Ideal S2x2048x1024 .bf16 :=
  val_main_v13 (F := Ideal) (m ((c : Thread nD τ).loc main_arg0)) (m ((c : Thread nD τ).loc main_arg2)) (m ((c : Thread nD τ).loc main_arg3))

/-- The reference's second result, the gradient of the output projection's weight. -/
abbrev REFW (c : Dev nD) : FVec Ideal S1024x1024 .f32 :=
  val_main_v11 (F := Ideal) (m ((c : Thread nD τ).loc main_arg0)) (m ((c : Thread nD τ).loc main_arg1)) (m ((c : Thread nD τ).loc main_arg3))

/-- The reference's third result, the gradient of the gate. -/
abbrev REFG (c : Dev nD) : FVec Ideal S2x1x1024 .f32 :=
  val_main_v9 (F := Ideal) (m ((c : Thread nD τ).loc main_arg0)) (m ((c : Thread nD τ).loc main_arg1)) (m ((c : Thread nD τ).loc main_arg2))

theorem idx_val : ∀ t : Fin cfg0.N, win0_0.index t = ![t.val / 4, t.val % 4, 0]
    ∧ win0_1.index t = ![t.val / 4, t.val % 4, 0]
    ∧ win0_2.index t = ![0, 0]
    ∧ win0_3.index t = ![t.val / 4, 0, 0]
    ∧ win0_4.index t = ![t.val / 4, t.val % 4, 0]
    ∧ win0_5.index t = ![0, 0]
    ∧ win0_6.index t = ![t.val / 4, 0, 0] :=
  (by decide +kernel : ∀ t : Fin grid0.N, _)

/-- The part of the gradient of the merged branches a point computes. -/
theorem pointM (c : Dev nD) (t : Fin cfg0.N) (y) :
    (outsAt0 m c t.val t.isLt).1 y = REFM m c (((cfg0.win 4).blk t).view.emb y) := by
  have e : (outsAt0 m c t.val t.isLt).1 = k0_pay1 (k0_pay9 (iblk m c 0 t) (iblk m c 2 t) (iblk m c 3 t)) := by
    by_cases p : t.val % 8 = 0
    · rw [outsAt0_A m c t p (by omega)]; funext y; frame_out
    · by_cases q : t.val % 4 = 0
      · rw [outsAt0_C m c t p q]; funext y; frame_out
      · rw [outsAt0_B m c t p q]; funext y; frame_out
  rw [e]
  open_payloads
  pointwise [REFM, val_main_v13, val_main_v12, val_main_v6, val_main_v5, val_main_v1]
  refine Fin.sum_fin_congr fun k => congrArg₂ (fun a b : EReal => a * b) ((EReal.mul_comm _ _).trans ?_) ?_
  all_goals blk_point [iblk, V, idx_val t]

/-- What a point adds to the gradient of the weight. -/
abbrev partW (c : Dev nD) (t : Fin cfg0.N) : FVec Ideal S1024x1024 .f32 :=
  k0_pay2 (k0_pay6 (iblk m c 1 t)) (k0_pay8 (iblk m c 0 t) (iblk m c 3 t)) (k0_pay3 (F := Ideal))

/-- What a point adds to the gradient of the gate. -/
abbrev partG (c : Dev nD) (t : Fin cfg0.N) : FVec Ideal S1x1x1024 .f32 :=
  k0_pay7 (iblk m c 0 t) (iblk m c 1 t) (iblk m c 2 t) (k0_pay4 (F := Ideal))

/-- The first point leaves its own part of the weight's gradient. -/
theorem startW (c : Dev nD) (t : Fin cfg0.N) (p : t.val % 8 = 0) (y : S1024x1024.Idx) :
    (outsAt0 m c t.val t.isLt).2.1 y = (0 : EReal) + partW m c t y := by
  rw [outsAt0_A m c t p (by omega)]; frame_out; exact (zero_add _).symm

/-- Every other point adds its part to what the point before it left. -/
theorem stepW (c : Dev nD) (t : Fin cfg0.N) (p : ¬ t.val % 8 = 0) (y : S1024x1024.Idx) :
    (outsAt0 m c t.val t.isLt).2.1 y
      = ((outsAt0 m c (t.val - 1) (Nat.lt_of_le_of_lt (Nat.sub_le _ _) t.isLt)).2.1 y : EReal) + partW m c t y := by
  by_cases q : t.val % 4 = 0
  · rw [outsAt0_C m c t p q]
    frame_out
    pointwise [k0_pay2, k0_pay3, k0_pay6, k0_pay5, k0_pay8, partW]
  · rw [outsAt0_B m c t p q]
    frame_out
    pointwise [k0_pay2, k0_pay3, k0_pay6, k0_pay5, k0_pay8, partW]

/-- A batch's first point leaves its own part of the gate's gradient. -/
theorem startG (c : Dev nD) (t : Fin cfg0.N) (q : t.val % 4 = 0) (y : S1x1x1024.Idx) :
    (outsAt0 m c t.val t.isLt).2.2 y = (0 : EReal) + partG m c t y := by
  by_cases p : t.val % 8 = 0
  · rw [outsAt0_A m c t p q]; frame_out; exact (zero_add _).symm
  · rw [outsAt0_C m c t p q]; frame_out; exact (zero_add _).symm

/-- A batch's other points add their parts. -/
theorem stepG (c : Dev nD) (t : Fin cfg0.N) (q : ¬ t.val % 4 = 0) (y : S1x1x1024.Idx) :
    (outsAt0 m c t.val t.isLt).2.2 y
      = ((outsAt0 m c (t.val - 1) (Nat.lt_of_le_of_lt (Nat.sub_le _ _) t.isLt)).2.2 y : EReal) + partG m c t y := by
  rw [outsAt0_B m c t (by omega) q]
  frame_out
  pointwise [k0_pay7, k0_pay4, k0_pay5, k0_pay6, partG]

/-- The first result is the reference's. -/
theorem finalM (c : Dev nD) : (dats m 0 c).arrAt 4 (cfgs 0).N = REFM m c := by
  refine (dats m 0 c).arrAt_eq_of_covers 4 _ (by decide +kernel) fun t hf y => ?_
  blk_simp; rw [after0_4]
  exact pointM m c t y

/-- The second result is the reference's. -/
theorem finalW (c : Dev nD) : (dats m 0 c).arrAt 5 (cfgs 0).N = REFW m c := by
  refine (dats m 0 c).arrAt_eq_of_covers 5 _ (by decide +kernel) fun t hf y => ?_
  blk_simp
  rw [after0_5, Pipeline.eq_sum_fin_of_reset_step_apply_of_flush (M := EReal) (fun n h => (outsAt0 m c n h).2.1) 8 (fun _ => 0)
    (fun t => partW m c t) (startW m c) (stepW m c) t ((flush0_5 t).mp hf) _, zero_add]
  pointwise [partW, k0_pay2, k0_pay3, k0_pay6, k0_pay5, k0_pay8, REFW, val_main_v11, val_main_v10, val_main_v6, val_main_v5, val_main_v0]
  rw [Fin.sum_univ_tiles (N := 8) (M := EReal) 2 4 (by norm_num)]
  refine Fin.sum_fin_congr fun b => ?_
  rw [Fin.sum_univ_tiles (N := 2048) (M := EReal) 4 512 (by norm_num)]
  refine Fin.sum_fin_congr fun s => Fin.sum_fin_congr fun k => (EReal.mul_comm _ _).trans ?_
  have e := idx_val ⟨_, Pipeline.run_point_lt_of_flush t ((flush0_5 t).mp hf) (⟨b.val * 4 + s.val, by omega⟩ : Fin 8)⟩
  refine congrArg₂ (fun a b : EReal => a * b) ((EReal.mul_comm _ _).trans (congrArg₂ (fun a b : EReal => a * b) ?_ ?_)) ?_
  all_goals blk_point [iblk, V, idx_val t, e]

/-- The third result is the reference's. -/
theorem finalG (c : Dev nD) : (dats m 0 c).arrAt 6 (cfgs 0).N = REFG m c := by
  refine (dats m 0 c).arrAt_eq_of_covers 6 _ (by decide +kernel) fun t hf y => ?_
  blk_simp
  rw [after0_6, Pipeline.eq_sum_fin_of_reset_step_apply_of_flush (M := EReal) (fun n h => (outsAt0 m c n h).2.2) 4 (fun _ => 0)
    (fun t => partG m c t) (startG m c) (stepG m c) t ((flush0_6 t).mp hf) _, zero_add]
  pointwise [partG, k0_pay7, k0_pay4, k0_pay5, k0_pay6, REFG, val_main_v9, val_main_v8, val_main_v7, val_main_v2, val_main_v0, val_main_v1, val_main_cst]
  rw [Fin.sum_univ_tiles (N := 2048) (M := EReal) 4 512 (by norm_num)]
  refine Fin.sum_fin_congr fun s => ?_
  have e := idx_val ⟨_, Pipeline.run_point_lt_of_flush t ((flush0_6 t).mp hf) s⟩
  refine Fin.sum_fin_congr fun k => congrArg₂ (fun a b : EReal => a * b) ?_ (Fin.sum_fin_congr fun j => congrArg₂ (fun a b : EReal => a * b) ?_ ?_)
  all_goals blk_point [iblk, V, idx_val t, e]

end Cert.OutProjBwd

end
-- ==== Proof.InProjBwdH.lean ====
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjBwdH

open Cert.Kernel4Ideal Cert.Kernel4Ideal.Gen
open Cert.Reference4Ideal.Read

variable (m : (ℓ : Loc nD τ sig) → Buf (Elt Ideal) ℓ)

/-- The reference's result, as a function of the kernel's two arguments. -/
abbrev REF (c : Dev nD) : FVec Ideal S2x2048x1024 .f32 :=
  val_main_v10 (F := Ideal) (m ((c : Thread nD τ).loc main_arg0)) (m ((c : Thread nD τ).loc main_arg1))

theorem idx_val : ∀ t : Fin cfg0.N, win0_0.index t = ![2 * (t.val % 6), t.val / 12, t.val / 6 % 2, 0]
    ∧ win0_1.index t = ![2 * (t.val % 6) + 1, t.val / 12, t.val / 6 % 2, 0]
    ∧ win0_2.index t = ![4 * (t.val % 6) / 3, 0, 4 * (t.val % 6) % 3]
    ∧ win0_3.index t = ![(4 * (t.val % 6) + 1) / 3, 0, (4 * (t.val % 6) + 1) % 3]
    ∧ win0_4.index t = ![(4 * (t.val % 6) + 2) / 3, 0, (4 * (t.val % 6) + 2) % 3]
    ∧ win0_5.index t = ![(4 * (t.val % 6) + 3) / 3, 0, (4 * (t.val % 6) + 3) % 3]
    ∧ win0_7.index t = ![t.val / 12, t.val / 6 % 2, 0] :=
  (by decide +kernel : ∀ t : Fin grid0.N, _)

/-- What grid point `t` adds to its block of the result. -/
abbrev part (c : Dev nD) (t : Fin cfg0.N) : FVec Ideal S1x1024x1024 .f32 :=
  k0_pay2 (iblk m c 0 t) (iblk m c 2 t) (iblk m c 3 t) (iblk m c 1 t) (iblk m c 4 t) (iblk m c 5 t)

theorem start (c : Dev nD) (t : Fin cfg0.N) (h : t.val % 6 = 0) (y) :
    outsAt0 m c t.val t.isLt y = (0 : EReal) + part m c t y := by
  rw [outsAt0_A m c t h (by omega)]; frame_out; exact (zero_add _).symm

theorem step (c : Dev nD) (t : Fin cfg0.N) (h : ¬ t.val % 6 = 0) (y) :
    outsAt0 m c t.val t.isLt y
      = (show EReal from outsAt0 m c (t.val - 1) (Nat.lt_of_le_of_lt (Nat.sub_le _ _) t.isLt) y) + part m c t y := by
  rw [outsAt0_B m c t h (by omega)]; frame_out
  pointwise [k0_pay3, part, k0_pay2]

theorem final (c : Dev nD) : (dats m 0 c).arrAt 7 (cfgs 0).N = REF m c := by
  refine (dats m 0 c).arrAt_eq_of_covers 7 _ (by decide +kernel) fun t hf y => ?_
  blk_simp
  rw [after0_7, Pipeline.eq_sum_fin_of_reset_step_apply_of_flush (M := EReal) (fun n h => outsAt0 m c n h) 6 (fun _ => 0)
    (fun t => part m c t) (start m c) (step m c) t ((flush0_7 t).mp hf) _, zero_add]
  pointwise [part, k0_pay2, k0_pay1, REF, val_main_v10, val_main_v9, val_main_v8, val_main_v7, val_main_v6, val_main_v5, val_main_v3, val_main_v2, val_main_v1]
  rw [Fin.sum_univ_tiles (N := 12288) (M := EReal) 6 2048 (by norm_num)]
  refine Fin.sum_fin_congr fun s => ?_
  rw [Fin.sum_univ_tiles (N := 2048) (M := EReal) 4 512 (by norm_num), Fin.sum_univ_four]
  simp only [add_assoc, show ((0 : Fin 4) : ℕ) = 0 from rfl, show ((1 : Fin 4) : ℕ) = 1 from rfl,
    show ((2 : Fin 4) : ℕ) = 2 from rfl, show ((3 : Fin 4) : ℕ) = 3 from rfl]
  have e := idx_val ⟨_, Pipeline.run_point_lt_of_flush t ((flush0_7 t).mp hf) s⟩
  refine congrArg₂ (fun a b : EReal => a + b) ?_ (congrArg₂ (fun a b : EReal => a + b) ?_ (congrArg₂ (fun a b : EReal => a + b) ?_ ?_))
  all_goals blk_point [iblk, V, idx_val t, e]

end Cert.InProjBwdH

end
-- ==== Proof.InProjBwdW.lean ====
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InProjBwdW

open Cert.Kernel5Ideal Cert.Kernel5Ideal.Gen
open Cert.Reference5Ideal.Read

variable (m : (ℓ : Loc nD τ sig) → Buf (Elt Ideal) ℓ)

/-- The reference's result, as a function of the kernel's two arguments. -/
abbrev REF (c : Dev nD) : FVec Ideal S24x1024x512 .bf16 :=
  val_main_v13 (F := Ideal) (m ((c : Thread nD τ).loc main_arg0)) (m ((c : Thread nD τ).loc main_arg1))

theorem idx_val : ∀ t : Fin cfg0.N, win0_0.index t = ![t.val % 2, 0, 0]
    ∧ win0_1.index t = ![t.val / 2, t.val % 2, 0, 0]
    ∧ win0_3.index t = ![t.val / 2, 0, 0] :=
  (by decide +kernel : ∀ t : Fin grid0.N, _)

/-- The accumulator after the first of a segment's two points: that point's product. -/
theorem scratch (c : Dev nD) (t : Fin cfg0.N) (h : t.val % 2 = 0) :
    (outsAt0 m c t.val t.isLt).2 = k0_pay2 k0_pay1 (iblk m c 0 t) (iblk m c 1 t) := by
  rw [outsAt0_A m c t h (by omega)]
  funext y
  frame_out

/-- What the second of a segment's two points writes back: the two batches' products added up. -/
theorem point (c : Dev nD) (t : Fin cfg0.N) (odd : t.val % 2 = 1) (y) :
    (outsAt0 m c t.val t.isLt).1 y = REF m c (((cfg0.win 3).blk t).view.emb y) := by
  have sc := scratch m c ⟨t.val - 1, Nat.lt_of_le_of_lt (Nat.sub_le _ _) t.isLt⟩ (by show (t.val - 1) % 2 = 0; omega)
  rw [outsAt0_B m c t (by omega) odd, sc]
  frame_out
  canon_tiles x h
  all_goals rw [View.readCov_fill _ _ _ _ _ (by decide)]
  all_goals simp only [read_unread_whole]
  all_goals (open_payloads; pointwise [REF, val_main_v13, val_main_v12, val_main_v11, val_main_v10, val_main_v9, val_main_v8, val_main_v7, val_main_v6, val_main_v1, val_main_v0])
  all_goals
    rw [Fin.sum_univ_two (M := EReal)]
    refine congrArg₂ (fun a b : EReal => a + b) (Fin.sum_fin_congr fun k => (EReal.mul_comm _ _).trans ?_)
      (Fin.sum_fin_congr fun k => (EReal.mul_comm _ _).trans ?_)
  all_goals blk_point [iblk, V, idx_val t, idx_val ⟨t.val - 1, Nat.lt_of_le_of_lt (Nat.sub_le _ _) t.isLt⟩]

theorem final (c : Dev nD) : (dats m 0 c).arrAt 3 (cfgs 0).N = REF m c := by
  refine (dats m 0 c).arrAt_eq_of_covers 3 _ (by decide +kernel) fun t hf y => ?_
  blk_simp; rw [after0_3]
  exact point m c t ((flush0_3 t).mp hf) y

end Cert.InProjBwdW

end
-- ==== Proof.InProj.lean ====
module

public import proofs.«01_k».proof.Proof.Gen.Kernel6Ideal.Frame
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProj

open Cert.Kernel6Ideal Cert.Kernel6Ideal.Gen
open Cert.Reference6Ideal.Read

variable (m : (ℓ : Loc nD τ sig) → Buf (Elt Ideal) ℓ)

/-- The reference's result, as a function of the kernel's two arguments. -/
abbrev REF (c : Dev nD) : FVec Ideal S12x2x2048x1024 .bf16 :=
  val_main_v7 (F := Ideal) (m ((c : Thread nD τ).loc main_arg0)) (m ((c : Thread nD τ).loc main_arg1))

theorem idx_val : ∀ t : Fin cfg0.N, win0_0.index t = ![t.val / 12, 0, 0]
    ∧ win0_1.index t = ![2 * (t.val % 12) / 3, 0, 2 * (t.val % 12) % 3]
    ∧ win0_2.index t = ![(2 * (t.val % 12) + 1) / 3, 0, (2 * (t.val % 12) + 1) % 3]
    ∧ win0_4.index t = ![t.val % 12, t.val / 12, 0, 0] :=
  (by decide +kernel : ∀ t : Fin grid0.N, _)

set_option maxHeartbeats 1600000 in
theorem point (c : Dev nD) (t : Fin cfg0.N) (y) :
    out0_4 (iblk m c 0 t) (iblk m c 1 t) (iblk m c 2 t) (iblk m c 3 t) y
      = REF m c (((cfg0.win 4).blk t).view.emb y) := by
  canon_tiles x h
  all_goals (open_payloads; pointwise [REF, val_main_v7, val_main_v6, val_main_v5, val_main_v4, val_main_v3, val_main_v2, val_main_v1, val_main_v0])
  all_goals blk_point [iblk, V, idx_val t]

theorem final (c : Dev nD) : (dats m 0 c).arrAt 4 (cfgs 0).N = REF m c := by
  refine (dats m 0 c).arrAt_eq_of_covers 4 _ (by decide +kernel) fun t hf y => ?_
  blk_simp; rw [after0_4]
  exact point m c t y

end Cert.InProj

end
-- ==== Proof.NormMod.lean ====
module

public import proofs.«01_k».proof.Proof.Gen.Kernel7Ideal.Frame
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NormMod

open Cert.Kernel7Ideal Cert.Kernel7Ideal.Gen
open Cert.Reference7Ideal.Read

variable (m : (ℓ : Loc nD τ sig) → Buf (Elt Ideal) ℓ)

/-- The reference's first result, the modulated norm. -/
abbrev REF (c : Dev nD) : FVec Ideal S2x2048x1024 .bf16 :=
  val_main_v19 (F := Ideal) (m ((c : Thread nD τ).loc main_arg0)) (m ((c : Thread nD τ).loc main_arg1)) (m ((c : Thread nD τ).loc main_arg2)) (m ((c : Thread nD τ).loc main_arg3))

/-- The reference's second result, the transposed modulated norm. -/
abbrev REFT (c : Dev nD) : FVec Ideal S2x1024x2048 .bf16 :=
  val_main_v21 (F := Ideal) (m ((c : Thread nD τ).loc main_arg0)) (m ((c : Thread nD τ).loc main_arg1)) (m ((c : Thread nD τ).loc main_arg2)) (m ((c : Thread nD τ).loc main_arg3))

theorem idx_val : ∀ t : Fin cfg0.N, win0_0.index t = ![t.val / 4, t.val % 4, 0]
    ∧ win0_1.index t = ![0, 0]
    ∧ win0_2.index t = ![t.val / 4, 0, 0]
    ∧ win0_3.index t = ![t.val / 4, 0, 0]
    ∧ win0_4.index t = ![t.val / 4, t.val % 4, 0]
    ∧ win0_5.index t = ![t.val / 4, 0, t.val % 4] :=
  (by decide +kernel : ∀ t : Fin grid0.N, _)

/-- What a point writes back of the modulated norm. -/
theorem point (c : Dev nD) (t : Fin cfg0.N) (y) :
    out0_4 (iblk m c 0 t) (iblk m c 1 t) (iblk m c 2 t) (iblk m c 3 t) y = REF m c (((cfg0.win 4).blk t).view.emb y) := by
  canon_tiles x h
  all_goals (open_payloads; pointwise [REF, val_main_v19, val_main_v18, val_main_v16, val_main_v12, val_main_v9, val_main_v8, val_main_v7, val_main_v6, val_main_v4, val_main_v2, val_main_v1, val_main_v0, val_main_cst, val_main_v3, val_main_cst_0, val_main_v5, val_main_cst_1, val_main_v11, val_main_v10, val_main_v15, val_main_v14, val_main_v13, val_main_cst_2, val_main_v17])
  all_goals blk_point [iblk, V, idx_val t]

/-- What a point writes back of its transpose. -/
theorem pointT (c : Dev nD) (t : Fin cfg0.N) (y) :
    out0_5 (iblk m c 0 t) (iblk m c 1 t) (iblk m c 2 t) (iblk m c 3 t) y = REFT m c (((cfg0.win 5).blk t).view.emb y) := by
  canon_tiles x h
  all_goals (open_payloads; pointwise [REFT, val_main_v21, val_main_v20, val_main_v18, val_main_v16, val_main_v12, val_main_v9, val_main_v8, val_main_v7, val_main_v6, val_main_v4, val_main_v2, val_main_v1, val_main_v0, val_main_cst, val_main_v3, val_main_cst_0, val_main_v5, val_main_cst_1, val_main_v11, val_main_v10, val_main_v15, val_main_v14, val_main_v13, val_main_cst_2, val_main_v17])
  all_goals blk_point [iblk, V, idx_val t]

/-- The first result is the reference's. -/
theorem final (c : Dev nD) : (dats m 0 c).arrAt 4 (cfgs 0).N = REF m c := by
  refine (dats m 0 c).arrAt_eq_of_covers 4 _ (by decide +kernel) fun t hf y => ?_
  blk_simp; rw [after0_4]
  exact point m c t y

/-- The second result is the reference's. -/
theorem finalT (c : Dev nD) : (dats m 0 c).arrAt 5 (cfgs 0).N = REFT m c := by
  refine (dats m 0 c).arrAt_eq_of_covers 5 _ (by decide +kernel) fun t hf y => ?_
  blk_simp; rw [after0_5]
  exact pointT m c t y

end Cert.NormMod

end
-- ==== Proof.OutProjNorm.lean ====
module

public import proofs.«01_k».proof.Proof.Gen.Kernel8Ideal.Frame
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutProjNorm

open Cert.Kernel8Ideal Cert.Kernel8Ideal.Gen
open Cert.Reference8Ideal.Read

variable (m : (ℓ : Loc nD τ sig) → Buf (Elt Ideal) ℓ)

/-- The reference's first result, the layer's output. -/
abbrev REFX (c : Dev nD) : FVec Ideal S2x2048x1024 .f32 :=
  val_main_v5 (F := Ideal) (m ((c : Thread nD τ).loc main_arg0)) (m ((c : Thread nD τ).loc main_arg1)) (m ((c : Thread nD τ).loc main_arg2)) (m ((c : Thread nD τ).loc main_arg3))

/-- The reference's second result, the modulated norm of that output. -/
abbrev REF (c : Dev nD) : FVec Ideal S2x2048x1024 .bf16 :=
  val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's third result, the transpose of the second. -/
abbrev REFT (c : Dev nD) : FVec Ideal S2x1024x2048 .bf16 :=
  val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem idx_val : ∀ t : Fin cfg0.N, win0_0.index t = ![t.val / 4, t.val % 4, 0]
    ∧ win0_1.index t = ![t.val / 4, t.val % 4, 0]
    ∧ win0_2.index t = ![0, 0]
    ∧ win0_3.index t = ![t.val / 4, 0, 0]
    ∧ win0_4.index t = ![0, 0]
    ∧ win0_5.index t = ![t.val / 4, 0, 0]
    ∧ win0_6.index t = ![t.val / 4, 0, 0]
    ∧ win0_7.index t = ![t.val / 4, t.val % 4, 0]
    ∧ win0_8.index t = ![t.val / 4, t.val % 4, 0]
    ∧ win0_9.index t = ![t.val / 4, 0, t.val % 4] :=
  (by decide +kernel : ∀ t : Fin grid0.N, _)

/-- What a point writes back of the layer's output. -/
theorem pointX (c : Dev nD) (t : Fin cfg0.N) (y) :
    out0_7 (iblk m c 0 t) (iblk m c 1 t) (iblk m c 2 t) (iblk m c 3 t) (iblk m c 4 t) (iblk m c 5 t) (iblk m c 6 t) y = REFX m c (((cfg0.win 7).blk t).view.emb y) := by
  canon_tiles x h
  all_goals (open_payloads; pointwise [REFX, val_main_v5, val_main_v4, val_main_v3, val_main_v2, val_main_v0, val_main_v1])
  all_goals blk_point [iblk, V, idx_val t]

/-- What a point writes back of the modulated norm. -/
theorem point (c : Dev nD) (t : Fin cfg0.N) (y) :
    out0_8 (iblk m c 0 t) (iblk m c 1 t) (iblk m c 2 t) (iblk m c 3 t) (iblk m c 4 t) (iblk m c 5 t) (iblk m c 6 t) y = REF m c (((cfg0.win 8).blk t).view.emb y) := by
  canon_tiles x h
  all_goals (open_payloads; pointwise [REF, val_main_v25, val_main_v24, val_main_v22, val_main_v18, val_main_v15, val_main_v5, val_main_v4, val_main_v3, val_main_v2, val_main_v0, val_main_v1, val_main_v14, val_main_v13, val_main_v12, val_main_v10, val_main_v8, val_main_v7, val_main_v6, val_main_cst, val_main_v9, val_main_cst_0, val_main_v11, val_main_cst_1, val_main_v17, val_main_v16, val_main_v21, val_main_v20, val_main_v19, val_main_cst_2, val_main_v23])
  all_goals blk_point [iblk, V, idx_val t]

/-- What a point writes back of its transpose. -/
theorem pointT (c : Dev nD) (t : Fin cfg0.N) (y) :
    out0_9 (iblk m c 0 t) (iblk m c 1 t) (iblk m c 2 t) (iblk m c 3 t) (iblk m c 4 t) (iblk m c 5 t) (iblk m c 6 t) y = REFT m c (((cfg0.win 9).blk t).view.emb y) := by
  canon_tiles x h
  all_goals (open_payloads; pointwise [REFT, val_main_v27, val_main_v26, val_main_v24, val_main_v22, val_main_v18, val_main_v15, val_main_v5, val_main_v4, val_main_v3, val_main_v2, val_main_v0, val_main_v1, val_main_v14, val_main_v13, val_main_v12, val_main_v10, val_main_v8, val_main_v7, val_main_v6, val_main_cst, val_main_v9, val_main_cst_0, val_main_v11, val_main_cst_1, val_main_v17, val_main_v16, val_main_v21, val_main_v20, val_main_v19, val_main_cst_2, val_main_v23])
  all_goals blk_point [iblk, V, idx_val t]

/-- The first result is the reference's. -/
theorem finalX (c : Dev nD) : (dats m 0 c).arrAt 7 (cfgs 0).N = REFX m c := by
  refine (dats m 0 c).arrAt_eq_of_covers 7 _ (by decide +kernel) fun t hf y => ?_
  blk_simp; rw [after0_7]
  exact pointX m c t y

/-- The second result is the reference's. -/
theorem final (c : Dev nD) : (dats m 0 c).arrAt 8 (cfgs 0).N = REF m c := by
  refine (dats m 0 c).arrAt_eq_of_covers 8 _ (by decide +kernel) fun t hf y => ?_
  blk_simp; rw [after0_8]
  exact point m c t y

/-- The third result is the reference's. -/
theorem finalT (c : Dev nD) : (dats m 0 c).arrAt 9 (cfgs 0).N = REFT m c := by
  refine (dats m 0 c).arrAt_eq_of_covers 9 _ (by decide +kernel) fun t hf y => ?_
  blk_simp; rw [after0_9]
  exact pointT m c t y

end Cert.OutProjNorm

end
-- ==== Proof.ModProj.lean ====
module

public import proofs.«01_k».proof.Proof.Gen.Kernel10Ideal.Frame
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ModProj

open Cert.Kernel10Ideal Cert.Kernel10Ideal.Gen
open Cert.Reference10Ideal.Read

variable (m : (ℓ : Loc nD τ sig) → Buf (Elt Ideal) ℓ)

/-- The reference's result. -/
abbrev REF (c : Dev nD) : FVec Ideal S4x16x384 .f32 :=
  val_main_v4 (F := Ideal) (m ((c : Thread nD τ).loc main_arg0)) (m ((c : Thread nD τ).loc main_arg1)) (m ((c : Thread nD τ).loc main_arg2))

theorem idx_val : ∀ t : Fin cfg0.N, win0_0.index t = ![0, 0]
    ∧ win0_1.index t = ![t.val, 0, 0]
    ∧ win0_2.index t = ![t.val, 0, 0]
    ∧ win0_3.index t = ![t.val, 0, 0] :=
  (by decide +kernel : ∀ t : Fin grid0.N, _)

theorem point (c : Dev nD) (t : Fin cfg0.N) (y) :
    out0_3 (iblk m c 0 t) (iblk m c 1 t) (iblk m c 2 t) y = REF m c (((cfg0.win 3).blk t).view.emb y) := by
  canon_tiles x h
  all_goals (open_payloads; pointwise [REF, Ideal.logistic, val_main_v4, val_main_v2, val_main_v1, val_main_v0, val_main_call0_v5, val_main_call0_v4, val_main_call0_cst_0, val_main_call0_v3, val_main_call0_v2, val_main_call0_cst, val_main_call0_v1, val_main_call0_v0, val_main_v3])
  all_goals refine congrArg₂ (fun a b : EReal => a + b) (Fin.sum_fin_congr fun k => ?_) ?_
  · rw [mul_comm (G := EReal)]
    blk_point [iblk, V, idx_val t]
  · blk_point [iblk, V, idx_val t]

theorem final (c : Dev nD) : (dats m 0 c).arrAt 3 (cfgs 0).N = REF m c := by
  refine (dats m 0 c).arrAt_eq_of_covers 3 _ (by decide +kernel) fun t hf y => ?_
  blk_simp; rw [after0_3]
  exact point m c t y

end Cert.ModProj

end
-- ==== Proof.ModGrad.lean ====
module

public import proofs.«01_k».proof.Proof.Gen.Kernel11Ideal.Frame
public import proofs.«01_k».proof.Proof.Gen.Reference11Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ModGrad

open Cert.Kernel11Ideal Cert.Kernel11Ideal.Gen
open Cert.Reference11Ideal.Read

variable (m : (ℓ : Loc nD τ sig) → Buf (Elt Ideal) ℓ)

/-- The reference's gradient of the weight. -/
abbrev REFW (c : Dev nD) : FVec Ideal S4x1024x384 .f32 :=
  val_main_v10 (F := Ideal) (m ((c : Thread nD τ).loc main_arg0)) (m ((c : Thread nD τ).loc main_arg2))

/-- The reference's gradient of the bias. -/
abbrev REFB (c : Dev nD) : FVec Ideal S4x1x3072 .f32 :=
  val_main_v7 (F := Ideal) (m ((c : Thread nD τ).loc main_arg1))

theorem idx_val : ∀ t : Fin cfg0.N, win0_0.index t = ![0, 0]
    ∧ win0_1.index t = ![t.val, 0, 0]
    ∧ win0_2.index t = ![t.val, 0, 0]
    ∧ win0_3.index t = ![t.val, 0, 0]
    ∧ win0_4.index t = ![t.val, 0, 0] :=
  (by decide +kernel : ∀ t : Fin grid0.N, _)

theorem pointW (c : Dev nD) (t : Fin cfg0.N) (y) :
    out0_3 (iblk m c 0 t) (iblk m c 1 t) (iblk m c 2 t) y = REFW m c (((cfg0.win 3).blk t).view.emb y) := by
  canon_tiles x h
  all_goals (open_payloads; pointwise [REFW, Ideal.logistic, val_main_v10, val_main_v9, val_main_v8, val_main_v2, val_main_call0_v5, val_main_call0_v4, val_main_call0_cst_0, val_main_call0_v3, val_main_call0_v2, val_main_call0_cst, val_main_call0_v1, val_main_call0_v0])
  all_goals refine Fin.sum_fin_congr fun k => ?_
  all_goals rw [mul_comm (G := EReal)]
  all_goals blk_point [iblk, V, idx_val t]

theorem finalW (c : Dev nD) : (dats m 0 c).arrAt 3 (cfgs 0).N = REFW m c := by
  refine (dats m 0 c).arrAt_eq_of_covers 3 _ (by decide +kernel) fun t hf y => ?_
  blk_simp; rw [after0_3]
  exact pointW m c t y

theorem pointB (c : Dev nD) (t : Fin cfg0.N) (y) :
    out0_4 (iblk m c 0 t) (iblk m c 1 t) (iblk m c 2 t) y = REFB m c (((cfg0.win 4).blk t).view.emb y) := by
  canon_tiles x h
  all_goals (open_payloads; pointwise [REFB, val_main_v7, val_main_v6, val_main_cst_1])
  all_goals blk_point [iblk, V, idx_val t]

theorem finalB (c : Dev nD) : (dats m 0 c).arrAt 4 (cfgs 0).N = REFB m c := by
  refine (dats m 0 c).arrAt_eq_of_covers 4 _ (by decide +kernel) fun t hf y => ?_
  blk_simp; rw [after0_4]
  exact pointB m c t y

end Cert.ModGrad

end
-- ==== Proof.AdamWMod.lean ====
module

public import proofs.«01_k».proof.Proof.Gen.Kernel12Ideal.Frame
public import proofs.«01_k».proof.Proof.Gen.Reference12Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamWMod

open Cert.Kernel12Ideal Cert.Kernel12Ideal.Gen
open Cert.Reference12Ideal.Read

variable (m : (ℓ : Loc nD τ sig) → Buf (Elt Ideal) ℓ)

/-- The reference's summed gradient. -/
abbrev REFG (c : Dev nD) : FVec Ideal S4096x384 .f32 :=
  val_main_v0 (F := Ideal) (m ((c : Thread nD τ).loc main_arg0))

/-- The reference's step. -/
abbrev REFD (c : Dev nD) : FVec Ideal S4096x384 .f32 :=
  val_main_v24 (F := Ideal) (m ((c : Thread nD τ).loc main_arg0)) (m ((c : Thread nD τ).loc main_arg1)) (m ((c : Thread nD τ).loc main_arg2)) (m ((c : Thread nD τ).loc main_arg3))

/-- The reference's first moment. -/
abbrev REFM (c : Dev nD) : FVec Ideal S4096x384 .f32 :=
  val_main_v5 (F := Ideal) (m ((c : Thread nD τ).loc main_arg0)) (m ((c : Thread nD τ).loc main_arg2))

/-- The reference's second moment. -/
abbrev REFV (c : Dev nD) : FVec Ideal S4096x384 .f32 :=
  val_main_v11 (F := Ideal) (m ((c : Thread nD τ).loc main_arg0)) (m ((c : Thread nD τ).loc main_arg3))

theorem idx_val : ∀ t : Fin cfg0.N, win0_0.index t = ![0, 0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- What a point writes back of the summed gradient. -/
theorem pointG (c : Dev nD) (t : Fin cfg0.N) (y) :
    out0_4 (iblk m c 0 t) (iblk m c 1 t) (iblk m c 2 t) (iblk m c 3 t) y = REFG m c (((cfg0.win 4).blk t).view.emb y) := by
  canon_tiles x h
  all_goals (open_payloads; pointwise [REFG, val_main_v0])
  all_goals blk_point [iblk, V, idx_val t]

/-- The summed gradient is the reference's. -/
theorem finalG (c : Dev nD) : (dats m 0 c).arrAt 4 (cfgs 0).N = REFG m c := by
  refine (dats m 0 c).arrAt_eq_of_covers 4 _ (by decide +kernel) fun t hf y => ?_
  blk_simp; rw [after0_4]
  exact pointG m c t y

/-- What a point writes back of the step. -/
theorem pointD (c : Dev nD) (t : Fin cfg0.N) (y) :
    out0_5 (iblk m c 0 t) (iblk m c 1 t) (iblk m c 2 t) (iblk m c 3 t) y = REFD m c (((cfg0.win 5).blk t).view.emb y) := by
  canon_tiles x h
  all_goals (open_payloads; pointwise [REFD, val_main_v24, val_main_v23, val_main_cst_7, val_main_v22, val_main_v19, val_main_v13, val_main_v5, val_main_v2, val_main_v1, val_main_cst, val_main_v4, val_main_v3, val_main_cst_0, val_main_v0, val_main_v12, val_main_cst_3, val_main_v18, val_main_v16, val_main_v15, val_main_v11, val_main_v7, val_main_v6, val_main_cst_1, val_main_v10, val_main_v9, val_main_cst_2, val_main_v8, val_main_v14, val_main_cst_4, val_main_v17, val_main_cst_5, val_main_v21, val_main_v20, val_main_cst_6])
  all_goals blk_point [iblk, V, idx_val t]

/-- The step is the reference's. -/
theorem finalD (c : Dev nD) : (dats m 0 c).arrAt 5 (cfgs 0).N = REFD m c := by
  refine (dats m 0 c).arrAt_eq_of_covers 5 _ (by decide +kernel) fun t hf y => ?_
  blk_simp; rw [after0_5]
  exact pointD m c t y

/-- What a point writes back of the first moment. -/
theorem pointM (c : Dev nD) (t : Fin cfg0.N) (y) :
    out0_6 (iblk m c 0 t) (iblk m c 1 t) (iblk m c 2 t) (iblk m c 3 t) y = REFM m c (((cfg0.win 6).blk t).view.emb y) := by
  canon_tiles x h
  all_goals (open_payloads; pointwise [REFM, val_main_v5, val_main_v2, val_main_v1, val_main_cst, val_main_v4, val_main_v3, val_main_cst_0, val_main_v0])
  all_goals blk_point [iblk, V, idx_val t]

/-- The first moment is the reference's. -/
theorem finalM (c : Dev nD) : (dats m 0 c).arrAt 6 (cfgs 0).N = REFM m c := by
  refine (dats m 0 c).arrAt_eq_of_covers 6 _ (by decide +kernel) fun t hf y => ?_
  blk_simp; rw [after0_6]
  exact pointM m c t y

/-- What a point writes back of the second moment. -/
theorem pointV (c : Dev nD) (t : Fin cfg0.N) (y) :
    out0_7 (iblk m c 0 t) (iblk m c 1 t) (iblk m c 2 t) (iblk m c 3 t) y = REFV m c (((cfg0.win 7).blk t).view.emb y) := by
  canon_tiles x h
  all_goals (open_payloads; pointwise [REFV, val_main_v11, val_main_v7, val_main_v6, val_main_cst_1, val_main_v10, val_main_v9, val_main_cst_2, val_main_v8, val_main_v0])
  all_goals blk_point [iblk, V, idx_val t]

/-- The second moment is the reference's. -/
theorem finalV (c : Dev nD) : (dats m 0 c).arrAt 7 (cfgs 0).N = REFV m c := by
  refine (dats m 0 c).arrAt_eq_of_covers 7 _ (by decide +kernel) fun t hf y => ?_
  blk_simp; rw [after0_7]
  exact pointV m c t y

end Cert.AdamWMod

end
-- ==== Proof.AdamBMod.lean ====
module

public import proofs.«01_k».proof.Proof.Gen.Kernel13Ideal.Frame
public import proofs.«01_k».proof.Proof.Gen.Reference13Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamBMod

open Cert.Kernel13Ideal Cert.Kernel13Ideal.Gen
open Cert.Reference13Ideal.Read

variable (m : (ℓ : Loc nD τ sig) → Buf (Elt Ideal) ℓ)

/-- The reference's summed gradient. -/
abbrev REFG (c : Dev nD) : FVec Ideal S4x3072 .f32 :=
  val_main_v0 (F := Ideal) (m ((c : Thread nD τ).loc main_arg0))

/-- The reference's step. -/
abbrev REFD (c : Dev nD) : FVec Ideal S4x3072 .f32 :=
  val_main_v24 (F := Ideal) (m ((c : Thread nD τ).loc main_arg0)) (m ((c : Thread nD τ).loc main_arg1)) (m ((c : Thread nD τ).loc main_arg2)) (m ((c : Thread nD τ).loc main_arg3))

/-- The reference's first moment. -/
abbrev REFM (c : Dev nD) : FVec Ideal S4x3072 .f32 :=
  val_main_v5 (F := Ideal) (m ((c : Thread nD τ).loc main_arg0)) (m ((c : Thread nD τ).loc main_arg2))

/-- The reference's second moment. -/
abbrev REFV (c : Dev nD) : FVec Ideal S4x3072 .f32 :=
  val_main_v11 (F := Ideal) (m ((c : Thread nD τ).loc main_arg0)) (m ((c : Thread nD τ).loc main_arg3))

theorem idx_val : ∀ t : Fin cfg0.N, win0_0.index t = ![0, 0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What a point writes back of the summed gradient. -/
theorem pointG (c : Dev nD) (t : Fin cfg0.N) (y) :
    out0_4 (iblk m c 0 t) (iblk m c 1 t) (iblk m c 2 t) (iblk m c 3 t) y = REFG m c (((cfg0.win 4).blk t).view.emb y) := by
  canon_tiles x h
  all_goals (open_payloads; pointwise [REFG, val_main_v0])
  all_goals blk_point [iblk, V, idx_val t]

/-- The summed gradient is the reference's. -/
theorem finalG (c : Dev nD) : (dats m 0 c).arrAt 4 (cfgs 0).N = REFG m c := by
  refine (dats m 0 c).arrAt_eq_of_covers 4 _ (by decide +kernel) fun t hf y => ?_
  blk_simp; rw [after0_4]
  exact pointG m c t y

/-- What a point writes back of the step. -/
theorem pointD (c : Dev nD) (t : Fin cfg0.N) (y) :
    out0_5 (iblk m c 0 t) (iblk m c 1 t) (iblk m c 2 t) (iblk m c 3 t) y = REFD m c (((cfg0.win 5).blk t).view.emb y) := by
  canon_tiles x h
  all_goals (open_payloads; pointwise [REFD, val_main_v24, val_main_v23, val_main_cst_7, val_main_v22, val_main_v19, val_main_v13, val_main_v5, val_main_v2, val_main_v1, val_main_cst, val_main_v4, val_main_v3, val_main_cst_0, val_main_v0, val_main_v12, val_main_cst_3, val_main_v18, val_main_v16, val_main_v15, val_main_v11, val_main_v7, val_main_v6, val_main_cst_1, val_main_v10, val_main_v9, val_main_cst_2, val_main_v8, val_main_v14, val_main_cst_4, val_main_v17, val_main_cst_5, val_main_v21, val_main_v20, val_main_cst_6])
  all_goals blk_point [iblk, V, idx_val t]

/-- The step is the reference's. -/
theorem finalD (c : Dev nD) : (dats m 0 c).arrAt 5 (cfgs 0).N = REFD m c := by
  refine (dats m 0 c).arrAt_eq_of_covers 5 _ (by decide +kernel) fun t hf y => ?_
  blk_simp; rw [after0_5]
  exact pointD m c t y

/-- What a point writes back of the first moment. -/
theorem pointM (c : Dev nD) (t : Fin cfg0.N) (y) :
    out0_6 (iblk m c 0 t) (iblk m c 1 t) (iblk m c 2 t) (iblk m c 3 t) y = REFM m c (((cfg0.win 6).blk t).view.emb y) := by
  canon_tiles x h
  all_goals (open_payloads; pointwise [REFM, val_main_v5, val_main_v2, val_main_v1, val_main_cst, val_main_v4, val_main_v3, val_main_cst_0, val_main_v0])
  all_goals blk_point [iblk, V, idx_val t]

/-- The first moment is the reference's. -/
theorem finalM (c : Dev nD) : (dats m 0 c).arrAt 6 (cfgs 0).N = REFM m c := by
  refine (dats m 0 c).arrAt_eq_of_covers 6 _ (by decide +kernel) fun t hf y => ?_
  blk_simp; rw [after0_6]
  exact pointM m c t y

/-- What a point writes back of the second moment. -/
theorem pointV (c : Dev nD) (t : Fin cfg0.N) (y) :
    out0_7 (iblk m c 0 t) (iblk m c 1 t) (iblk m c 2 t) (iblk m c 3 t) y = REFV m c (((cfg0.win 7).blk t).view.emb y) := by
  canon_tiles x h
  all_goals (open_payloads; pointwise [REFV, val_main_v11, val_main_v7, val_main_v6, val_main_cst_1, val_main_v10, val_main_v9, val_main_cst_2, val_main_v8, val_main_v0])
  all_goals blk_point [iblk, V, idx_val t]

/-- The second moment is the reference's. -/
theorem finalV (c : Dev nD) : (dats m 0 c).arrAt 7 (cfgs 0).N = REFV m c := by
  refine (dats m 0 c).arrAt_eq_of_covers 7 _ (by decide +kernel) fun t hf y => ?_
  blk_simp; rw [after0_7]
  exact pointV m c t y

end Cert.AdamBMod

end
-- ==== Proof.AdamGain.lean ====
module

public import proofs.«01_k».proof.Proof.Gen.Kernel14Ideal.Frame
public import proofs.«01_k».proof.Proof.Gen.Reference14Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamGain

open Cert.Kernel14Ideal Cert.Kernel14Ideal.Gen
open Cert.Reference14Ideal.Read

variable (m : (ℓ : Loc nD τ sig) → Buf (Elt Ideal) ℓ)

/-- The reference's summed gradient. -/
abbrev REFG (c : Dev nD) : FVec Ideal S5x1024 .f32 :=
  val_main_v1 (F := Ideal) (m ((c : Thread nD τ).loc main_arg0))

/-- The reference's step. -/
abbrev REFD (c : Dev nD) : FVec Ideal S5x1024 .f32 :=
  val_main_v25 (F := Ideal) (m ((c : Thread nD τ).loc main_arg0)) (m ((c : Thread nD τ).loc main_arg1)) (m ((c : Thread nD τ).loc main_arg2)) (m ((c : Thread nD τ).loc main_arg3))

/-- The reference's first moment. -/
abbrev REFM (c : Dev nD) : FVec Ideal S5x1024 .f32 :=
  val_main_v6 (F := Ideal) (m ((c : Thread nD τ).loc main_arg0)) (m ((c : Thread nD τ).loc main_arg2))

/-- The reference's second moment. -/
abbrev REFV (c : Dev nD) : FVec Ideal S5x1024 .f32 :=
  val_main_v12 (F := Ideal) (m ((c : Thread nD τ).loc main_arg0)) (m ((c : Thread nD τ).loc main_arg3))

theorem idx_val : ∀ t : Fin cfg0.N, win0_0.index t = ![0, 0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What a point writes back of the summed gradient. -/
theorem pointG (c : Dev nD) (t : Fin cfg0.N) (y) :
    out0_4 (iblk m c 0 t) (iblk m c 1 t) (iblk m c 2 t) (iblk m c 3 t) y = REFG m c (((cfg0.win 4).blk t).view.emb y) := by
  canon_tiles x h
  all_goals (open_payloads; pointwise [REFG, val_main_v1, val_main_v0, val_main_cst])
  all_goals rw [Fin.sum_univ_eight (M := EReal)]
  all_goals blk_point [iblk, V, idx_val t]

/-- The summed gradient is the reference's. -/
theorem finalG (c : Dev nD) : (dats m 0 c).arrAt 4 (cfgs 0).N = REFG m c := by
  refine (dats m 0 c).arrAt_eq_of_covers 4 _ (by decide +kernel) fun t hf y => ?_
  blk_simp; rw [after0_4]
  exact pointG m c t y

/-- What a point writes back of the step. -/
theorem pointD (c : Dev nD) (t : Fin cfg0.N) (y) :
    out0_5 (iblk m c 0 t) (iblk m c 1 t) (iblk m c 2 t) (iblk m c 3 t) y = REFD m c (((cfg0.win 5).blk t).view.emb y) := by
  canon_tiles x h
  all_goals (open_payloads; pointwise [REFD, val_main_v25, val_main_v24, val_main_cst_8, val_main_v23, val_main_v20, val_main_v14, val_main_v6, val_main_v3, val_main_v2, val_main_cst_0, val_main_v5, val_main_v4, val_main_cst_1, val_main_v1, val_main_v0, val_main_cst, val_main_v13, val_main_cst_4, val_main_v19, val_main_v17, val_main_v16, val_main_v12, val_main_v8, val_main_v7, val_main_cst_2, val_main_v11, val_main_v10, val_main_cst_3, val_main_v9, val_main_v15, val_main_cst_5, val_main_v18, val_main_cst_6, val_main_v22, val_main_v21, val_main_cst_7])
  all_goals rw [Fin.sum_univ_eight (M := EReal)]
  all_goals blk_point [iblk, V, idx_val t]

/-- The step is the reference's. -/
theorem finalD (c : Dev nD) : (dats m 0 c).arrAt 5 (cfgs 0).N = REFD m c := by
  refine (dats m 0 c).arrAt_eq_of_covers 5 _ (by decide +kernel) fun t hf y => ?_
  blk_simp; rw [after0_5]
  exact pointD m c t y

/-- What a point writes back of the first moment. -/
theorem pointM (c : Dev nD) (t : Fin cfg0.N) (y) :
    out0_6 (iblk m c 0 t) (iblk m c 1 t) (iblk m c 2 t) (iblk m c 3 t) y = REFM m c (((cfg0.win 6).blk t).view.emb y) := by
  canon_tiles x h
  all_goals (open_payloads; pointwise [REFM, val_main_v6, val_main_v3, val_main_v2, val_main_cst_0, val_main_v5, val_main_v4, val_main_cst_1, val_main_v1, val_main_v0, val_main_cst])
  all_goals rw [Fin.sum_univ_eight (M := EReal)]
  all_goals blk_point [iblk, V, idx_val t]

/-- The first moment is the reference's. -/
theorem finalM (c : Dev nD) : (dats m 0 c).arrAt 6 (cfgs 0).N = REFM m c := by
  refine (dats m 0 c).arrAt_eq_of_covers 6 _ (by decide +kernel) fun t hf y => ?_
  blk_simp; rw [after0_6]
  exact pointM m c t y

/-- What a point writes back of the second moment. -/
theorem pointV (c : Dev nD) (t : Fin cfg0.N) (y) :
    out0_7 (iblk m c 0 t) (iblk m c 1 t) (iblk m c 2 t) (iblk m c 3 t) y = REFV m c (((cfg0.win 7).blk t).view.emb y) := by
  canon_tiles x h
  all_goals (open_payloads; pointwise [REFV, val_main_v12, val_main_v8, val_main_v7, val_main_cst_2, val_main_v11, val_main_v10, val_main_cst_3, val_main_v9, val_main_v1, val_main_v0, val_main_cst])
  all_goals rw [Fin.sum_univ_eight (M := EReal)]
  all_goals blk_point [iblk, V, idx_val t]

/-- The second moment is the reference's. -/
theorem finalV (c : Dev nD) : (dats m 0 c).arrAt 7 (cfgs 0).N = REFV m c := by
  refine (dats m 0 c).arrAt_eq_of_covers 7 _ (by decide +kernel) fun t hf y => ?_
  blk_simp; rw [after0_7]
  exact pointV m c t y

end Cert.AdamGain

end
-- ==== Proof.AdamConv.lean ====
module

public import proofs.«01_k».proof.Proof.Gen.Kernel15Ideal.Frame
public import proofs.«01_k».proof.Proof.Gen.Reference15Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamConv

open Cert.Kernel15Ideal Cert.Kernel15Ideal.Gen
open Cert.Reference15Ideal.Read

variable (m : (ℓ : Loc nD τ sig) → Buf (Elt Ideal) ℓ)

/-- The reference's summed gradient. -/
abbrev REFG (c : Dev nD) : FVec Ideal S28x128 .f32 :=
  val_main_v1 (F := Ideal) (m ((c : Thread nD τ).loc main_arg0))

/-- The reference's step. -/
abbrev REFD (c : Dev nD) : FVec Ideal S28x128 .f32 :=
  val_main_v25 (F := Ideal) (m ((c : Thread nD τ).loc main_arg0)) (m ((c : Thread nD τ).loc main_arg1)) (m ((c : Thread nD τ).loc main_arg2)) (m ((c : Thread nD τ).loc main_arg3))

/-- The reference's first moment. -/
abbrev REFM (c : Dev nD) : FVec Ideal S28x128 .f32 :=
  val_main_v6 (F := Ideal) (m ((c : Thread nD τ).loc main_arg0)) (m ((c : Thread nD τ).loc main_arg2))

/-- The reference's second moment. -/
abbrev REFV (c : Dev nD) : FVec Ideal S28x128 .f32 :=
  val_main_v12 (F := Ideal) (m ((c : Thread nD τ).loc main_arg0)) (m ((c : Thread nD τ).loc main_arg3))

theorem idx_val : ∀ t : Fin cfg0.N, win0_0.index t = ![0, 0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What a point writes back of the summed gradient. -/
theorem pointG (c : Dev nD) (t : Fin cfg0.N) (y) :
    out0_4 (iblk m c 0 t) (iblk m c 1 t) (iblk m c 2 t) (iblk m c 3 t) y = REFG m c (((cfg0.win 4).blk t).view.emb y) := by
  canon_tiles x h
  all_goals (open_payloads; pointwise [REFG, val_main_v1, val_main_v0, val_main_cst])
  all_goals rw [Fin.sum_univ_eight (M := EReal)]
  all_goals blk_point [iblk, V, idx_val t]

/-- The summed gradient is the reference's. -/
theorem finalG (c : Dev nD) : (dats m 0 c).arrAt 4 (cfgs 0).N = REFG m c := by
  refine (dats m 0 c).arrAt_eq_of_covers 4 _ (by decide +kernel) fun t hf y => ?_
  blk_simp; rw [after0_4]
  exact pointG m c t y

/-- What a point writes back of the step. -/
theorem pointD (c : Dev nD) (t : Fin cfg0.N) (y) :
    out0_5 (iblk m c 0 t) (iblk m c 1 t) (iblk m c 2 t) (iblk m c 3 t) y = REFD m c (((cfg0.win 5).blk t).view.emb y) := by
  canon_tiles x h
  all_goals (open_payloads; pointwise [REFD, val_main_v25, val_main_v24, val_main_cst_8, val_main_v23, val_main_v20, val_main_v14, val_main_v6, val_main_v3, val_main_v2, val_main_cst_0, val_main_v5, val_main_v4, val_main_cst_1, val_main_v1, val_main_v0, val_main_cst, val_main_v13, val_main_cst_4, val_main_v19, val_main_v17, val_main_v16, val_main_v12, val_main_v8, val_main_v7, val_main_cst_2, val_main_v11, val_main_v10, val_main_cst_3, val_main_v9, val_main_v15, val_main_cst_5, val_main_v18, val_main_cst_6, val_main_v22, val_main_v21, val_main_cst_7])
  all_goals rw [Fin.sum_univ_eight (M := EReal)]
  all_goals blk_point [iblk, V, idx_val t]

/-- The step is the reference's. -/
theorem finalD (c : Dev nD) : (dats m 0 c).arrAt 5 (cfgs 0).N = REFD m c := by
  refine (dats m 0 c).arrAt_eq_of_covers 5 _ (by decide +kernel) fun t hf y => ?_
  blk_simp; rw [after0_5]
  exact pointD m c t y

/-- What a point writes back of the first moment. -/
theorem pointM (c : Dev nD) (t : Fin cfg0.N) (y) :
    out0_6 (iblk m c 0 t) (iblk m c 1 t) (iblk m c 2 t) (iblk m c 3 t) y = REFM m c (((cfg0.win 6).blk t).view.emb y) := by
  canon_tiles x h
  all_goals (open_payloads; pointwise [REFM, val_main_v6, val_main_v3, val_main_v2, val_main_cst_0, val_main_v5, val_main_v4, val_main_cst_1, val_main_v1, val_main_v0, val_main_cst])
  all_goals rw [Fin.sum_univ_eight (M := EReal)]
  all_goals blk_point [iblk, V, idx_val t]

/-- The first moment is the reference's. -/
theorem finalM (c : Dev nD) : (dats m 0 c).arrAt 6 (cfgs 0).N = REFM m c := by
  refine (dats m 0 c).arrAt_eq_of_covers 6 _ (by decide +kernel) fun t hf y => ?_
  blk_simp; rw [after0_6]
  exact pointM m c t y

/-- What a point writes back of the second moment. -/
theorem pointV (c : Dev nD) (t : Fin cfg0.N) (y) :
    out0_7 (iblk m c 0 t) (iblk m c 1 t) (iblk m c 2 t) (iblk m c 3 t) y = REFV m c (((cfg0.win 7).blk t).view.emb y) := by
  canon_tiles x h
  all_goals (open_payloads; pointwise [REFV, val_main_v12, val_main_v8, val_main_v7, val_main_cst_2, val_main_v11, val_main_v10, val_main_cst_3, val_main_v9, val_main_v1, val_main_v0, val_main_cst])
  all_goals rw [Fin.sum_univ_eight (M := EReal)]
  all_goals blk_point [iblk, V, idx_val t]

/-- The second moment is the reference's. -/
theorem finalV (c : Dev nD) : (dats m 0 c).arrAt 7 (cfgs 0).N = REFV m c := by
  refine (dats m 0 c).arrAt_eq_of_covers 7 _ (by decide +kernel) fun t hf y => ?_
  blk_simp; rw [after0_7]
  exact pointV m c t y

end Cert.AdamConv

end
-- ==== Proof.AdamWIn.lean ====
module

public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamWIn

open Cert.Kernel16Ideal Cert.Kernel16Ideal.Gen
open Cert.Reference16Ideal.Read

variable (m : (ℓ : Loc nD τ sig) → Buf (Elt Ideal) ℓ)

/-- The reference's summed gradient. -/
abbrev REFG (c : Dev nD) : FVec Ideal S4x1024x1536 .f32 :=
  val_main_v36 (F := Ideal) (m ((c : Thread nD τ).loc main_arg0)) (m ((c : Thread nD τ).loc main_arg4))

/-- The reference's step. -/
abbrev REFD (c : Dev nD) : FVec Ideal S4x1024x1536 .f32 :=
  val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's first moment. -/
abbrev REFM (c : Dev nD) : FVec Ideal S4x1024x1536 .f32 :=
  val_main_v42 (F := Ideal) (m ((c : Thread nD τ).loc main_arg0)) (m ((c : Thread nD τ).loc main_arg2)) (m ((c : Thread nD τ).loc main_arg6))

/-- The reference's second moment. -/
abbrev REFV (c : Dev nD) : FVec Ideal S4x1024x1536 .f32 :=
  val_main_v45 (F := Ideal) (m ((c : Thread nD τ).loc main_arg0)) (m ((c : Thread nD τ).loc main_arg3)) (m ((c : Thread nD τ).loc main_arg7))

theorem idx_val : ∀ t : Fin cfg0.N, win0_0.index t = ![0, t.val / 2, t.val % 2, 0]
    ∧ win0_1.index t = ![0, t.val % 2, t.val / 2]
    ∧ win0_2.index t = ![0, t.val % 2, t.val / 2]
    ∧ win0_3.index t = ![0, t.val % 2, t.val / 2]
    ∧ win0_4.index t = ![0, t.val % 2, t.val / 2]
    ∧ win0_5.index t = ![0, t.val % 2, t.val / 2]
    ∧ win0_6.index t = ![0, t.val % 2, t.val / 2]
    ∧ win0_7.index t = ![0, t.val % 2, t.val / 2] :=
  (by decide +kernel : ∀ t : Fin grid0.N, _)

/-- A layer put before the last three of an array: past it the array is as it was. -/
theorem past (A : FVec Ideal Cert.Reference16Ideal.S1x1024x1536 .f32) (B : FVec Ideal Cert.Reference16Ideal.S4x1024x1536 .f32) (i : Cert.Reference16Ideal.S4x1024x1536.Idx) (h : ¬ (i 0).val < 1) :
    concatenate Cert.Reference16Ideal.S4x1024x1536 0 [⟨Cert.Reference16Ideal.S1x1024x1536, A⟩, ⟨Cert.Reference16Ideal.S3x1024x1536, extractStridedSlice Cert.Reference16Ideal.S3x1024x1536 ![1, 0, 0] B Cert.Reference16Ideal.Gen.slices_S4x1024x1536_S3x1024x1536_1_0_0⟩] Cert.Reference16Ideal.Gen.concatenates_S1x1024x1536_S3x1024x1536_S4x1024x1536_d0 i = B i := by
  pointwise []
  split
  case isTrue h0 => exact absurd h0 h
  refine congrArg B (funext fun a => Fin.ext ?_)
  match a with
  | ⟨0, _⟩ => exact Nat.add_sub_of_le (Nat.le_of_not_lt h)
  | ⟨1, _⟩ => rfl
  | ⟨2, _⟩ => rfl

/-- A point's block of the eight parts, summed: the columns lie in three pieces of 512. -/
theorem sum_at (c : Dev nD) (t : Fin cfg0.N) (B : S8x1x512x512.Idx → EReal) (hB : B = iblk m c 0 t) (a b : Fin 512) (q : Cert.Reference16Ideal.S1024x1536.Idx) (h0 : (q 0).val = t.val % 2 * 512 + a.val)
    (h1 : (q 1).val = t.val / 2 * 512 + b.val) :
    (B (ix4 0 0 a b) + B (ix4 1 0 a b) + B (ix4 2 0 a b) + B (ix4 3 0 a b)
        + B (ix4 4 0 a b) + B (ix4 5 0 a b) + B (ix4 6 0 a b) + B (ix4 7 0 a b) : EReal)
      = val_main_v3 (F := Ideal) (m ((c : Thread nD τ).loc main_arg0)) q := by
  subst hB
  refine (Fin.sum_univ_eight (M := EReal) fun k : Fin 8 => iblk m c 0 t (ix4 k 0 a b)).symm.trans ?_
  pointwise [val_main_v3, val_main_v2, val_main_v1, val_main_v0, val_main_cst]
  refine Finset.sum_congr rfl fun k _ => congrArg (m ((c : Thread nD τ).loc main_arg0)) (funext fun d => Fin.ext ?_)
  match d with
  | ⟨0, _⟩ => blk_simp [idx_val t]
  | ⟨1, _⟩ => blk_simp [idx_val t]; show t.val / 2 = (q 1).val / 512; omega
  | ⟨2, _⟩ => blk_simp [idx_val t]; exact h0.symm
  | ⟨3, _⟩ => blk_simp [idx_val t]; show b.val = (q 1).val % 512; omega

/-- What a point writes back of the summed gradient. -/
theorem pointG (c : Dev nD) (t : Fin cfg0.N) (y) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFG m c (((cfg0.win 4).blk t).view.emb y) := by
  unfold out0_A_4
  rw [View.read_writes_junk_eq_canon]
  refine View.canon_eq_of_allAt _ _ _ (cover0_A_4 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 4).blk t).view.emb y 0).val < 1 := by blk_simp [idx_val]; exact Nat.one_pos
  have e1 : (y 1).val = (x 1).val := (h 1).trans (Nat.zero_add _)
  have e2 : (y 2).val = (x 2).val := (h 2).trans (Nat.zero_add _)
  have a1 : (((cfg0.win 4).blk t).view.emb y 1).val = t.val % 2 * 512 + (x 1).val := by blk_simp [idx_val]; exact congrArg _ e1
  have a2 : (((cfg0.win 4).blk t).view.emb y 2).val = t.val / 2 * 512 + (x 2).val := by blk_simp [idx_val]; exact congrArg _ e2
  pointwise [REFG, val_main_v36, val_main_v34, val_main_v35]
  split
  case isFalse h0 => exact absurd e0 h0
  rw [sum_at m c t (iblk m c 0 t) rfl (x 1) (x 2) (ix2 (((cfg0.win 4).blk t).view.emb y 1) (((cfg0.win 4).blk t).view.emb y 2)) a1 a2]

theorem flush4 : ∀ t : Fin cfg0.N, (cfg0.win 4).flush t = true := by decide +kernel

theorem cover4 (i : S4x1024x1536.Idx) (h : (i 0).val < 1) : ∃ (t : Fin cfg0.N) (y : _), ((cfg0.win 4).blk t).view.emb y = i := by
  refine ⟨⟨(i 2).val / 512 * 2 + (i 1).val / 512, by have h1 := (i 1).isLt; have h2 := (i 2).isLt; change _ < 1024 at h1; change _ < 1536 at h2; change _ < 6; omega⟩, (ix3 0 ⟨(i 1).val % 512, Nat.mod_lt _ (by decide)⟩ ⟨(i 2).val % 512, Nat.mod_lt _ (by decide)⟩), funext fun a => Fin.ext ?_⟩
  match a with
  | ⟨0, _⟩ => blk_simp [idx_val]; exact (Nat.lt_one_iff.mp h).symm
  | ⟨1, _⟩ => blk_simp [idx_val]; have h1 : (i 1).val < 1024 := (i 1).isLt; show ((i 2).val / 512 * 2 + (i 1).val / 512) % 2 * 512 + (i 1).val % 512 = (i 1).val; omega
  | ⟨2, _⟩ => blk_simp [idx_val]; have h1 : (i 1).val < 1024 := (i 1).isLt; show ((i 2).val / 512 * 2 + (i 1).val / 512) / 2 * 512 + (i 2).val % 512 = (i 2).val; omega

/-- The summed gradient: the reference's on the layer which the call writes, the array as it was elsewhere. -/
theorem finalG (c : Dev nD) : (dats m 0 c).arrAt 4 (cfgs 0).N = REFG m c := by
  funext i
  by_cases h : (i 0).val < 1
  · obtain ⟨t, y, e⟩ := cover4 i h
    rw [← e]
    refine (congrFun ((Value.blocks4 m c t (flush4 t)).trans (Value.flushed4_A m c t)) y).trans ?_
    exact pointG m c t y
  · refine (Value.entry4 m c i fun t hf hm => h ?_).trans ?_
    · obtain ⟨y, rfl⟩ := View.exists_emb_of_mem_set _ hm
      blk_simp [idx_val]
      exact Nat.one_pos
    · exact (past _ _ i h).symm

/-- What a point writes back of the step. -/
theorem pointD (c : Dev nD) (t : Fin cfg0.N) (y) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFD m c (((cfg0.win 5).blk t).view.emb y) := by
  unfold out0_A_5
  rw [View.read_writes_junk_eq_canon]
  refine View.canon_eq_of_allAt _ _ _ (cover0_A_5 ..) (View.allAt_cons_unit _ _ _ _ _ (fun x h => ?_) (View.allAt_nil _ _))
  simp only [kernelRun0_A.sl.r_3, kernelRun0_A.sl.r, kernelRun0_A.sl.r_1, kernelRun0_A.sl.r_2]
  open_payloads
  simp only [Memref.IsWhole.read_unread]
  have e0 : (((cfg0.win 5).blk t).view.emb y 0).val < 1 := by blk_simp [idx_val]; exact Nat.one_pos
  have e1 : (y 1).val = (x 1).val := (h 1).trans (Nat.zero_add _)
  have e2 : (y 2).val = (x 2).val := (h 2).trans (Nat.zero_add _)
  have a1 : (((cfg0.win 5).blk t).view.emb y 1).val = t.val % 2 * 512 + (x 1).val := by blk_simp [idx_val]; exact congrArg _ e1
  have a2 : (((cfg0.win 5).blk t).view.emb y 2).val = t.val / 2 * 512 + (x 2).val := by blk_simp [idx_val]; exact congrArg _ e2
  pointwise [REFD, val_main_v39, val_main_v37, val_main_v33, val_main_v32, val_main_cst_8, val_main_v31, val_main_v28, val_main_v22, val_main_v14, val_main_v11, val_main_v10, val_main_cst_0, val_main_v7, val_main_v6, val_main_v13, val_main_v12, val_main_cst_1, val_main_v21, val_main_cst_4, val_main_v27, val_main_v25, val_main_v24, val_main_v20, val_main_v16, val_main_v15, val_main_cst_2, val_main_v9, val_main_v8, val_main_v19, val_main_v18, val_main_cst_3, val_main_v17, val_main_v23, val_main_cst_5, val_main_v26, val_main_cst_6, val_main_v30, val_main_v29, val_main_cst_7, val_main_v5, val_main_v4, val_main_v38]
  split
  case isFalse h0 => exact absurd e0 h0
  rw [sum_at m c t (iblk m c 0 t) rfl (x 1) (x 2) (ix2 (((cfg0.win 5).blk t).view.emb y 1) (((cfg0.win 5).blk t).view.emb y 2)) a1 a2]
  blk_point [iblk, V, idx_val t]

theorem flush5 : ∀ t : Fin cfg0.N, (cfg0.win 5).flush t = true := by decide +kernel

theorem cover5 (i : S4x1024x1536.Idx) (h : (i 0).val < 1) : ∃ (t : Fin cfg0.N) (y : _), ((cfg0.win 5).blk t).view.emb y = i := by
  refine ⟨⟨(i 2).val / 512 * 2 + (i 1).val / 512, by have h1 := (i 1).isLt; have h2 := (i 2).isLt; change _ < 1024 at h1; change _ < 1536 at h2; change _ < 6; omega⟩, (ix3 0 ⟨(i 1).val % 512, Nat.mod_lt _ (by decide)⟩ ⟨(i 2).val % 512, Nat.mod_lt _ (by decide)⟩), funext fun a => Fin.ext ?_⟩
  match a with
  | ⟨0, _⟩ => blk_simp [idx_val]; exact (Nat.lt_one_iff.mp h).symm
  | ⟨1, _⟩ => blk_simp [idx_val]; have h1 : (i 1).val < 1024 := (i 1).isLt; show ((i 2).val / 512 * 2 + (i 1).val / 512) % 2 * 512 + (i 1).val % 512 = (i 1).val; omega
  | ⟨2, _⟩ => blk_simp [idx_val]; have h1 : (i 1).val < 1024 := (i 1).isLt; show ((i 2).val / 512 * 2 + (i 1).val / 512) / 2 * 512 + (i 2).val % 512 = (i 2).val; omega

/-- The step: the reference's on the layer which the call writes, the array as it was elsewhere. -/
theorem finalD (c : Dev nD) : (dats m 0 c).arrAt 5 (cfgs 0).N = REFD m c := by
  funext i
  by_cases h : (i 0).val < 1
  · obtain ⟨t, y, e⟩ := cover5 i h
    rw [← e]
    refine (congrFun ((Value.blocks5 m c t (flush5 t)).trans (Value.flushed5_A m c t)) y).trans ?_
    exact pointD m c t y
  · refine (Value.entry5 m c i fun t hf hm => h ?_).trans ?_
    · obtain ⟨y, rfl⟩ := View.exists_emb_of_mem_set _ hm
      blk_simp [idx_val]
      exact Nat.one_pos
    · exact (past _ _ i h).symm

/-- What a point writes back of the first moment. -/
theorem pointM (c : Dev nD) (t : Fin cfg0.N) (y) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFM m c (((cfg0.win 6).blk t).view.emb y) := by
  unfold out0_A_6
  rw [View.read_writes_junk_eq_canon]
  refine View.canon_eq_of_allAt _ _ _ (cover0_A_6 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 6).blk t).view.emb y 0).val < 1 := by blk_simp [idx_val]; exact Nat.one_pos
  have e1 : (y 1).val = (x 1).val := (h 1).trans (Nat.zero_add _)
  have e2 : (y 2).val = (x 2).val := (h 2).trans (Nat.zero_add _)
  have a1 : (((cfg0.win 6).blk t).view.emb y 1).val = t.val % 2 * 512 + (x 1).val := by blk_simp [idx_val]; exact congrArg _ e1
  have a2 : (((cfg0.win 6).blk t).view.emb y 2).val = t.val / 2 * 512 + (x 2).val := by blk_simp [idx_val]; exact congrArg _ e2
  pointwise [REFM, val_main_v42, val_main_v40, val_main_v14, val_main_v11, val_main_v10, val_main_cst_0, val_main_v7, val_main_v6, val_main_v13, val_main_v12, val_main_cst_1, val_main_v41]
  split
  case isFalse h0 => exact absurd e0 h0
  rw [sum_at m c t (iblk m c 0 t) rfl (x 1) (x 2) (ix2 (((cfg0.win 6).blk t).view.emb y 1) (((cfg0.win 6).blk t).view.emb y 2)) a1 a2]
  blk_point [iblk, V, idx_val t]

theorem flush6 : ∀ t : Fin cfg0.N, (cfg0.win 6).flush t = true := by decide +kernel

theorem cover6 (i : S4x1024x1536.Idx) (h : (i 0).val < 1) : ∃ (t : Fin cfg0.N) (y : _), ((cfg0.win 6).blk t).view.emb y = i := by
  refine ⟨⟨(i 2).val / 512 * 2 + (i 1).val / 512, by have h1 := (i 1).isLt; have h2 := (i 2).isLt; change _ < 1024 at h1; change _ < 1536 at h2; change _ < 6; omega⟩, (ix3 0 ⟨(i 1).val % 512, Nat.mod_lt _ (by decide)⟩ ⟨(i 2).val % 512, Nat.mod_lt _ (by decide)⟩), funext fun a => Fin.ext ?_⟩
  match a with
  | ⟨0, _⟩ => blk_simp [idx_val]; exact (Nat.lt_one_iff.mp h).symm
  | ⟨1, _⟩ => blk_simp [idx_val]; have h1 : (i 1).val < 1024 := (i 1).isLt; show ((i 2).val / 512 * 2 + (i 1).val / 512) % 2 * 512 + (i 1).val % 512 = (i 1).val; omega
  | ⟨2, _⟩ => blk_simp [idx_val]; have h1 : (i 1).val < 1024 := (i 1).isLt; show ((i 2).val / 512 * 2 + (i 1).val / 512) / 2 * 512 + (i 2).val % 512 = (i 2).val; omega

/-- The first moment: the reference's on the layer which the call writes, the array as it was elsewhere. -/
theorem finalM (c : Dev nD) : (dats m 0 c).arrAt 6 (cfgs 0).N = REFM m c := by
  funext i
  by_cases h : (i 0).val < 1
  · obtain ⟨t, y, e⟩ := cover6 i h
    rw [← e]
    refine (congrFun ((Value.blocks6 m c t (flush6 t)).trans (Value.flushed6_A m c t)) y).trans ?_
    exact pointM m c t y
  · refine (Value.entry6 m c i fun t hf hm => h ?_).trans ?_
    · obtain ⟨y, rfl⟩ := View.exists_emb_of_mem_set _ hm
      blk_simp [idx_val]
      exact Nat.one_pos
    · exact (past _ _ i h).symm

/-- What a point writes back of the second moment. -/
theorem pointV (c : Dev nD) (t : Fin cfg0.N) (y) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFV m c (((cfg0.win 7).blk t).view.emb y) := by
  unfold out0_A_7
  rw [View.read_writes_junk_eq_canon]
  refine View.canon_eq_of_allAt _ _ _ (cover0_A_7 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 7).blk t).view.emb y 0).val < 1 := by blk_simp [idx_val]; exact Nat.one_pos
  have e1 : (y 1).val = (x 1).val := (h 1).trans (Nat.zero_add _)
  have e2 : (y 2).val = (x 2).val := (h 2).trans (Nat.zero_add _)
  have a1 : (((cfg0.win 7).blk t).view.emb y 1).val = t.val % 2 * 512 + (x 1).val := by blk_simp [idx_val]; exact congrArg _ e1
  have a2 : (((cfg0.win 7).blk t).view.emb y 2).val = t.val / 2 * 512 + (x 2).val := by blk_simp [idx_val]; exact congrArg _ e2
  pointwise [REFV, val_main_v45, val_main_v43, val_main_v20, val_main_v16, val_main_v15, val_main_cst_2, val_main_v9, val_main_v8, val_main_v19, val_main_v18, val_main_cst_3, val_main_v17, val_main_v44]
  split
  case isFalse h0 => exact absurd e0 h0
  rw [sum_at m c t (iblk m c 0 t) rfl (x 1) (x 2) (ix2 (((cfg0.win 7).blk t).view.emb y 1) (((cfg0.win 7).blk t).view.emb y 2)) a1 a2]
  blk_point [iblk, V, idx_val t]

theorem flush7 : ∀ t : Fin cfg0.N, (cfg0.win 7).flush t = true := by decide +kernel

theorem cover7 (i : S4x1024x1536.Idx) (h : (i 0).val < 1) : ∃ (t : Fin cfg0.N) (y : _), ((cfg0.win 7).blk t).view.emb y = i := by
  refine ⟨⟨(i 2).val / 512 * 2 + (i 1).val / 512, by have h1 := (i 1).isLt; have h2 := (i 2).isLt; change _ < 1024 at h1; change _ < 1536 at h2; change _ < 6; omega⟩, (ix3 0 ⟨(i 1).val % 512, Nat.mod_lt _ (by decide)⟩ ⟨(i 2).val % 512, Nat.mod_lt _ (by decide)⟩), funext fun a => Fin.ext ?_⟩
  match a with
  | ⟨0, _⟩ => blk_simp [idx_val]; exact (Nat.lt_one_iff.mp h).symm
  | ⟨1, _⟩ => blk_simp [idx_val]; have h1 : (i 1).val < 1024 := (i 1).isLt; show ((i 2).val / 512 * 2 + (i 1).val / 512) % 2 * 512 + (i 1).val % 512 = (i 1).val; omega
  | ⟨2, _⟩ => blk_simp [idx_val]; have h1 : (i 1).val < 1024 := (i 1).isLt; show ((i 2).val / 512 * 2 + (i 1).val / 512) / 2 * 512 + (i 2).val % 512 = (i 2).val; omega

/-- The second moment: the reference's on the layer which the call writes, the array as it was elsewhere. -/
theorem finalV (c : Dev nD) : (dats m 0 c).arrAt 7 (cfgs 0).N = REFV m c := by
  funext i
  by_cases h : (i 0).val < 1
  · obtain ⟨t, y, e⟩ := cover7 i h
    rw [← e]
    refine (congrFun ((Value.blocks7 m c t (flush7 t)).trans (Value.flushed7_A m c t)) y).trans ?_
    exact pointV m c t y
  · refine (Value.entry7 m c i fun t hf hm => h ?_).trans ?_
    · obtain ⟨y, rfl⟩ := View.exists_emb_of_mem_set _ hm
      blk_simp [idx_val]
      exact Nat.one_pos
    · exact (past _ _ i h).symm

end Cert.AdamWIn

end
-- ==== Proof.AdamWOut.lean ====
module

public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamWOut

open Cert.Kernel17Ideal Cert.Kernel17Ideal.Gen
open Cert.Reference17Ideal.Read

variable (m : (ℓ : Loc nD τ sig) → Buf (Elt Ideal) ℓ)

/-- The reference's summed gradient. -/
abbrev REFG (c : Dev nD) : FVec Ideal S4x128x1024 .f32 :=
  val_main_v34 (F := Ideal) (m ((c : Thread nD τ).loc main_arg0)) (m ((c : Thread nD τ).loc main_arg4))

/-- The reference's step. -/
abbrev REFD (c : Dev nD) : FVec Ideal S4x128x1024 .f32 :=
  val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's first moment. -/
abbrev REFM (c : Dev nD) : FVec Ideal S4x128x1024 .f32 :=
  val_main_v40 (F := Ideal) (m ((c : Thread nD τ).loc main_arg0)) (m ((c : Thread nD τ).loc main_arg2)) (m ((c : Thread nD τ).loc main_arg6))

/-- The reference's second moment. -/
abbrev REFV (c : Dev nD) : FVec Ideal S4x128x1024 .f32 :=
  val_main_v43 (F := Ideal) (m ((c : Thread nD τ).loc main_arg0)) (m ((c : Thread nD τ).loc main_arg3)) (m ((c : Thread nD τ).loc main_arg7))

theorem idx_val : ∀ t : Fin cfg0.N, win0_0.index t = ![0, 0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

/-- A layer put before the last three of an array: past it the array is as it was. -/
theorem past (A : FVec Ideal Cert.Reference17Ideal.S1x128x1024 .f32) (B : FVec Ideal Cert.Reference17Ideal.S4x128x1024 .f32) (i : Cert.Reference17Ideal.S4x128x1024.Idx) (h : ¬ (i 0).val < 1) :
    concatenate Cert.Reference17Ideal.S4x128x1024 0 [⟨Cert.Reference17Ideal.S1x128x1024, A⟩, ⟨Cert.Reference17Ideal.S3x128x1024, extractStridedSlice Cert.Reference17Ideal.S3x128x1024 ![1, 0, 0] B Cert.Reference17Ideal.Gen.slices_S4x128x1024_S3x128x1024_1_0_0⟩] Cert.Reference17Ideal.Gen.concatenates_S1x128x1024_S3x128x1024_S4x128x1024_d0 i = B i := by
  pointwise []
  split
  case isTrue h0 => exact absurd h0 h
  refine congrArg B (funext fun a => Fin.ext ?_)
  match a with
  | ⟨0, _⟩ => exact Nat.add_sub_of_le (Nat.le_of_not_lt h)
  | ⟨1, _⟩ => rfl
  | ⟨2, _⟩ => rfl

/-- What a point writes back of the summed gradient. -/
theorem pointG (c : Dev nD) (t : Fin cfg0.N) (y) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFG m c (((cfg0.win 4).blk t).view.emb y) := by
  unfold out0_A_4
  rw [View.read_writes_junk_eq_canon]
  refine View.canon_eq_of_allAt _ _ _ (cover0_A_4 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 4).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFG, val_main_v34, val_main_v32, val_main_v3, val_main_v2, val_main_cst, val_main_v33]
  split
  case isFalse h0 => exact absurd e0 h0
  rw [Fin.sum_univ_eight (M := EReal)]
  blk_point [iblk, V, idx_val t]

theorem flush4 : ∀ t : Fin cfg0.N, (cfg0.win 4).flush t = true := by decide +kernel

theorem cover4 (i : S4x128x1024.Idx) (h : (i 0).val < 1) : ∃ (t : Fin cfg0.N) (y : _), ((cfg0.win 4).blk t).view.emb y = i := by
  obtain ⟨t⟩ : Nonempty (Fin cfg0.N) := ⟨⟨0, by decide⟩⟩
  refine ⟨t, (ix3 0 (i 1) (i 2)), funext fun a => Fin.ext ?_⟩
  match a with
  | ⟨0, _⟩ => blk_simp [idx_val]; exact (Nat.lt_one_iff.mp h).symm
  | ⟨1, _⟩ => blk_simp [idx_val]; rfl
  | ⟨2, _⟩ => blk_simp [idx_val]; rfl

/-- The summed gradient: the reference's on the layer which the call writes, the array as it was elsewhere. -/
theorem finalG (c : Dev nD) : (dats m 0 c).arrAt 4 (cfgs 0).N = REFG m c := by
  funext i
  by_cases h : (i 0).val < 1
  · obtain ⟨t, y, e⟩ := cover4 i h
    rw [← e]
    refine (congrFun ((Value.blocks4 m c t (flush4 t)).trans (Value.flushed4_A m c t)) y).trans ?_
    exact pointG m c t y
  · refine (Value.entry4 m c i fun t hf hm => h ?_).trans ?_
    · obtain ⟨y, rfl⟩ := View.exists_emb_of_mem_set _ hm
      blk_simp [idx_val]
      exact Nat.one_pos
    · exact (past _ _ i h).symm

/-- What a point writes back of the step. -/
theorem pointD (c : Dev nD) (t : Fin cfg0.N) (y) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFD m c (((cfg0.win 5).blk t).view.emb y) := by
  unfold out0_A_5
  rw [View.read_writes_junk_eq_canon]
  refine View.canon_eq_of_allAt _ _ _ (cover0_A_5 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 5).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFD, val_main_v37, val_main_v35, val_main_v31, val_main_v30, val_main_cst_8, val_main_v29, val_main_v26, val_main_v20, val_main_v12, val_main_v9, val_main_v8, val_main_cst_0, val_main_v5, val_main_v4, val_main_v11, val_main_v10, val_main_cst_1, val_main_v3, val_main_v2, val_main_cst, val_main_v19, val_main_cst_4, val_main_v25, val_main_v23, val_main_v22, val_main_v18, val_main_v14, val_main_v13, val_main_cst_2, val_main_v7, val_main_v6, val_main_v17, val_main_v16, val_main_cst_3, val_main_v15, val_main_v21, val_main_cst_5, val_main_v24, val_main_cst_6, val_main_v28, val_main_v27, val_main_cst_7, val_main_v1, val_main_v0, val_main_v36]
  split
  case isFalse h0 => exact absurd e0 h0
  rw [Fin.sum_univ_eight (M := EReal)]
  blk_point [iblk, V, idx_val t]

theorem flush5 : ∀ t : Fin cfg0.N, (cfg0.win 5).flush t = true := by decide +kernel

theorem cover5 (i : S4x128x1024.Idx) (h : (i 0).val < 1) : ∃ (t : Fin cfg0.N) (y : _), ((cfg0.win 5).blk t).view.emb y = i := by
  obtain ⟨t⟩ : Nonempty (Fin cfg0.N) := ⟨⟨0, by decide⟩⟩
  refine ⟨t, (ix3 0 (i 1) (i 2)), funext fun a => Fin.ext ?_⟩
  match a with
  | ⟨0, _⟩ => blk_simp [idx_val]; exact (Nat.lt_one_iff.mp h).symm
  | ⟨1, _⟩ => blk_simp [idx_val]; rfl
  | ⟨2, _⟩ => blk_simp [idx_val]; rfl

/-- The step: the reference's on the layer which the call writes, the array as it was elsewhere. -/
theorem finalD (c : Dev nD) : (dats m 0 c).arrAt 5 (cfgs 0).N = REFD m c := by
  funext i
  by_cases h : (i 0).val < 1
  · obtain ⟨t, y, e⟩ := cover5 i h
    rw [← e]
    refine (congrFun ((Value.blocks5 m c t (flush5 t)).trans (Value.flushed5_A m c t)) y).trans ?_
    exact pointD m c t y
  · refine (Value.entry5 m c i fun t hf hm => h ?_).trans ?_
    · obtain ⟨y, rfl⟩ := View.exists_emb_of_mem_set _ hm
      blk_simp [idx_val]
      exact Nat.one_pos
    · exact (past _ _ i h).symm

/-- What a point writes back of the first moment. -/
theorem pointM (c : Dev nD) (t : Fin cfg0.N) (y) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFM m c (((cfg0.win 6).blk t).view.emb y) := by
  unfold out0_A_6
  rw [View.read_writes_junk_eq_canon]
  refine View.canon_eq_of_allAt _ _ _ (cover0_A_6 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 6).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFM, val_main_v40, val_main_v38, val_main_v12, val_main_v9, val_main_v8, val_main_cst_0, val_main_v5, val_main_v4, val_main_v11, val_main_v10, val_main_cst_1, val_main_v3, val_main_v2, val_main_cst, val_main_v39]
  split
  case isFalse h0 => exact absurd e0 h0
  rw [Fin.sum_univ_eight (M := EReal)]
  blk_point [iblk, V, idx_val t]

theorem flush6 : ∀ t : Fin cfg0.N, (cfg0.win 6).flush t = true := by decide +kernel

theorem cover6 (i : S4x128x1024.Idx) (h : (i 0).val < 1) : ∃ (t : Fin cfg0.N) (y : _), ((cfg0.win 6).blk t).view.emb y = i := by
  obtain ⟨t⟩ : Nonempty (Fin cfg0.N) := ⟨⟨0, by decide⟩⟩
  refine ⟨t, (ix3 0 (i 1) (i 2)), funext fun a => Fin.ext ?_⟩
  match a with
  | ⟨0, _⟩ => blk_simp [idx_val]; exact (Nat.lt_one_iff.mp h).symm
  | ⟨1, _⟩ => blk_simp [idx_val]; rfl
  | ⟨2, _⟩ => blk_simp [idx_val]; rfl

/-- The first moment: the reference's on the layer which the call writes, the array as it was elsewhere. -/
theorem finalM (c : Dev nD) : (dats m 0 c).arrAt 6 (cfgs 0).N = REFM m c := by
  funext i
  by_cases h : (i 0).val < 1
  · obtain ⟨t, y, e⟩ := cover6 i h
    rw [← e]
    refine (congrFun ((Value.blocks6 m c t (flush6 t)).trans (Value.flushed6_A m c t)) y).trans ?_
    exact pointM m c t y
  · refine (Value.entry6 m c i fun t hf hm => h ?_).trans ?_
    · obtain ⟨y, rfl⟩ := View.exists_emb_of_mem_set _ hm
      blk_simp [idx_val]
      exact Nat.one_pos
    · exact (past _ _ i h).symm

/-- What a point writes back of the second moment. -/
theorem pointV (c : Dev nD) (t : Fin cfg0.N) (y) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFV m c (((cfg0.win 7).blk t).view.emb y) := by
  unfold out0_A_7
  rw [View.read_writes_junk_eq_canon]
  refine View.canon_eq_of_allAt _ _ _ (cover0_A_7 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 7).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFV, val_main_v43, val_main_v41, val_main_v18, val_main_v14, val_main_v13, val_main_cst_2, val_main_v7, val_main_v6, val_main_v17, val_main_v16, val_main_cst_3, val_main_v15, val_main_v3, val_main_v2, val_main_cst, val_main_v42]
  split
  case isFalse h0 => exact absurd e0 h0
  rw [Fin.sum_univ_eight (M := EReal)]
  blk_point [iblk, V, idx_val t]

theorem flush7 : ∀ t : Fin cfg0.N, (cfg0.win 7).flush t = true := by decide +kernel

theorem cover7 (i : S4x128x1024.Idx) (h : (i 0).val < 1) : ∃ (t : Fin cfg0.N) (y : _), ((cfg0.win 7).blk t).view.emb y = i := by
  obtain ⟨t⟩ : Nonempty (Fin cfg0.N) := ⟨⟨0, by decide⟩⟩
  refine ⟨t, (ix3 0 (i 1) (i 2)), funext fun a => Fin.ext ?_⟩
  match a with
  | ⟨0, _⟩ => blk_simp [idx_val]; exact (Nat.lt_one_iff.mp h).symm
  | ⟨1, _⟩ => blk_simp [idx_val]; rfl
  | ⟨2, _⟩ => blk_simp [idx_val]; rfl

/-- The second moment: the reference's on the layer which the call writes, the array as it was elsewhere. -/
theorem finalV (c : Dev nD) : (dats m 0 c).arrAt 7 (cfgs 0).N = REFV m c := by
  funext i
  by_cases h : (i 0).val < 1
  · obtain ⟨t, y, e⟩ := cover7 i h
    rw [← e]
    refine (congrFun ((Value.blocks7 m c t (flush7 t)).trans (Value.flushed7_A m c t)) y).trans ?_
    exact pointV m c t y
  · refine (Value.entry7 m c i fun t hf hm => h ?_).trans ?_
    · obtain ⟨y, rfl⟩ := View.exists_emb_of_mem_set _ hm
      blk_simp [idx_val]
      exact Nat.one_pos
    · exact (past _ _ i h).symm

end Cert.AdamWOut

end
-- ==== Proof.AdamRep.lean ====
module

public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamRep

open Cert.Kernel18Ideal Cert.Kernel18Ideal.Gen
open Cert.Reference18Ideal.Read

variable (m : (ℓ : Loc nD τ sig) → Buf (Elt Ideal) ℓ)

/-- The reference's summed gradient. -/
abbrev REFG (c : Dev nD) : FVec Ideal S4x2560x128 .f32 :=
  val_main_v34 (F := Ideal) (m ((c : Thread nD τ).loc main_arg0)) (m ((c : Thread nD τ).loc main_arg4))

/-- The reference's step. -/
abbrev REFD (c : Dev nD) : FVec Ideal S4x2560x128 .f32 :=
  val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's first moment. -/
abbrev REFM (c : Dev nD) : FVec Ideal S4x2560x128 .f32 :=
  val_main_v40 (F := Ideal) (m ((c : Thread nD τ).loc main_arg0)) (m ((c : Thread nD τ).loc main_arg2)) (m ((c : Thread nD τ).loc main_arg6))

/-- The reference's second moment. -/
abbrev REFV (c : Dev nD) : FVec Ideal S4x2560x128 .f32 :=
  val_main_v43 (F := Ideal) (m ((c : Thread nD τ).loc main_arg0)) (m ((c : Thread nD τ).loc main_arg3)) (m ((c : Thread nD τ).loc main_arg7))

theorem idx_val : ∀ t : Fin cfg0.N, win0_0.index t = ![0, 0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- A layer put before the last three of an array: past it the array is as it was. -/
theorem past (A : FVec Ideal Cert.Reference18Ideal.S1x2560x128 .f32) (B : FVec Ideal Cert.Reference18Ideal.S4x2560x128 .f32) (i : Cert.Reference18Ideal.S4x2560x128.Idx) (h : ¬ (i 0).val < 1) :
    concatenate Cert.Reference18Ideal.S4x2560x128 0 [⟨Cert.Reference18Ideal.S1x2560x128, A⟩, ⟨Cert.Reference18Ideal.S3x2560x128, extractStridedSlice Cert.Reference18Ideal.S3x2560x128 ![1, 0, 0] B Cert.Reference18Ideal.Gen.slices_S4x2560x128_S3x2560x128_1_0_0⟩] Cert.Reference18Ideal.Gen.concatenates_S1x2560x128_S3x2560x128_S4x2560x128_d0 i = B i := by
  pointwise []
  split
  case isTrue h0 => exact absurd h0 h
  refine congrArg B (funext fun a => Fin.ext ?_)
  match a with
  | ⟨0, _⟩ => exact Nat.add_sub_of_le (Nat.le_of_not_lt h)
  | ⟨1, _⟩ => rfl
  | ⟨2, _⟩ => rfl

/-- What a point writes back of the summed gradient. -/
theorem pointG (c : Dev nD) (t : Fin cfg0.N) (y) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFG m c (((cfg0.win 4).blk t).view.emb y) := by
  unfold out0_A_4
  rw [View.read_writes_junk_eq_canon]
  refine View.canon_eq_of_allAt _ _ _ (cover0_A_4 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 4).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFG, val_main_v34, val_main_v32, val_main_v3, val_main_v2, val_main_cst, val_main_v33]
  split
  case isFalse h0 => exact absurd e0 h0
  rw [Fin.sum_univ_eight (M := EReal)]
  blk_point [iblk, V, idx_val t]

theorem flush4 : ∀ t : Fin cfg0.N, (cfg0.win 4).flush t = true := by decide +kernel

theorem cover4 (i : S4x2560x128.Idx) (h : (i 0).val < 1) : ∃ (t : Fin cfg0.N) (y : _), ((cfg0.win 4).blk t).view.emb y = i := by
  refine ⟨⟨(i 1).val / 512, by have := (i 1).isLt; change _ < 2560 at this; change _ < 5; omega⟩, (ix3 0 ⟨(i 1).val % 512, Nat.mod_lt _ (by decide)⟩ (i 2)), funext fun a => Fin.ext ?_⟩
  match a with
  | ⟨0, _⟩ => blk_simp [idx_val]; exact (Nat.lt_one_iff.mp h).symm
  | ⟨1, _⟩ => blk_simp [idx_val]; exact Nat.div_add_mod' (i 1).val 512
  | ⟨2, _⟩ => blk_simp [idx_val]; rfl

/-- The summed gradient: the reference's on the layer which the call writes, the array as it was elsewhere. -/
theorem finalG (c : Dev nD) : (dats m 0 c).arrAt 4 (cfgs 0).N = REFG m c := by
  funext i
  by_cases h : (i 0).val < 1
  · obtain ⟨t, y, e⟩ := cover4 i h
    rw [← e]
    refine (congrFun ((Value.blocks4 m c t (flush4 t)).trans (Value.flushed4_A m c t)) y).trans ?_
    exact pointG m c t y
  · refine (Value.entry4 m c i fun t hf hm => h ?_).trans ?_
    · obtain ⟨y, rfl⟩ := View.exists_emb_of_mem_set _ hm
      blk_simp [idx_val]
      exact Nat.one_pos
    · exact (past _ _ i h).symm

/-- What a point writes back of the step. -/
theorem pointD (c : Dev nD) (t : Fin cfg0.N) (y) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFD m c (((cfg0.win 5).blk t).view.emb y) := by
  unfold out0_A_5
  rw [View.read_writes_junk_eq_canon]
  refine View.canon_eq_of_allAt _ _ _ (cover0_A_5 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 5).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFD, val_main_v37, val_main_v35, val_main_v31, val_main_v30, val_main_cst_8, val_main_v29, val_main_v26, val_main_v20, val_main_v12, val_main_v9, val_main_v8, val_main_cst_0, val_main_v5, val_main_v4, val_main_v11, val_main_v10, val_main_cst_1, val_main_v3, val_main_v2, val_main_cst, val_main_v19, val_main_cst_4, val_main_v25, val_main_v23, val_main_v22, val_main_v18, val_main_v14, val_main_v13, val_main_cst_2, val_main_v7, val_main_v6, val_main_v17, val_main_v16, val_main_cst_3, val_main_v15, val_main_v21, val_main_cst_5, val_main_v24, val_main_cst_6, val_main_v28, val_main_v27, val_main_cst_7, val_main_v1, val_main_v0, val_main_v36]
  split
  case isFalse h0 => exact absurd e0 h0
  rw [Fin.sum_univ_eight (M := EReal)]
  blk_point [iblk, V, idx_val t]

theorem flush5 : ∀ t : Fin cfg0.N, (cfg0.win 5).flush t = true := by decide +kernel

theorem cover5 (i : S4x2560x128.Idx) (h : (i 0).val < 1) : ∃ (t : Fin cfg0.N) (y : _), ((cfg0.win 5).blk t).view.emb y = i := by
  refine ⟨⟨(i 1).val / 512, by have := (i 1).isLt; change _ < 2560 at this; change _ < 5; omega⟩, (ix3 0 ⟨(i 1).val % 512, Nat.mod_lt _ (by decide)⟩ (i 2)), funext fun a => Fin.ext ?_⟩
  match a with
  | ⟨0, _⟩ => blk_simp [idx_val]; exact (Nat.lt_one_iff.mp h).symm
  | ⟨1, _⟩ => blk_simp [idx_val]; exact Nat.div_add_mod' (i 1).val 512
  | ⟨2, _⟩ => blk_simp [idx_val]; rfl

/-- The step: the reference's on the layer which the call writes, the array as it was elsewhere. -/
theorem finalD (c : Dev nD) : (dats m 0 c).arrAt 5 (cfgs 0).N = REFD m c := by
  funext i
  by_cases h : (i 0).val < 1
  · obtain ⟨t, y, e⟩ := cover5 i h
    rw [← e]
    refine (congrFun ((Value.blocks5 m c t (flush5 t)).trans (Value.flushed5_A m c t)) y).trans ?_
    exact pointD m c t y
  · refine (Value.entry5 m c i fun t hf hm => h ?_).trans ?_
    · obtain ⟨y, rfl⟩ := View.exists_emb_of_mem_set _ hm
      blk_simp [idx_val]
      exact Nat.one_pos
    · exact (past _ _ i h).symm

/-- What a point writes back of the first moment. -/
theorem pointM (c : Dev nD) (t : Fin cfg0.N) (y) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFM m c (((cfg0.win 6).blk t).view.emb y) := by
  unfold out0_A_6
  rw [View.read_writes_junk_eq_canon]
  refine View.canon_eq_of_allAt _ _ _ (cover0_A_6 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 6).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFM, val_main_v40, val_main_v38, val_main_v12, val_main_v9, val_main_v8, val_main_cst_0, val_main_v5, val_main_v4, val_main_v11, val_main_v10, val_main_cst_1, val_main_v3, val_main_v2, val_main_cst, val_main_v39]
  split
  case isFalse h0 => exact absurd e0 h0
  rw [Fin.sum_univ_eight (M := EReal)]
  blk_point [iblk, V, idx_val t]

theorem flush6 : ∀ t : Fin cfg0.N, (cfg0.win 6).flush t = true := by decide +kernel

theorem cover6 (i : S4x2560x128.Idx) (h : (i 0).val < 1) : ∃ (t : Fin cfg0.N) (y : _), ((cfg0.win 6).blk t).view.emb y = i := by
  refine ⟨⟨(i 1).val / 512, by have := (i 1).isLt; change _ < 2560 at this; change _ < 5; omega⟩, (ix3 0 ⟨(i 1).val % 512, Nat.mod_lt _ (by decide)⟩ (i 2)), funext fun a => Fin.ext ?_⟩
  match a with
  | ⟨0, _⟩ => blk_simp [idx_val]; exact (Nat.lt_one_iff.mp h).symm
  | ⟨1, _⟩ => blk_simp [idx_val]; exact Nat.div_add_mod' (i 1).val 512
  | ⟨2, _⟩ => blk_simp [idx_val]; rfl

/-- The first moment: the reference's on the layer which the call writes, the array as it was elsewhere. -/
theorem finalM (c : Dev nD) : (dats m 0 c).arrAt 6 (cfgs 0).N = REFM m c := by
  funext i
  by_cases h : (i 0).val < 1
  · obtain ⟨t, y, e⟩ := cover6 i h
    rw [← e]
    refine (congrFun ((Value.blocks6 m c t (flush6 t)).trans (Value.flushed6_A m c t)) y).trans ?_
    exact pointM m c t y
  · refine (Value.entry6 m c i fun t hf hm => h ?_).trans ?_
    · obtain ⟨y, rfl⟩ := View.exists_emb_of_mem_set _ hm
      blk_simp [idx_val]
      exact Nat.one_pos
    · exact (past _ _ i h).symm

/-- What a point writes back of the second moment. -/
theorem pointV (c : Dev nD) (t : Fin cfg0.N) (y) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y = REFV m c (((cfg0.win 7).blk t).view.emb y) := by
  unfold out0_A_7
  rw [View.read_writes_junk_eq_canon]
  refine View.canon_eq_of_allAt _ _ _ (cover0_A_7 ..) (View.allAt_cons_unit _ _ _ _ _ (fun x h => ?_) (View.allAt_nil _ _))
  simp only [kernelRun0_A.sl.r, kernelRun0_A.sl.r_1, kernelRun0_A.sl.r_2]
  open_payloads
  simp only [Memref.IsWhole.read_unread]
  have e0 : (((cfg0.win 7).blk t).view.emb y 0).val < 1 := by blk_simp [idx_val]; exact Nat.one_pos
  have e1 : (y 1).val = (x 1).val := (h 1).trans (Nat.zero_add _)
  have e2 : (y 2).val = (x 2).val := (h 2).trans (Nat.zero_add _)
  pointwise [REFV, val_main_v43, val_main_v41, val_main_v18, val_main_v14, val_main_v13, val_main_cst_2, val_main_v7, val_main_v6, val_main_v17, val_main_v16, val_main_cst_3, val_main_v15, val_main_v3, val_main_v2, val_main_cst, val_main_v42]
  split
  case isFalse h0 => exact absurd e0 h0
  rw [Fin.sum_univ_eight (M := EReal)]
  blk_point [iblk, V, idx_val t]

theorem flush7 : ∀ t : Fin cfg0.N, (cfg0.win 7).flush t = true := by decide +kernel

theorem cover7 (i : S4x2560x128.Idx) (h : (i 0).val < 1) : ∃ (t : Fin cfg0.N) (y : _), ((cfg0.win 7).blk t).view.emb y = i := by
  refine ⟨⟨(i 1).val / 512, by have := (i 1).isLt; change _ < 2560 at this; change _ < 5; omega⟩, (ix3 0 ⟨(i 1).val % 512, Nat.mod_lt _ (by decide)⟩ (i 2)), funext fun a => Fin.ext ?_⟩
  match a with
  | ⟨0, _⟩ => blk_simp [idx_val]; exact (Nat.lt_one_iff.mp h).symm
  | ⟨1, _⟩ => blk_simp [idx_val]; exact Nat.div_add_mod' (i 1).val 512
  | ⟨2, _⟩ => blk_simp [idx_val]; rfl

/-- The second moment: the reference's on the layer which the call writes, the array as it was elsewhere. -/
theorem finalV (c : Dev nD) : (dats m 0 c).arrAt 7 (cfgs 0).N = REFV m c := by
  funext i
  by_cases h : (i 0).val < 1
  · obtain ⟨t, y, e⟩ := cover7 i h
    rw [← e]
    refine (congrFun ((Value.blocks7 m c t (flush7 t)).trans (Value.flushed7_A m c t)) y).trans ?_
    exact pointV m c t y
  · refine (Value.entry7 m c i fun t hf hm => h ?_).trans ?_
    · obtain ⟨y, rfl⟩ := View.exists_emb_of_mem_set _ hm
      blk_simp [idx_val]
      exact Nat.one_pos
    · exact (past _ _ i h).symm

end Cert.AdamRep

end
-- ==== Proof.MixerSums.lean ====
module

public import proofs.«01_k».proof.Proof.Gen.ReferenceIdeal.Read
public import Idealize.ShloMosaic.Lib.Pipeline.ValueKit

@[expose] public section

noncomputable section

open Idealize.ShloMosaic Idealize.ShloMosaic.TcCoe Idealize.SL.Sem
open scoped BigOperators

namespace Cert.Mixer

/-- A sum over the first, second and last of five axes, those that are kept being `k2` and `k3`. -/
theorem hostReduceAdd_r5 {n0 n1 n2 n3 n4 : Nat} {t : Shape} (h : (⟨5, ![n0, n1, n2, n3, n4]⟩ : Shape).ReducesTo [0, 1, 4] t)
    (v : (⟨5, ![n0, n1, n2, n3, n4]⟩ : Shape).Idx → EReal) (init : EReal) (j : t.Idx) (k2 : Fin n2) (k3 : Fin n3)
    (hj : ∀ i, h.drop i = j ↔ i 2 = k2 ∧ i 3 = k3) :
    Ideal.hostReduceAdd h v init j = init + ∑ a : Fin n0, ∑ b : Fin n1, ∑ e : Fin n4, v (ix5 a b k2 k3 e) := by
  refine congrArg (init + ·) ((Finset.sum_filter_eq_sum_of_fiber _ (fun k : Fin n0 × Fin n1 × Fin n4 => ix5 k.1 k.2.1 k2 k3 k.2.2)
    (fun _ _ e => Prod.ext (congrFun e 0) (Prod.ext (congrFun e 1) (congrFun e 4))) (fun i => (hj i).trans ?_) v).trans ?_)
  · constructor
    · rintro ⟨e2, e3⟩
      refine ⟨(i 0, i 1, i 4), funext fun a => ?_⟩
      match a with
      | ⟨0, _⟩ => rfl
      | ⟨1, _⟩ => rfl
      | ⟨2, _⟩ => exact e2.symm
      | ⟨3, _⟩ => exact e3.symm
      | ⟨4, _⟩ => rfl
    · rintro ⟨k, rfl⟩
      exact ⟨rfl, rfl⟩
  · simp only [Fintype.sum_prod_type]

/-- A sum over the first two of three axes, the one that is kept being `k2`. -/
theorem hostReduceAdd_r3 {n0 n1 n2 : Nat} {t : Shape} (h : (⟨3, ![n0, n1, n2]⟩ : Shape).ReducesTo [0, 1] t)
    (v : (⟨3, ![n0, n1, n2]⟩ : Shape).Idx → EReal) (init : EReal) (j : t.Idx) (k2 : Fin n2) (hj : ∀ i, h.drop i = j ↔ i 2 = k2) :
    Ideal.hostReduceAdd h v init j = init + ∑ a : Fin n0, ∑ b : Fin n1, v (ix3 a b k2) := by
  refine congrArg (init + ·) ((Finset.sum_filter_eq_sum_of_fiber _ (fun k : Fin n0 × Fin n1 => ix3 k.1 k.2 k2)
    (fun _ _ e => Prod.ext (congrFun e 0) (congrFun e 1)) (fun i => (hj i).trans ?_) v).trans ?_)
  · constructor
    · intro e2
      refine ⟨(i 0, i 1), funext fun a => ?_⟩
      match a with
      | ⟨0, _⟩ => rfl
      | ⟨1, _⟩ => rfl
      | ⟨2, _⟩ => exact e2.symm
    · rintro ⟨k, rfl⟩
      rfl
  · simp only [Fintype.sum_prod_type]

/-- The two axes kept of a five-axis array. -/
theorem drop5 {n0 n1 n2 n3 n4 : Nat} (h : (⟨5, ![n0, n1, n2, n3, n4]⟩ : Shape).ReducesTo [0, 1, 4] ⟨2, ![n2, n3]⟩) (k2 : Fin n2) (k3 : Fin n3)
    (i : (⟨5, ![n0, n1, n2, n3, n4]⟩ : Shape).Idx) : h.drop i = ix2 k2 k3 ↔ i 2 = k2 ∧ i 3 = k3 :=
  ⟨fun e => ⟨congrFun e 0, congrFun e 1⟩, fun e => funext fun b => match b with
    | ⟨0, _⟩ => e.1
    | ⟨1, _⟩ => e.2⟩

/-- The axis kept of a three-axis array. -/
theorem drop3 {n0 n1 n2 : Nat} (h : (⟨3, ![n0, n1, n2]⟩ : Shape).ReducesTo [0, 1] ⟨1, ![n2]⟩) (k2 : Fin n2)
    (i : (⟨3, ![n0, n1, n2]⟩ : Shape).Idx) : h.drop i = ix1 k2 ↔ i 2 = k2 :=
  ⟨fun e => congrFun e 0, fun e => funext fun b => match b with
    | ⟨0, _⟩ => e⟩

/-- The contraction of the spatial weight's gradient: batches, chunks and channels. -/
abbrev D3 := ReferenceIdeal.dot_S8x2x16x128x128_S2x16x128x8x128_S8x128x128_123_014_4_2_0_3

/-- Its contracted axes, as triples. -/
def contr3 : Fin 2 × Fin 16 × Fin 128 ≃ D3.contr.Idx where
  toFun p := fun a => match a with
    | ⟨0, _⟩ => p.1
    | ⟨1, _⟩ => p.2.1
    | ⟨2, _⟩ => p.2.2
  invFun k := (k ⟨0, by decide⟩, k ⟨1, by decide⟩, k ⟨2, by decide⟩)
  left_inv _ := rfl
  right_inv k := by
    funext a
    match a with
    | ⟨0, _⟩ => rfl
    | ⟨1, _⟩ => rfl
    | ⟨2, _⟩ => rfl

theorem lhs3 (i : ReferenceIdeal.S8x128x128.Idx) (p : Fin 2 × Fin 16 × Fin 128) :
   D3.lhsIdx i (contr3 p) = ix5 (i 0) p.1 p.2.1 p.2.2 (i 1) := by
  funext a
  match a with
  | ⟨0, _⟩ => rfl
  | ⟨1, _⟩ => rfl
  | ⟨2, _⟩ => rfl
  | ⟨3, _⟩ => rfl
  | ⟨4, _⟩ => rfl

theorem rhs3 (i : ReferenceIdeal.S8x128x128.Idx) (p : Fin 2 × Fin 16 × Fin 128) :
   D3.rhsIdx i (contr3 p) = ix5 p.1 p.2.1 (i 2) (i 0) p.2.2 := by
  funext a
  match a with
  | ⟨0, _⟩ => rfl
  | ⟨1, _⟩ => rfl
  | ⟨2, _⟩ => rfl
  | ⟨3, _⟩ => rfl
  | ⟨4, _⟩ => rfl

/-- The contraction as a sum. -/
theorem matmul3 (l : ReferenceIdeal.S8x2x16x128x128.Idx → EReal) (r : ReferenceIdeal.S2x16x128x8x128.Idx → EReal) (z : ReferenceIdeal.S8x128x128.Idx → EReal) (i : ReferenceIdeal.S8x128x128.Idx) :
    Ideal.matmul D3 l r z i = z i + ∑ a : Fin 2, ∑ b : Fin 16, ∑ e : Fin 128, l (ix5 (i 0) a b e (i 1)) * r (ix5 a b (i 2) (i 0) e) := by
  refine congrArg (z i + ·) ((Fintype.sum_equiv contr3 (fun p => l (ix5 (i 0) p.1 p.2.1 p.2.2 (i 1)) * r (ix5 p.1 p.2.1 (i 2) (i 0) p.2.2)) _ (fun p => ?_)).symm.trans ?_)
  · rw [lhs3, rhs3]; rfl
  · simp only [Fintype.sum_prod_type]

end Cert.Mixer

end
-- ==== Proof.NormModBwd.lean ====
module

public import proofs.«01_k».proof.Proof.Gen.Kernel19Ideal.Frame
public import proofs.«01_k».proof.Proof.Gen.Reference19Ideal.Read
public import proofs.«01_k».proof.Proof.MixerSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.NormModBwd

open Cert.Kernel19Ideal Cert.Kernel19Ideal.Gen
open Cert.Reference19Ideal.Read

variable (m : (ℓ : Loc nD τ sig) → Buf (Elt Ideal) ℓ)

/-- The reference's second result, the gradient of the shift. -/
abbrev REFS (c : Dev nD) : FVec Ideal S2x1x1024 .f32 :=
  val_main_v25 (F := Ideal) (m ((c : Thread nD τ).loc main_arg0))

/-- The reference's third result, the gradient of the scale. -/
abbrev REFC (c : Dev nD) : FVec Ideal S2x1x1024 .f32 :=
  val_main_v28 (F := Ideal) (m ((c : Thread nD τ).loc main_arg0)) (m ((c : Thread nD τ).loc main_arg1)) (m ((c : Thread nD τ).loc main_arg3))

/-- The reference's fourth result, the gradient of the norm's gain. -/
abbrev REFG (c : Dev nD) : FVec Ideal S1x1024 .f32 :=
  val_main_v37 (F := Ideal) (m ((c : Thread nD τ).loc main_arg0)) (m ((c : Thread nD τ).loc main_arg1)) (m ((c : Thread nD τ).loc main_arg4))

theorem idx_val : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![0, 0]
    ∧ win0_4.index t = ![t.val / 4, 0, 0]
    ∧ win0_5.index t = ![t.val / 4, t.val % 4, 0]
    ∧ win0_6.index t = ![t.val / 4, 0, 0]
    ∧ win0_7.index t = ![t.val / 4, 0, 0]
    ∧ win0_8.index t = ![0, 0] :=
  (by decide +kernel : ∀ t : Fin grid0.N, _)

/-- What a point adds to the gradient of the shift. -/
abbrev partS (c : Dev nD) (t : Fin cfg0.N) : FVec Ideal S1x1x1024 .f32 :=
  k0_pay11 (k0_pay10 (iblk m c 0 t) (k0_pay3 (F := Ideal)))

/-- What a point adds to the gradient of the scale. -/
abbrev partC (c : Dev nD) (t : Fin cfg0.N) : FVec Ideal S1x1x1024 .f32 :=
  k0_pay12 (k0_pay5 (iblk m c 0 t)) (k0_pay8 (iblk m c 1 t)) (iblk m c 3 t) (k0_pay4 (F := Ideal))

/-- What a point adds to the gradient of the gain. -/
abbrev partG (c : Dev nD) (t : Fin cfg0.N) : FVec Ideal S1x1024 .f32 :=
  k0_pay13 (k0_pay5 (iblk m c 0 t)) (k0_pay8 (iblk m c 1 t)) (k0_pay9 (iblk m c 4 t)) (k0_pay2 (F := Ideal))

/-- A batch's first point leaves its own part of the shift's gradient. -/
theorem startS (c : Dev nD) (t : Fin cfg0.N) (q : t.val % 4 = 0) (y : S1x1x1024.Idx) :
    (outsAt0 m c t.val t.isLt).2.1 y = (0 : EReal) + partS m c t y := by
  by_cases p : t.val % 8 = 0
  · rw [outsAt0_A m c t p q]; frame_out; exact (zero_add _).symm
  · rw [outsAt0_C m c t p q]; frame_out; exact (zero_add _).symm

/-- A batch's other points add their parts. -/
theorem stepS (c : Dev nD) (t : Fin cfg0.N) (q : ¬ t.val % 4 = 0) (y : S1x1x1024.Idx) :
    (outsAt0 m c t.val t.isLt).2.1 y
      = ((outsAt0 m c (t.val - 1) (Nat.lt_of_le_of_lt (Nat.sub_le _ _) t.isLt)).2.1 y : EReal) + partS m c t y := by
  rw [outsAt0_B m c t (by omega) q]
  frame_out
  pointwise [k0_pay11, k0_pay10, k0_pay3, k0_pay5, partS]

/-- A batch's first point leaves its own part of the scale's gradient. -/
theorem startC (c : Dev nD) (t : Fin cfg0.N) (q : t.val % 4 = 0) (y : S1x1x1024.Idx) :
    (outsAt0 m c t.val t.isLt).2.2.1 y = (0 : EReal) + partC m c t y := by
  by_cases p : t.val % 8 = 0
  · rw [outsAt0_A m c t p q]; frame_out; exact (zero_add _).symm
  · rw [outsAt0_C m c t p q]; frame_out; exact (zero_add _).symm

/-- A batch's other points add their parts. -/
theorem stepC (c : Dev nD) (t : Fin cfg0.N) (q : ¬ t.val % 4 = 0) (y : S1x1x1024.Idx) :
    (outsAt0 m c t.val t.isLt).2.2.1 y
      = ((outsAt0 m c (t.val - 1) (Nat.lt_of_le_of_lt (Nat.sub_le _ _) t.isLt)).2.2.1 y : EReal) + partC m c t y := by
  rw [outsAt0_B m c t (by omega) q]
  frame_out
  pointwise [k0_pay12, k0_pay4, partC]

/-- The first point leaves its own part of the gain's gradient. -/
theorem startG (c : Dev nD) (t : Fin cfg0.N) (p : t.val % 8 = 0) (y : S1x1024.Idx) :
    (outsAt0 m c t.val t.isLt).2.2.2 y = (0 : EReal) + partG m c t y := by
  rw [outsAt0_A m c t p (by omega)]; frame_out; exact (zero_add _).symm

/-- Every other point adds its part. -/
theorem stepG (c : Dev nD) (t : Fin cfg0.N) (p : ¬ t.val % 8 = 0) (y : S1x1024.Idx) :
    (outsAt0 m c t.val t.isLt).2.2.2 y
      = ((outsAt0 m c (t.val - 1) (Nat.lt_of_le_of_lt (Nat.sub_le _ _) t.isLt)).2.2.2 y : EReal) + partG m c t y := by
  by_cases q : t.val % 4 = 0
  · rw [outsAt0_C m c t p q]
    frame_out
    pointwise [k0_pay13, k0_pay2, partG]
  · rw [outsAt0_B m c t p q]
    frame_out
    pointwise [k0_pay13, k0_pay2, partG]

/-- The second result is the reference's. -/
theorem finalS (c : Dev nD) : (dats m 0 c).arrAt 6 (cfgs 0).N = REFS m c := by
  refine (dats m 0 c).arrAt_eq_of_covers 6 _ (by decide +kernel) fun t hf y => ?_
  blk_simp
  rw [after0_6, Pipeline.eq_sum_fin_of_reset_step_apply_of_flush (M := EReal) (fun n h => (outsAt0 m c n h).2.1) 4 (fun _ => 0)
    (fun t => partS m c t) (startS m c) (stepS m c) t ((flush0_6 t).mp hf) _, zero_add]
  pointwise [partS, k0_pay11, k0_pay10, k0_pay3, k0_pay5, REFS, val_main_v25, val_main_v24, val_main_cst_5]
  rw [Fin.sum_univ_tiles (N := 2048) (M := EReal) 4 512 (by norm_num)]
  refine Fin.sum_fin_congr fun s => ?_
  have e := idx_val ⟨_, Pipeline.run_point_lt_of_flush t ((flush0_6 t).mp hf) s⟩
  refine Fin.sum_fin_congr fun k => ?_
  all_goals blk_point [iblk, V, idx_val t, e]

/-- The third result is the reference's. -/
theorem finalC (c : Dev nD) : (dats m 0 c).arrAt 7 (cfgs 0).N = REFC m c := by
  refine (dats m 0 c).arrAt_eq_of_covers 7 _ (by decide +kernel) fun t hf y => ?_
  blk_simp
  rw [after0_7, Pipeline.eq_sum_fin_of_reset_step_apply_of_flush (M := EReal) (fun n h => (outsAt0 m c n h).2.2.1) 4 (fun _ => 0)
    (fun t => partC m c t) (startC m c) (stepC m c) t ((flush0_7 t).mp hf) _, zero_add]
  pointwise [partC, k0_pay12, k0_pay4, k0_pay5, k0_pay8, k0_pay7, k0_pay6, REFC, val_main_v28, val_main_v27, val_main_v26, val_main_v16, val_main_v13, val_main_v12, val_main_v8, val_main_v7, val_main_v5, val_main_v3, val_main_v2, val_main_v1, val_main_cst_0, val_main_v4, val_main_cst_1, val_main_v6, val_main_cst_2, val_main_v15, val_main_v14, val_main_v23, val_main_cst_6]
  rw [Fin.sum_univ_tiles (N := 2048) (M := EReal) 4 512 (by norm_num)]
  refine Fin.sum_fin_congr fun s => ?_
  have e := idx_val ⟨_, Pipeline.run_point_lt_of_flush t ((flush0_7 t).mp hf) s⟩
  refine Fin.sum_fin_congr fun k => (EReal.mul_comm _ _).trans ?_
  refine congrArg₂ (fun a b : EReal => a * b) (congrArg₂ (fun a b : EReal => a * b) (congrArg₂ (fun a b : EReal => a * b) ?_ (congrArg (fun a : EReal => Ideal.rsqrt (Ideal.div a _ + _)) (Fin.sum_fin_congr fun x => congrArg₂ (fun a b : EReal => a * b) ?_ ?_))) ?_) ?_
  all_goals blk_point [iblk, V, idx_val t, e]

/-- The reference sums over both axes of the sequences. -/
theorem v32_at (c : Dev nD) (j : Fin 1024) :
    val_main_v32 (F := Ideal) (m ((c : Thread nD τ).loc main_arg0)) (m ((c : Thread nD τ).loc main_arg1)) (m ((c : Thread nD τ).loc main_arg4)) (ix1 j)
      = ∑ b : Fin 2, ∑ s : Fin 2048, (val_main_v31 (F := Ideal) (m ((c : Thread nD τ).loc main_arg0)) (m ((c : Thread nD τ).loc main_arg1)) (m ((c : Thread nD τ).loc main_arg4)) (ix3 b s j) : EReal) := by
  unfold val_main_v32
  refine (Mixer.hostReduceAdd_r3 _ _ _ _ j (Mixer.drop3 _ j)).trans ?_
  pointwise [val_main_cst_7]

/-- A second sum, over axes of length one, changes nothing. -/
theorem v36_at (c : Dev nD) (j : Fin 1024) :
    val_main_v36 (F := Ideal) (m ((c : Thread nD τ).loc main_arg0)) (m ((c : Thread nD τ).loc main_arg1)) (m ((c : Thread nD τ).loc main_arg4)) (ix1 j) = val_main_v32 (F := Ideal) (m ((c : Thread nD τ).loc main_arg0)) (m ((c : Thread nD τ).loc main_arg1)) (m ((c : Thread nD τ).loc main_arg4)) (ix1 j) := by
  unfold val_main_v36
  refine (Mixer.hostReduceAdd_r3 _ _ _ _ j (Mixer.drop3 _ j)).trans ?_
  pointwise [val_main_cst_8, val_main_v33]
  exact (Fin.sum_univ_one _).trans (Fin.sum_univ_one _)

/-- The fourth result is the reference's. -/
theorem finalG (c : Dev nD) : (dats m 0 c).arrAt 8 (cfgs 0).N = REFG m c := by
  refine (dats m 0 c).arrAt_eq_of_covers 8 _ (by decide +kernel) fun t hf y => ?_
  blk_simp
  rw [after0_8, Pipeline.eq_sum_fin_of_reset_step_apply_of_flush (M := EReal) (fun n h => (outsAt0 m c n h).2.2.2) 8 (fun _ => 0)
    (fun t => partG m c t) (startG m c) (stepG m c) t ((flush0_8 t).mp hf) _, zero_add]
  pointwise [partG, k0_pay13, k0_pay2, k0_pay5, k0_pay8, k0_pay9, k0_pay7, k0_pay6, REFG, val_main_v37]
  refine Eq.trans ?_ ((v36_at m c _).trans (v32_at m c _)).symm
  pointwise [val_main_v31, val_main_v13, val_main_v12, val_main_v8, val_main_v7, val_main_v5, val_main_v3, val_main_v2, val_main_v1, val_main_cst_0, val_main_v4, val_main_cst_1, val_main_v6, val_main_cst_2, val_main_v30, val_main_v23, val_main_v29, val_main_v18, val_main_v17, val_main_cst_4]
  rw [Fin.sum_univ_tiles (N := 8) (M := EReal) 2 4 (by norm_num)]
  refine Fin.sum_fin_congr fun b => ?_
  rw [Fin.sum_univ_tiles (N := 2048) (M := EReal) 4 512 (by norm_num)]
  refine Fin.sum_fin_congr fun s => Fin.sum_fin_congr fun k => (EReal.mul_comm _ _).trans ?_
  have e := idx_val ⟨_, Pipeline.run_point_lt_of_flush t ((flush0_8 t).mp hf) (⟨b.val * 4 + s.val, by omega⟩ : Fin 8)⟩
  refine congrArg₂ (fun a b : EReal => a * b) (congrArg₂ (fun a b : EReal => a * b) ?_ (congrArg (fun a : EReal => Ideal.rsqrt (Ideal.div a _ + _)) (Fin.sum_fin_congr fun x => congrArg₂ (fun a b : EReal => a * b) ?_ ?_)))
    (congrArg₂ (fun a b : EReal => a * b) ?_ (congrArg (fun a : EReal => 1 + a) ?_))
  all_goals blk_point [iblk, V, idx_val t, e]

end Cert.NormModBwd

end
-- ==== Proof.NormGrad.lean ====
module

public import Idealize.ShloMosaic.Lib.Pipeline.ValueKit

/-! # The gradient of an RMS norm in its input, one row

One order of the row's gradient takes the reciprocal root out of a difference, the other differentiates the mean square.
Both agree at all extended reals, because the reciprocal root is a nonnegative real number whatever the row holds. -/

@[expose] public section

noncomputable section

namespace Cert.NormGrad

open Idealize.ShloMosaic

/-- An entry read as an extended real. -/
abbrev re (a : EReal) : EReal := a

theorem bits_1024 : Ideal.ofBits .f32 1149239296#32 = ((1024 : ℝ) : EReal) := by
  simp [Ideal.ofBits, Ideal.ieee, -EReal.coe_mul]; norm_num

theorem bits_neg_half : Ideal.ofBits .f32 3204448256#32 = ((-(1 / 2) : ℝ) : EReal) := by
  simp [Ideal.ofBits, Ideal.ieee, -EReal.coe_mul]; norm_num

/-- The constant added to the mean square is positive. -/
theorem bits_eps : ∃ ε : ℝ, 0 < ε ∧ Ideal.ofBits .f32 897988541#32 = (ε : EReal) := by
  refine ⟨_, ?_, by simp [Ideal.ofBits, Ideal.ieee, -EReal.coe_mul]; rfl⟩
  norm_num

theorem div_1024 (a : EReal) : Ideal.div a ((1024 : ℝ) : EReal) = a * ((1 / 1024 : ℝ) : EReal) := by
  rw [Ideal.div, if_neg (by exact_mod_cast (by norm_num : (1024 : ℝ) ≠ 0)), ← EReal.coe_inv]
  norm_num

/-- A nonnegative real factor distributes over a sum. -/
theorem sum_mul (r : ℝ) (h : 0 ≤ r) {n : Nat} (f : Fin n → EReal) : (∑ k, f k) * (r : EReal) = ∑ k, f k * (r : EReal) := by
  let g : EReal →+ EReal :=
    ⟨⟨fun x => x * (r : EReal), zero_mul _⟩,
      fun x y => EReal.right_distrib_of_nonneg_of_ne_top (EReal.coe_nonneg.mpr h) (EReal.coe_ne_top r) x y⟩
  exact map_sum g f _

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The reciprocal root of a positive number, and its quotient by the number, are powers of one nonnegative real. -/
theorem rsqrt_real (v : EReal) (h : 0 < v) :
    ∃ ρ : ℝ, 0 ≤ ρ ∧ Ideal.rsqrt v = (ρ : EReal) ∧ Ideal.div (ρ : EReal) v = ((ρ * ρ * ρ : ℝ) : EReal) := by
  induction v with
  | bot => exact absurd h (by simp)
  | top => exact ⟨0, le_refl _, rfl, by simp [Ideal.div]⟩
  | coe x =>
    have hx : 0 < x := EReal.coe_pos.mp h
    have e : Ideal.rsqrt (x : EReal) = (((Real.sqrt x)⁻¹ : ℝ) : EReal) := by
      show (if x < 0 then (⊥ : EReal) else if x = 0 then ⊤ else (((Real.sqrt x)⁻¹ : ℝ) : EReal)) = _
      rw [if_neg (not_lt.mpr hx.le), if_neg hx.ne']
    have q : x⁻¹ = (Real.sqrt x)⁻¹ * (Real.sqrt x)⁻¹ := by rw [← mul_inv, Real.mul_self_sqrt hx.le]
    refine ⟨(Real.sqrt x)⁻¹, inv_nonneg.mpr (Real.sqrt_nonneg x), e, ?_⟩
    rw [Ideal.div, if_neg (by exact_mod_cast hx.ne'), ← EReal.coe_inv, ← EReal.coe_mul, mul_assoc, q]

/-- The mean square of a row, with the constant added, is positive. -/
theorem mean_pos {n : Nat} (x : Fin n → EReal) :
    0 < Ideal.div (∑ k, x k * x k) (Ideal.ofBits .f32 1149239296#32) + Ideal.ofBits .f32 897988541#32 := by
  obtain ⟨ε, he, e⟩ := bits_eps
  rw [bits_1024, div_1024, e]
  have h0 : (0 : EReal) ≤ (∑ k, x k * x k) * ((1 / 1024 : ℝ) : EReal) :=
    mul_nonneg (Finset.sum_nonneg fun k _ => square_nonneg (x k)) (EReal.coe_nonneg.mpr (by norm_num))
  calc (0 : EReal) < (ε : EReal) := EReal.coe_pos.mpr he
    _ = 0 + (ε : EReal) := (zero_add _).symm
    _ ≤ _ := add_le_add h0 (le_refl _)

theorem add_self (t : EReal) : t + t = t * ((2 : ℝ) : EReal) := by
  induction t with
  | bot => rw [EReal.bot_mul_coe_of_pos (by norm_num)]; rfl
  | top => rw [EReal.top_mul_coe_of_pos (by norm_num)]; rfl
  | coe x => rw [← EReal.coe_add, ← EReal.coe_mul, mul_two]

/-- The mean square of a row, with the constant added. -/
def mean2 {n : Nat} (x : Fin n → EReal) : EReal :=
  Ideal.div (∑ k, x k * x k) (Ideal.ofBits .f32 1149239296#32) + Ideal.ofBits .f32 897988541#32

/-- The gradient at the entry `a` of the row `x`, at the cotangent `b` of the cotangents `d`: the reciprocal root taken out. -/
def rowK {n : Nat} (x d : Fin n → EReal) (a b : EReal) : EReal :=
  Ideal.rsqrt (mean2 x) * (b - a * Ideal.rsqrt (mean2 x)
    * Ideal.div (∑ i, d i * (x i * Ideal.rsqrt (mean2 x))) (Ideal.ofBits .f32 1149239296#32))

/-- What the mean square's gradient multiplies the row by. -/
def slope {n : Nat} (x d : Fin n → EReal) : EReal :=
  Ideal.div ((∑ i, x i * d i) * (Ideal.ofBits .f32 3204448256#32 * Ideal.div (Ideal.rsqrt (mean2 x)) (mean2 x)))
    (Ideal.ofBits .f32 1149239296#32)

/-- The same gradient by the rules of differentiation. -/
def rowR {n : Nat} (x d : Fin n → EReal) (a b : EReal) : EReal :=
  b * Ideal.rsqrt (mean2 x) + a * slope x d + slope x d * a

theorem rowR_congr {n : Nat} {x x' d d' : Fin n → EReal} {a a' b b' : EReal} (hx : ∀ k, x k = x' k) (hd : ∀ k, d k = d' k)
    (ha : a = a') (hb : b = b') : rowR x d a b = rowR x' d' a' b' := by
  rw [funext hx, funext hd, ha, hb]

/-- One row's gradient. -/
theorem row {n : Nat} (x d : Fin n → EReal) (a b : EReal) : rowK x d a b = rowR x d a b := by
  obtain ⟨ρ, h0, e, e3⟩ := rsqrt_real (mean2 x) (mean_pos x)
  unfold rowK rowR slope
  rw [e, e3, bits_1024, bits_neg_half, div_1024, div_1024]
  have s : ∑ i, d i * (x i * (ρ : EReal)) = (∑ i, x i * d i) * (ρ : EReal) :=
    (Finset.sum_congr rfl fun i _ => by rw [← mul_assoc, mul_comm (d i)]).trans (sum_mul ρ h0 _).symm
  rw [s]
  generalize (∑ i, x i * d i) = S
  rw [sub_eq_add_neg, EReal.left_distrib_of_nonneg_of_ne_top (EReal.coe_nonneg.mpr h0) (EReal.coe_ne_top ρ), add_assoc]
  refine congrArg₂ (fun a b : EReal => a + b) (mul_comm _ _) ?_
  rw [mul_comm (S * _ * _) (a), add_self]
  have p : ((-(ρ * ρ * ρ * (1 / 1024)) : ℝ) : EReal) = ((-(1 / 2) : ℝ) : EReal) * ((ρ * ρ * ρ : ℝ) : EReal) * ((1 / 1024 : ℝ) : EReal) * ((2 : ℝ) : EReal) := by
    rw [← EReal.coe_mul, ← EReal.coe_mul, ← EReal.coe_mul]; congr 1; ring
  have q : (ρ : EReal) * -(a * (ρ : EReal) * (S * (ρ : EReal) * ((1 / 1024 : ℝ) : EReal)))
      = a * S * ((-(ρ * ρ * ρ * (1 / 1024)) : ℝ) : EReal) := by
    rw [EReal.coe_neg, EReal.coe_mul, EReal.coe_mul, EReal.coe_mul, mul_neg, mul_neg]
    exact congrArg _ (by ac_rfl)
  rw [q, p]
  ac_rfl

end Cert.NormGrad

end
-- ==== Proof.NormModBwdX.lean ====
module

public import proofs.«01_k».proof.Proof.Gen.Kernel19Ideal.Frame
public import proofs.«01_k».proof.Proof.Gen.Reference19Ideal.Read
public import proofs.«01_k».proof.Proof.NormModBwd
public import proofs.«01_k».proof.Proof.NormGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.NormModBwd

open Cert.Kernel19Ideal Cert.Kernel19Ideal.Gen
open Cert.Reference19Ideal.Read

variable (m : (ℓ : Loc nD τ sig) → Buf (Elt Ideal) ℓ)

/-- The reference's gradient in the norm's input. -/
abbrev REFX (c : Dev nD) : FVec Ideal S2x2048x1024 .f32 :=
  val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem one_at (c : Dev nD) (b : Fin 2) (s : Fin 2048) :
    val_main_v46 (F := Ideal) (m ((c : Thread nD τ).loc main_arg0)) (m ((c : Thread nD τ).loc main_arg1)) (m ((c : Thread nD τ).loc main_arg3)) (m ((c : Thread nD τ).loc main_arg4)) (ix2 b s) = val_main_v45 (F := Ideal) (m ((c : Thread nD τ).loc main_arg0)) (m ((c : Thread nD τ).loc main_arg1)) (m ((c : Thread nD τ).loc main_arg3)) (m ((c : Thread nD τ).loc main_arg4)) (ix3 b s 0) := by
  pointwise [val_main_v46, val_main_cst_11]
  exact Fin.sum_univ_one _

/-- The reference's gradient, row by row. -/
theorem ref_at (c : Dev nD) (b : Fin 2) (s : Fin 2048) (j : Fin 1024) :
    REFX m c (ix3 b s j) = NormGrad.re (m ((c : Thread nD τ).loc main_arg2) (ix3 b s j))
      + NormGrad.rowR (fun k : Fin 1024 => NormGrad.re (m ((c : Thread nD τ).loc main_arg1) (ix3 b s k)))
        (fun k => NormGrad.re (m ((c : Thread nD τ).loc main_arg0) (ix3 b s k)) * (1 + NormGrad.re (m ((c : Thread nD τ).loc main_arg4) (ix3 b 0 k))) * NormGrad.re (m ((c : Thread nD τ).loc main_arg3) (ix2 0 k)))
        (NormGrad.re (m ((c : Thread nD τ).loc main_arg1) (ix3 b s j))) (NormGrad.re (m ((c : Thread nD τ).loc main_arg0) (ix3 b s j)) * (1 + NormGrad.re (m ((c : Thread nD τ).loc main_arg4) (ix3 b 0 j))) * NormGrad.re (m ((c : Thread nD τ).loc main_arg3) (ix2 0 j))) := by
  pointwise [REFX, val_main_v52, val_main_v51, val_main_v49, val_main_v48, val_main_v47, val_main_v50]
  rw [one_at]
  pointwise [val_main_v52, val_main_v51, val_main_v49, val_main_v42, val_main_v35, val_main_v30, val_main_v23, val_main_v29, val_main_v18, val_main_v17, val_main_cst_4, val_main_v34, val_main_v14, val_main_v41, val_main_v8, val_main_v7, val_main_v5, val_main_v3, val_main_v2, val_main_v1, val_main_cst_0, val_main_v4, val_main_cst_1, val_main_v6, val_main_cst_2, val_main_v48, val_main_v47, val_main_v45, val_main_v43, val_main_v40, val_main_v39, val_main_v38, val_main_cst_9, val_main_v11, val_main_v10, val_main_cst_3, val_main_v9, val_main_v44, val_main_cst_10, val_main_v50]
  rfl

theorem eta (i : S2x2048x1024.Idx) : i = ix3 (i 0) (i 1) (i 2) :=
  funext fun a => match a with
    | ⟨0, _⟩ => rfl
    | ⟨1, _⟩ => rfl
    | ⟨2, _⟩ => rfl

/-- What every point writes of the gradient in the norm's input, row by row. -/
theorem ker_at (c : Dev nD) (t : Fin cfg0.N) (y : S1x512x1024.Idx) :
    k0_pay1 (k0_pay14 (iblk m c 2 t))
      (k0_pay15 (k0_pay5 (iblk m c 0 t)) (k0_pay8 (iblk m c 1 t)) (iblk m c 3 t) (k0_pay9 (iblk m c 4 t)))
      (k0_pay16 (k0_pay7 (iblk m c 1 t))) y = NormGrad.re (iblk m c 2 t (y))
      + NormGrad.rowK (fun k : Fin 1024 => NormGrad.re (iblk m c 1 t (ix3 0 (y 1) k)))
        (fun k => NormGrad.re (iblk m c 0 t (ix3 0 (y 1) k)) * (NormGrad.re (iblk m c 3 t (ix2 0 k)) * (1 + NormGrad.re (iblk m c 4 t (ix3 0 0 k)))))
        (NormGrad.re (iblk m c 1 t (y))) (NormGrad.re (iblk m c 0 t (y)) * (NormGrad.re (iblk m c 3 t (ix2 0 (y 2))) * (1 + NormGrad.re (iblk m c 4 t (ix3 0 0 (y 2)))))) := by
  pointwise [k0_pay1, k0_pay14, k0_pay15, k0_pay16, k0_pay5, k0_pay6, k0_pay7, k0_pay8, k0_pay9]
  rfl

theorem pointX (c : Dev nD) (t : Fin cfg0.N) (y : S1x512x1024.Idx) :
    k0_pay1 (k0_pay14 (iblk m c 2 t))
      (k0_pay15 (k0_pay5 (iblk m c 0 t)) (k0_pay8 (iblk m c 1 t)) (iblk m c 3 t) (k0_pay9 (iblk m c 4 t)))
      (k0_pay16 (k0_pay7 (iblk m c 1 t))) y = REFX m c (((cfg0.win 5).blk t).view.emb y) := by
  refine Eq.trans (ker_at m c t y) (Eq.trans ?_ ((congrArg (REFX m c) (eta _)).trans (ref_at m c _ _ _)).symm)
  have r (a b d : EReal) : a * (b * d) = a * d * b := by rw [mul_comm b, mul_assoc]
  refine congrArg₂ (fun a b : EReal => a + b) ?_ ((NormGrad.row _ _ _ _).trans (NormGrad.rowR_congr (fun k => ?_)
    (fun k => (r _ _ _).trans (congrArg₂ (fun a b : EReal => a * b) (congrArg₂ (fun a b : EReal => a * b) ?_ (congrArg (fun a : EReal => 1 + a) ?_)) ?_)) ?_
    ((r _ _ _).trans (congrArg₂ (fun a b : EReal => a * b) (congrArg₂ (fun a b : EReal => a * b) ?_ (congrArg (fun a : EReal => 1 + a) ?_)) ?_))))
  all_goals blk_point [NormGrad.re, iblk, V, idx_val t]

/-- Every point leaves its part of the gradient in the norm's input. -/
theorem leftX (c : Dev nD) (t : Fin cfg0.N) (y : S1x512x1024.Idx) :
    (outsAt0 m c t.val t.isLt).1 y = REFX m c (((cfg0.win 5).blk t).view.emb y) := by
  by_cases q : t.val % 4 = 0
  · by_cases p : t.val % 8 = 0
    · rw [outsAt0_A m c t p q]; frame_out; exact pointX m c t y
    · rw [outsAt0_C m c t p q]; frame_out; exact pointX m c t y
  · rw [outsAt0_B m c t (by omega) q]; frame_out; exact pointX m c t y

/-- The gradient in the norm's input is the reference's. -/
theorem finalX (c : Dev nD) : (dats m 0 c).arrAt 5 (cfgs 0).N = REFX m c := by
  refine (dats m 0 c).arrAt_eq_of_covers 5 _ (by decide +kernel) fun t hf y => ?_
  blk_simp; rw [after0_5]
  exact leftX m c t y

end Cert.NormModBwd

end
-- ==== Proof.LossHead.lean ====
module

public import proofs.«01_k».proof.Proof.Gen.Kernel20Ideal.Frame
public import proofs.«01_k».proof.Proof.Gen.Reference20Ideal.Read
public import proofs.«01_k».proof.Proof.MixerSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.LossHead

open Cert.Kernel20Ideal Cert.Kernel20Ideal.Gen
open Cert.Reference20Ideal.Read

variable (m : (ℓ : Loc nD τ sig) → Buf (Elt Ideal) ℓ)

/-- The reference's first result, the loss of this device's sequences in every lane. -/
abbrev REFL (c : Dev nD) : FVec Ideal S1x1024 .f32 :=
  val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's third result, the gradient of the last norm's gain. -/
abbrev REFG (c : Dev nD) : FVec Ideal S1x1024 .f32 :=
  val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem idx_val : ∀ t : Fin cfg0.N, win0_0.index t = ![t.val / 4, t.val % 4, 0]
    ∧ win0_1.index t = ![t.val / 4, t.val % 4, 0]
    ∧ win0_2.index t = ![0, 0]
    ∧ win0_3.index t = ![t.val / 4, 0, 0]
    ∧ win0_4.index t = ![0, 0]
    ∧ win0_5.index t = ![t.val / 4, t.val % 4, 0]
    ∧ win0_6.index t = ![0, 0]
    ∧ win0_7.index t = ![t.val / 4, t.val % 4, 0]
    ∧ win0_8.index t = ![0, 0] :=
  (by decide +kernel : ∀ t : Fin grid0.N, _)

/-- What a point adds to the loss, lane by lane. -/
abbrev partL (c : Dev nD) (t : Fin cfg0.N) : FVec Ideal S1x1024 .f32 :=
  k0_pay8 (k0_pay6 (iblk m c 0 t) (iblk m c 3 t) (iblk m c 1 t) (iblk m c 2 t) (iblk m c 4 t)) (iblk m c 5 t) (k0_pay1 (F := Ideal))

/-- What a point adds to the gradient of the gain. -/
abbrev partG (c : Dev nD) (t : Fin cfg0.N) : FVec Ideal S1x1024 .f32 :=
  k0_pay10 (k0_pay5 (iblk m c 0 t) (iblk m c 3 t) (iblk m c 1 t) (iblk m c 2 t))
    (k0_pay6 (iblk m c 0 t) (iblk m c 3 t) (iblk m c 1 t) (iblk m c 2 t) (iblk m c 4 t)) (iblk m c 5 t) (k0_pay2 (F := Ideal))

/-- The lanes' losses after a point, before the last point adds them together. -/
def lanes (c : Dev nD) (n : Nat) (h : n < cfg0.N) (y : S1x1024.Idx) : EReal :=
  if n % 8 = 7 then ((outsAt0 m c (n - 1) (Nat.lt_of_le_of_lt (Nat.sub_le _ _) h)).1 y : EReal) + partL m c ⟨n, h⟩ y
  else (outsAt0 m c n h).1 y

theorem startL (c : Dev nD) (t : Fin cfg0.N) (p : t.val % 8 = 0) (y : S1x1024.Idx) :
    lanes m c t.val t.isLt y = (0 : EReal) + partL m c t y := by
  rw [lanes, if_neg (by omega), outsAt0_A m c t p (by omega)]; frame_out; exact (zero_add _).symm

theorem stepL (c : Dev nD) (t : Fin cfg0.N) (p : ¬ t.val % 8 = 0) (y : S1x1024.Idx) :
    lanes m c t.val t.isLt y
      = lanes m c (t.val - 1) (Nat.lt_of_le_of_lt (Nat.sub_le _ _) t.isLt) y + partL m c t y := by
  have e : lanes m c (t.val - 1) (Nat.lt_of_le_of_lt (Nat.sub_le _ _) t.isLt) y
      = (outsAt0 m c (t.val - 1) (Nat.lt_of_le_of_lt (Nat.sub_le _ _) t.isLt)).1 y := by
    rw [lanes, if_neg (by omega)]
  rw [e]
  by_cases q : t.val % 8 = 7
  · rw [lanes, if_pos q]
  · rw [lanes, if_neg q, outsAt0_B m c t p q]
    frame_out
    pointwise [k0_pay8, k0_pay1, partL]

/-- The last point leaves the sum of the lanes' losses in every lane. -/
theorem lastL (c : Dev nD) (t : Fin cfg0.N) (q : t.val % 8 = 7) (y : S1x1024.Idx) :
    (outsAt0 m c t.val t.isLt).1 y = ∑ j : Fin 1024, lanes m c t.val t.isLt (ix2 0 j) := by
  simp only [lanes, if_pos q]
  rw [outsAt0_C m c t (by omega) q]
  frame_out
  pointwise [k0_pay12, k0_pay8, k0_pay1, partL]

/-- The first point leaves its own part of the gain's gradient. -/
theorem startG (c : Dev nD) (t : Fin cfg0.N) (p : t.val % 8 = 0) (y : S1x1024.Idx) :
    (outsAt0 m c t.val t.isLt).2.2 y = (0 : EReal) + partG m c t y := by
  rw [outsAt0_A m c t p (by omega)]; frame_out; exact (zero_add _).symm

/-- Every other point adds its part. -/
theorem stepG (c : Dev nD) (t : Fin cfg0.N) (p : ¬ t.val % 8 = 0) (y : S1x1024.Idx) :
    (outsAt0 m c t.val t.isLt).2.2 y
      = ((outsAt0 m c (t.val - 1) (Nat.lt_of_le_of_lt (Nat.sub_le _ _) t.isLt)).2.2 y : EReal) + partG m c t y := by
  by_cases q : t.val % 8 = 7
  · rw [outsAt0_C m c t p q]
    frame_out
    pointwise [k0_pay10, k0_pay2, partG]
  · rw [outsAt0_B m c t p q]
    frame_out
    pointwise [k0_pay10, k0_pay2, partG]

theorem sum_mul (r : ℝ) (h : 0 ≤ r) {n : Nat} (f : Fin n → EReal) : (∑ k, f k) * (r : EReal) = ∑ k, f k * (r : EReal) := by
  let g : EReal →+ EReal :=
    ⟨⟨fun x => x * (r : EReal), zero_mul _⟩,
      fun x y => EReal.right_distrib_of_nonneg_of_ne_top (EReal.coe_nonneg.mpr h) (EReal.coe_ne_top r) x y⟩
  exact map_sum g f _

theorem bits_half : Ideal.ofBits .f32 1056964608#32 = ((1 / 2 : ℝ) : EReal) := by
  simp [Ideal.ofBits, Ideal.ieee, -EReal.coe_mul]; norm_num

theorem bits_2 : Ideal.ofBits .f32 1073741824#32 = ((2 : ℝ) : EReal) := by
  simp [Ideal.ofBits, Ideal.ieee, -EReal.coe_mul]; norm_num

theorem bits_1024 : Ideal.ofBits .f32 1149239296#32 = ((1024 : ℝ) : EReal) := by
  simp [Ideal.ofBits, Ideal.ieee, -EReal.coe_mul]; norm_num

theorem bits_2048 : Ideal.ofBits .f32 973078528#32 = ((1 / 2048 : ℝ) : EReal) := by
  simp [Ideal.ofBits, Ideal.ieee, -EReal.coe_mul]; norm_num

theorem bits_slope : Ideal.ofBits .f32 981467136#32 = ((1 / 1024 : ℝ) : EReal) := by
  simp [Ideal.ofBits, Ideal.ieee, -EReal.coe_mul]; norm_num

theorem div_1024 (a : EReal) : Ideal.div a ((1024 : ℝ) : EReal) = a * ((1 / 1024 : ℝ) : EReal) := by
  rw [Ideal.div, if_neg (by exact_mod_cast (by norm_num : (1024 : ℝ) ≠ 0)), ← EReal.coe_inv]
  norm_num

/-- The blocks' losses, each lane's added over rows and points before the lanes are, against the reference's order:
each row's mean first, then half the sum over rows. -/
theorem regroup (K : Fin 8 → Fin 512 → Fin 1024 → EReal) (R : Fin 2 → Fin 2048 → Fin 1024 → EReal)
    (h : ∀ (b : Fin 2) (s : Fin 4) (r : Fin 512) (x : Fin 1024),
      K ⟨b.val * 4 + s.val, by omega⟩ r x = R b ⟨s.val * 512 + r.val, by omega⟩ x) :
    ∑ x : Fin 1024, ∑ p : Fin 8, (∑ r : Fin 512, K p r x * K p r x) * Ideal.ofBits .f32 973078528#32
      = Ideal.ofBits .f32 1056964608#32
        * ∑ b : Fin 2, ∑ s : Fin 2048, Ideal.div (∑ x : Fin 1024, R b s x * R b s x) (Ideal.ofBits .f32 1149239296#32) := by
  rw [bits_2048, bits_half, bits_1024, EReal.mul_comm]
  simp only [div_1024, ← sum_mul (1 / 1024) (by norm_num), ← sum_mul (1 / 2048) (by norm_num)]
  rw [mul_assoc, ← EReal.coe_mul]
  refine congrArg₂ (fun a b : EReal => a * b) ?_ (congrArg _ (by norm_num))
  rw [Finset.sum_comm, Fin.sum_univ_tiles (N := 8) (M := EReal) 2 4 (by norm_num)]
  refine Fin.sum_fin_congr fun b => ?_
  rw [Fin.sum_univ_tiles (N := 2048) (M := EReal) 4 512 (by norm_num)]
  refine Fin.sum_fin_congr fun s => ?_
  rw [Finset.sum_comm]
  exact Fin.sum_fin_congr fun r => Fin.sum_fin_congr fun x => congrArg₂ (fun a b : EReal => a * b) (h b s r x) (h b s r x)

/-- The gradient of the loss in the prediction: the kernel's one constant against the reference's. -/
theorem slope (a : EReal) :
    a * Ideal.ofBits .f32 981467136#32
      = Ideal.div (Ideal.ofBits .f32 1056964608#32) (Ideal.ofBits .f32 1149239296#32)
        * (Ideal.ofBits .f32 1073741824#32 * a) := by
  have e : ((1 / 1024 : ℝ) : EReal) = ((1 / 2 : ℝ) : EReal) * ((1 / 1024 : ℝ) : EReal) * ((2 : ℝ) : EReal) := by
    rw [← EReal.coe_mul, ← EReal.coe_mul]; norm_num
  rw [bits_slope, bits_half, bits_1024, bits_2, div_1024, ← mul_assoc, ← e]
  exact EReal.mul_comm _ _

theorem v38_at (c : Dev nD) (j : Fin 1024) :
    val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j)
      = ∑ b : Fin 2, ∑ s : Fin 2048, (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j) : EReal) := by
  unfold val_main_v38
  refine (Mixer.hostReduceAdd_r3 _ _ _ _ j (Mixer.drop3 _ j)).trans ?_
  pointwise [val_main_cst_11]

theorem v42_at (c : Dev nD) (j : Fin 1024) :
    val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j) := by
  unfold val_main_v42
  refine (Mixer.hostReduceAdd_r3 _ _ _ _ j (Mixer.drop3 _ j)).trans ?_
  pointwise [val_main_cst_12, val_main_v39]
  exact (Fin.sum_univ_one _).trans (Fin.sum_univ_one _)

/-- The gradient of the gain is the reference's. -/
theorem finalG (c : Dev nD) : (dats m 0 c).arrAt 8 (cfgs 0).N = REFG m c := by
  refine (dats m 0 c).arrAt_eq_of_covers 8 _ (by decide +kernel) fun t hf y => ?_
  blk_simp
  rw [after0_8, Pipeline.eq_sum_fin_of_reset_step_apply_of_flush (M := EReal) (fun n h => (outsAt0 m c n h).2.2) 8 (fun _ => 0)
    (fun t => partG m c t) (startG m c) (stepG m c) t ((flush0_8 t).mp hf) _, zero_add]
  pointwise [partG, k0_pay10, k0_pay9, k0_pay2, k0_pay3, k0_pay4, k0_pay5, k0_pay6, k0_pay7, REFG, val_main_v43]
  refine Eq.trans ?_ ((v42_at m c _).trans (v38_at m c _)).symm
  pointwise [val_main_v37, val_main_v36, val_main_v35, val_main_v34, val_main_v32, val_main_v31, val_main_cst_8, val_main_cst_9, val_main_v33, val_main_cst_10, val_main_v25, val_main_v24, val_main_cst_3, val_main_v22, val_main_v21, val_main_v18, val_main_v5, val_main_v4, val_main_v3, val_main_v2, val_main_v0, val_main_v1, val_main_v17, val_main_v13, val_main_v12, val_main_v10, val_main_v8, val_main_v7, val_main_v6, val_main_cst, val_main_v9, val_main_cst_0, val_main_v11, val_main_cst_1, val_main_v20, val_main_v19]
  rw [Fin.sum_univ_tiles (N := 8) (M := EReal) 2 4 (by norm_num)]
  refine Fin.sum_fin_congr fun b => ?_
  rw [Fin.sum_univ_tiles (N := 2048) (M := EReal) 4 512 (by norm_num)]
  refine Fin.sum_fin_congr fun s => Fin.sum_fin_congr fun k => (EReal.mul_comm _ _).trans ?_
  have e := idx_val ⟨_, Pipeline.run_point_lt_of_flush t ((flush0_8 t).mp hf) (⟨b.val * 4 + s.val, by omega⟩ : Fin 8)⟩
  refine congrArg₂ (fun a b : EReal => a * b) (congrArg₂ (fun a b : EReal => a * b) (congrArg₂ (fun a b : EReal => a + b) ?_ (congrArg₂ (fun a b : EReal => a * b) ?_ (Fin.sum_fin_congr fun _ => congrArg₂ (fun a b : EReal => a * b) ?_ ?_)))
      (congrArg (fun a : EReal => Ideal.rsqrt (Ideal.div a _ + _)) (Fin.sum_fin_congr fun _ => congrArg₂ (fun a b : EReal => a * b)
        (congrArg₂ (fun a b : EReal => a + b) ?_ (congrArg₂ (fun a b : EReal => a * b) ?_ (Fin.sum_fin_congr fun _ => congrArg₂ (fun a b : EReal => a * b) ?_ ?_)))
        (congrArg₂ (fun a b : EReal => a + b) ?_ (congrArg₂ (fun a b : EReal => a * b) ?_ (Fin.sum_fin_congr fun _ => congrArg₂ (fun a b : EReal => a * b) ?_ ?_)))))) ((slope _).trans (congrArg (fun a : EReal => _ * (_ * a)) (congrArg₂ (fun a b : EReal => a - b) (congrArg₂ (fun a b : EReal => a * b) (congrArg₂ (fun a b : EReal => a * b) (congrArg₂ (fun a b : EReal => a + b) ?_ (congrArg₂ (fun a b : EReal => a * b) ?_ (Fin.sum_fin_congr fun _ => congrArg₂ (fun a b : EReal => a * b) ?_ ?_)))
      (congrArg (fun a : EReal => Ideal.rsqrt (Ideal.div a _ + _)) (Fin.sum_fin_congr fun _ => congrArg₂ (fun a b : EReal => a * b)
        (congrArg₂ (fun a b : EReal => a + b) ?_ (congrArg₂ (fun a b : EReal => a * b) ?_ (Fin.sum_fin_congr fun _ => congrArg₂ (fun a b : EReal => a * b) ?_ ?_)))
        (congrArg₂ (fun a b : EReal => a + b) ?_ (congrArg₂ (fun a b : EReal => a * b) ?_ (Fin.sum_fin_congr fun _ => congrArg₂ (fun a b : EReal => a * b) ?_ ?_)))))) ?_) ?_)))
  all_goals blk_point [iblk, V, idx_val t, e]

/-- The loss is the reference's. -/
theorem finalL (c : Dev nD) : (dats m 0 c).arrAt 6 (cfgs 0).N = REFL m c := by
  refine (dats m 0 c).arrAt_eq_of_covers 6 _ (by decide +kernel) fun t hf y => ?_
  blk_simp
  rw [after0_6, lastL m c t ((flush0_6 t).mp hf)]
  simp only [Pipeline.eq_sum_fin_of_reset_step_apply_of_flush (M := EReal) (lanes m c) 8 (fun _ => 0)
    (fun t => partL m c t) (startL m c) (stepL m c) t ((flush0_6 t).mp hf), zero_add]
  pointwise [partL, k0_pay8, k0_pay1, k0_pay3, k0_pay4, k0_pay5, k0_pay6, k0_pay7, REFL, val_main_v58, val_main_v30, val_main_cst_7, val_main_v29, val_main_v28, val_main_v26, val_main_v23, val_main_v22, val_main_v21, val_main_v18, val_main_v5, val_main_v4, val_main_v3, val_main_v2, val_main_v0, val_main_v1, val_main_v17, val_main_v13, val_main_v12, val_main_v10, val_main_v8, val_main_v7, val_main_v6, val_main_cst, val_main_v9, val_main_cst_0, val_main_v11, val_main_cst_1, val_main_v20, val_main_v19, val_main_cst_4, val_main_v27, val_main_cst_5, val_main_cst_6]
  refine regroup _ _ fun b s r x => ?_
  beta_reduce
  have e := idx_val ⟨_, Pipeline.run_point_lt_of_flush t ((flush0_6 t).mp hf) (⟨b.val * 4 + s.val, by omega⟩ : Fin 8)⟩
  refine congrArg₂ (fun a b : EReal => a - b) (congrArg₂ (fun a b : EReal => a * b) (congrArg₂ (fun a b : EReal => a * b) (congrArg₂ (fun a b : EReal => a + b) ?_ (congrArg₂ (fun a b : EReal => a * b) ?_ (Fin.sum_fin_congr fun _ => congrArg₂ (fun a b : EReal => a * b) ?_ ?_)))
      (congrArg (fun a : EReal => Ideal.rsqrt (Ideal.div a _ + _)) (Fin.sum_fin_congr fun _ => congrArg₂ (fun a b : EReal => a * b)
        (congrArg₂ (fun a b : EReal => a + b) ?_ (congrArg₂ (fun a b : EReal => a * b) ?_ (Fin.sum_fin_congr fun _ => congrArg₂ (fun a b : EReal => a * b) ?_ ?_)))
        (congrArg₂ (fun a b : EReal => a + b) ?_ (congrArg₂ (fun a b : EReal => a * b) ?_ (Fin.sum_fin_congr fun _ => congrArg₂ (fun a b : EReal => a * b) ?_ ?_)))))) ?_) ?_
  all_goals blk_point [iblk, V, idx_val t, e]

end Cert.LossHead

end
-- ==== Proof.LossHeadX.lean ====
module

public import proofs.«01_k».proof.Proof.Gen.Kernel20Ideal.Frame
public import proofs.«01_k».proof.Proof.Gen.Reference20Ideal.Read
public import proofs.«01_k».proof.Proof.LossHead
public import proofs.«01_k».proof.Proof.NormGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.LossHead

open Cert.Kernel20Ideal Cert.Kernel20Ideal.Gen
open Cert.Reference20Ideal.Read

variable (m : (ℓ : Loc nD τ sig) → Buf (Elt Ideal) ℓ)

/-- The reference's gradient in the norm's input. -/
abbrev REFX (c : Dev nD) : FVec Ideal S2x2048x1024 .f32 :=
  val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem one_at (c : Dev nD) (b : Fin 2) (s : Fin 2048) :
    val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 b s) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s 0) := by
  pointwise [val_main_v52, val_main_cst_15]
  exact Fin.sum_univ_one _

/-- The reference's gradient, row by row. -/
theorem ref_at (c : Dev nD) (b : Fin 2) (s : Fin 2048) (j : Fin 1024) :
    REFX m c (ix3 b s j) = NormGrad.rowR (fun k : Fin 1024 => ((NormGrad.re (m ((c : Thread nD τ).loc main_arg0) (ix3 b s k)) : EReal) + NormGrad.re (m ((c : Thread nD τ).loc main_arg3) (ix3 b 0 k)) * ∑ i : Fin 1024, (NormGrad.re (m ((c : Thread nD τ).loc main_arg1) (ix3 b s i)) : EReal) * NormGrad.re (m ((c : Thread nD τ).loc main_arg2) (ix2 i k))))
        (fun k => Ideal.div (Ideal.ofBits .f32 1056964608#32) (Ideal.ofBits .f32 1149239296#32) * (Ideal.ofBits .f32 1073741824#32 * (((NormGrad.re (m ((c : Thread nD τ).loc main_arg0) (ix3 b s k)) : EReal) + NormGrad.re (m ((c : Thread nD τ).loc main_arg3) (ix3 b 0 k)) * ∑ i : Fin 1024, (NormGrad.re (m ((c : Thread nD τ).loc main_arg1) (ix3 b s i)) : EReal) * NormGrad.re (m ((c : Thread nD τ).loc main_arg2) (ix2 i k))) * Ideal.rsqrt (NormGrad.mean2 fun k : Fin 1024 => ((NormGrad.re (m ((c : Thread nD τ).loc main_arg0) (ix3 b s k)) : EReal) + NormGrad.re (m ((c : Thread nD τ).loc main_arg3) (ix3 b 0 k)) * ∑ i : Fin 1024, (NormGrad.re (m ((c : Thread nD τ).loc main_arg1) (ix3 b s i)) : EReal) * NormGrad.re (m ((c : Thread nD τ).loc main_arg2) (ix2 i k)))) * NormGrad.re (m ((c : Thread nD τ).loc main_arg4) (ix2 0 k)) - NormGrad.re (m ((c : Thread nD τ).loc main_arg5) (ix3 b s k)))) * NormGrad.re (m ((c : Thread nD τ).loc main_arg4) (ix2 0 k))) ((NormGrad.re (m ((c : Thread nD τ).loc main_arg0) (ix3 b s j)) : EReal) + NormGrad.re (m ((c : Thread nD τ).loc main_arg3) (ix3 b 0 j)) * ∑ i : Fin 1024, (NormGrad.re (m ((c : Thread nD τ).loc main_arg1) (ix3 b s i)) : EReal) * NormGrad.re (m ((c : Thread nD τ).loc main_arg2) (ix2 i j)))
        (Ideal.div (Ideal.ofBits .f32 1056964608#32) (Ideal.ofBits .f32 1149239296#32) * (Ideal.ofBits .f32 1073741824#32 * (((NormGrad.re (m ((c : Thread nD τ).loc main_arg0) (ix3 b s j)) : EReal) + NormGrad.re (m ((c : Thread nD τ).loc main_arg3) (ix3 b 0 j)) * ∑ i : Fin 1024, (NormGrad.re (m ((c : Thread nD τ).loc main_arg1) (ix3 b s i)) : EReal) * NormGrad.re (m ((c : Thread nD τ).loc main_arg2) (ix2 i j))) * Ideal.rsqrt (NormGrad.mean2 fun k : Fin 1024 => ((NormGrad.re (m ((c : Thread nD τ).loc main_arg0) (ix3 b s k)) : EReal) + NormGrad.re (m ((c : Thread nD τ).loc main_arg3) (ix3 b 0 k)) * ∑ i : Fin 1024, (NormGrad.re (m ((c : Thread nD τ).loc main_arg1) (ix3 b s i)) : EReal) * NormGrad.re (m ((c : Thread nD τ).loc main_arg2) (ix2 i k)))) * NormGrad.re (m ((c : Thread nD τ).loc main_arg4) (ix2 0 j)) - NormGrad.re (m ((c : Thread nD τ).loc main_arg5) (ix3 b s j)))) * NormGrad.re (m ((c : Thread nD τ).loc main_arg4) (ix2 0 j))) := by
  pointwise [REFX, val_main_v57, val_main_v55, val_main_v54, val_main_v53, val_main_v56]
  rw [one_at]
  pointwise [val_main_v57, val_main_v55, val_main_v48, val_main_v41, val_main_v36, val_main_v35, val_main_v34, val_main_v32, val_main_v31, val_main_cst_8, val_main_cst_9, val_main_v33, val_main_cst_10, val_main_v25, val_main_v24, val_main_cst_3, val_main_v22, val_main_v21, val_main_v18, val_main_v5, val_main_v4, val_main_v3, val_main_v2, val_main_v0, val_main_v1, val_main_v17, val_main_v13, val_main_v12, val_main_v10, val_main_v8, val_main_v7, val_main_v6, val_main_cst, val_main_v9, val_main_cst_0, val_main_v11, val_main_cst_1, val_main_v20, val_main_v19, val_main_v40, val_main_v47, val_main_v54, val_main_v53, val_main_v51, val_main_v49, val_main_v46, val_main_v45, val_main_v44, val_main_cst_13, val_main_v16, val_main_v15, val_main_cst_2, val_main_v14, val_main_v50, val_main_cst_14, val_main_v56]
  rfl

theorem eta (i : S2x2048x1024.Idx) : i = ix3 (i 0) (i 1) (i 2) :=
  funext fun a => match a with
    | ⟨0, _⟩ => rfl
    | ⟨1, _⟩ => rfl
    | ⟨2, _⟩ => rfl

/-- What every point writes of the gradient in the norm's input, row by row. -/
theorem ker_at (c : Dev nD) (t : Fin cfg0.N) (y : S1x512x1024.Idx) :
    k0_pay11 (k0_pay4 (iblk m c 0 t) (iblk m c 3 t) (iblk m c 1 t) (iblk m c 2 t))
      (k0_pay5 (iblk m c 0 t) (iblk m c 3 t) (iblk m c 1 t) (iblk m c 2 t)) (iblk m c 4 t)
      (k0_pay6 (iblk m c 0 t) (iblk m c 3 t) (iblk m c 1 t) (iblk m c 2 t) (iblk m c 4 t)) (iblk m c 5 t) y = NormGrad.rowK (fun k : Fin 1024 => ((NormGrad.re (iblk m c 0 t (ix3 0 (y 1) k)) : EReal) + NormGrad.re (iblk m c 3 t (ix3 0 0 k)) * ∑ i : Fin 1024, (NormGrad.re (iblk m c 1 t (ix3 0 (y 1) i)) : EReal) * NormGrad.re (iblk m c 2 t (ix2 i k))))
        (fun k => (((NormGrad.re (iblk m c 0 t (ix3 0 (y 1) k)) : EReal) + NormGrad.re (iblk m c 3 t (ix3 0 0 k)) * ∑ i : Fin 1024, (NormGrad.re (iblk m c 1 t (ix3 0 (y 1) i)) : EReal) * NormGrad.re (iblk m c 2 t (ix2 i k))) * Ideal.rsqrt (NormGrad.mean2 fun k : Fin 1024 => ((NormGrad.re (iblk m c 0 t (ix3 0 (y 1) k)) : EReal) + NormGrad.re (iblk m c 3 t (ix3 0 0 k)) * ∑ i : Fin 1024, (NormGrad.re (iblk m c 1 t (ix3 0 (y 1) i)) : EReal) * NormGrad.re (iblk m c 2 t (ix2 i k)))) * NormGrad.re (iblk m c 4 t (ix2 0 k)) - NormGrad.re (iblk m c 5 t (ix3 0 (y 1) k))) * Ideal.ofBits .f32 981467136#32 * NormGrad.re (iblk m c 4 t (ix2 0 k))) ((NormGrad.re (iblk m c 0 t (y)) : EReal) + NormGrad.re (iblk m c 3 t (ix3 0 0 (y 2))) * ∑ i : Fin 1024, (NormGrad.re (iblk m c 1 t (ix3 0 (y 1) i)) : EReal) * NormGrad.re (iblk m c 2 t (ix2 i (y 2))))
        ((((NormGrad.re (iblk m c 0 t (y)) : EReal) + NormGrad.re (iblk m c 3 t (ix3 0 0 (y 2))) * ∑ i : Fin 1024, (NormGrad.re (iblk m c 1 t (ix3 0 (y 1) i)) : EReal) * NormGrad.re (iblk m c 2 t (ix2 i (y 2)))) * Ideal.rsqrt (NormGrad.mean2 fun k : Fin 1024 => ((NormGrad.re (iblk m c 0 t (ix3 0 (y 1) k)) : EReal) + NormGrad.re (iblk m c 3 t (ix3 0 0 k)) * ∑ i : Fin 1024, (NormGrad.re (iblk m c 1 t (ix3 0 (y 1) i)) : EReal) * NormGrad.re (iblk m c 2 t (ix2 i k)))) * NormGrad.re (iblk m c 4 t (ix2 0 (y 2))) - NormGrad.re (iblk m c 5 t (y))) * Ideal.ofBits .f32 981467136#32 * NormGrad.re (iblk m c 4 t (ix2 0 (y 2)))) := by
  pointwise [k0_pay11, k0_pay3, k0_pay4, k0_pay5, k0_pay6, k0_pay7, k0_pay9]
  rfl

theorem pointX (c : Dev nD) (t : Fin cfg0.N) (y : S1x512x1024.Idx) :
    k0_pay11 (k0_pay4 (iblk m c 0 t) (iblk m c 3 t) (iblk m c 1 t) (iblk m c 2 t))
      (k0_pay5 (iblk m c 0 t) (iblk m c 3 t) (iblk m c 1 t) (iblk m c 2 t)) (iblk m c 4 t)
      (k0_pay6 (iblk m c 0 t) (iblk m c 3 t) (iblk m c 1 t) (iblk m c 2 t) (iblk m c 4 t)) (iblk m c 5 t) y = REFX m c (((cfg0.win 7).blk t).view.emb y) := by
  refine Eq.trans (ker_at m c t y) (Eq.trans ?_ ((congrArg (REFX m c) (eta _)).trans (ref_at m c _ _ _)).symm)
  refine (NormGrad.row _ _ _ _).trans (NormGrad.rowR_congr (fun k => (congrArg₂ (fun a b : EReal => a + b) ?_ (congrArg₂ (fun a b : EReal => a * b) ?_ (Fin.sum_fin_congr fun _ => congrArg₂ (fun a b : EReal => a * b) ?_ ?_))))
    (fun k => (congrArg₂ (fun a b : EReal => a * b) ((slope _).trans (congrArg (fun a : EReal => _ * (_ * a)) (congrArg₂ (fun a b : EReal => a - b) (congrArg₂ (fun a b : EReal => a * b) (congrArg₂ (fun a b : EReal => a * b) (congrArg₂ (fun a b : EReal => a + b) ?_ (congrArg₂ (fun a b : EReal => a * b) ?_ (Fin.sum_fin_congr fun _ => congrArg₂ (fun a b : EReal => a * b) ?_ ?_)))
      (congrArg (fun a : EReal => Ideal.rsqrt (Ideal.div a _ + _)) (Fin.sum_fin_congr fun _ => congrArg₂ (fun a b : EReal => a * b)
        (congrArg₂ (fun a b : EReal => a + b) ?_ (congrArg₂ (fun a b : EReal => a * b) ?_ (Fin.sum_fin_congr fun _ => congrArg₂ (fun a b : EReal => a * b) ?_ ?_)))
        (congrArg₂ (fun a b : EReal => a + b) ?_ (congrArg₂ (fun a b : EReal => a * b) ?_ (Fin.sum_fin_congr fun _ => congrArg₂ (fun a b : EReal => a * b) ?_ ?_)))))) ?_) ?_))) ?_)) (congrArg₂ (fun a b : EReal => a + b) ?_ (congrArg₂ (fun a b : EReal => a * b) ?_ (Fin.sum_fin_congr fun _ => congrArg₂ (fun a b : EReal => a * b) ?_ ?_)))
    (congrArg₂ (fun a b : EReal => a * b) ((slope _).trans (congrArg (fun a : EReal => _ * (_ * a)) (congrArg₂ (fun a b : EReal => a - b) (congrArg₂ (fun a b : EReal => a * b) (congrArg₂ (fun a b : EReal => a * b) (congrArg₂ (fun a b : EReal => a + b) ?_ (congrArg₂ (fun a b : EReal => a * b) ?_ (Fin.sum_fin_congr fun _ => congrArg₂ (fun a b : EReal => a * b) ?_ ?_)))
      (congrArg (fun a : EReal => Ideal.rsqrt (Ideal.div a _ + _)) (Fin.sum_fin_congr fun _ => congrArg₂ (fun a b : EReal => a * b)
        (congrArg₂ (fun a b : EReal => a + b) ?_ (congrArg₂ (fun a b : EReal => a * b) ?_ (Fin.sum_fin_congr fun _ => congrArg₂ (fun a b : EReal => a * b) ?_ ?_)))
        (congrArg₂ (fun a b : EReal => a + b) ?_ (congrArg₂ (fun a b : EReal => a * b) ?_ (Fin.sum_fin_congr fun _ => congrArg₂ (fun a b : EReal => a * b) ?_ ?_)))))) ?_) ?_))) ?_))
  all_goals blk_point [NormGrad.re, iblk, V, idx_val t]

/-- Every point leaves its part of the gradient in the norm's input. -/
theorem leftX (c : Dev nD) (t : Fin cfg0.N) (y : S1x512x1024.Idx) :
    (outsAt0 m c t.val t.isLt).2.1 y = REFX m c (((cfg0.win 7).blk t).view.emb y) := by
  by_cases q : t.val % 8 = 7
  · rw [outsAt0_C m c t (by omega) q]; frame_out; exact pointX m c t y
  · by_cases p : t.val % 8 = 0
    · rw [outsAt0_A m c t p (by omega)]; frame_out; exact pointX m c t y
    · rw [outsAt0_B m c t p q]; frame_out; exact pointX m c t y

/-- The gradient in the norm's input is the reference's. -/
theorem finalX (c : Dev nD) : (dats m 0 c).arrAt 7 (cfgs 0).N = REFX m c := by
  refine (dats m 0 c).arrAt_eq_of_covers 7 _ (by decide +kernel) fun t hf y => ?_
  blk_simp; rw [after0_7]
  exact leftX m c t y

end Cert.LossHead

end
-- ==== Proof.MixerStored.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

/-- The rows from `r0` of segment `j` of a block of the projections lie in it. -/
theorem inb4 {j r0 : Nat} (hj : j < 12) (h : r0 + 128 ≤ 2048) :
    ∀ a, (![j, 0, r0, 0] : Fin 4 → Nat) a + S1x1x128x128.size a ≤ S12x1x2048x128.size a := by
  intro a; fin_cases a
  · show j + 1 ≤ 12; omega
  · show 0 + 1 ≤ 1; omega
  · show r0 + 128 ≤ 2048; omega
  · show 0 + 128 ≤ 128; omega

/-- The rows from `r0` of a block of activations lie in it. -/
theorem inb3 {r0 : Nat} (h : r0 + 128 ≤ 2048) :
    ∀ a, (![0, r0, 0] : Fin 3 → Nat) a + S1x128x128.size a ≤ S1x2048x128.size a := by
  intro a; fin_cases a
  · show 0 + 1 ≤ 1; omega
  · show r0 + 128 ≤ 2048; omega
  · show 0 + 128 ≤ 128; omega

/-- One tile of a segment, as an array of 128 rows and 128 channels. -/
abbrev seg (X : Vec Ideal S1x1x128x128 .bf16) : FVec Ideal S128x128 .f32 :=
  extf .f32 (shapeCast S128x128 X Gen.shapeCasts_S1x1x128x128_S128x128) Gen.bitsLt_bf16_f32

/-- One tile of an activation, as an array of 128 rows and 128 channels. -/
abbrev act (X : Vec Ideal S1x128x128 .bf16) : FVec Ideal S128x128 .f32 :=
  extf .f32 (shapeCast S128x128 X Gen.shapeCasts_S1x128x128_S128x128) Gen.bitsLt_bf16_f32

/-- A float32 tile, as an array of 128 rows and 128 columns. -/
abbrev sq (X : Vec Ideal S1x128x128 .f32) : FVec Ideal S128x128 .f32 :=
  shapeCast S128x128 X Gen.shapeCasts_S1x128x128_S128x128

/-- The tile stored back into its segment. -/
abbrev put (v : FVec Ideal S128x128 .f32) : Vec Ideal S1x1x128x128 .bf16 :=
  shapeCast S1x1x128x128 (truncf .bf16 v Gen.bitsLt_bf16_f32) Gen.shapeCasts_S128x128_S1x1x128x128

/-- The constant 1/2. -/
abbrev half : FVec Ideal S128x128 .f32 := broadcast S128x128 (FloatOps.ofBits FTy.f32 1056964608#32)

/-- The constant 1. -/
abbrev one : FVec Ideal S128x128 .f32 := broadcast S128x128 (FloatOps.ofBits FTy.f32 1065353216#32)

/-- The logistic function, by the hyperbolic tangent. -/
abbrev sgm (v : FVec Ideal S128x128 .f32) : FVec Ideal S128x128 .f32 :=
  addf (mulf half (tanh (mulf half v))) half

/-- `v` times its logistic function. -/
abbrev silu (v : FVec Ideal S128x128 .f32) : FVec Ideal S128x128 .f32 := mulf v (sgm v)

/-- The gradient of a gate: `dm · σ(g) · y · (1 − σ(g))`. -/
abbrev gateF (dm g y : FVec Ideal S128x128 .f32) : FVec Ideal S128x128 .f32 :=
  mulf (mulf (mulf dm (sgm g)) y) (subf one (sgm g))

/-- The mean over the channels of a tile, along its rows. -/
abbrev meanF (v : FVec Ideal S128x128 .f32) : FVec Ideal S128x1 .f32 :=
  divf (shapeCast S128x1 (multiReduction FKind.add [1] S128 v (0#32) Gen.reduces_S128x128_S128 (by decide) (by decide))
    Gen.shapeCasts_S128_S128x1) (broadcast S128x1 (FloatOps.ofBits FTy.f32 1124073472#32))

/-- A tile less its mean. -/
abbrev cenF (v : FVec Ideal S128x128 .f32) : FVec Ideal S128x128 .f32 :=
  subf v (broadcastTo S128x128 (meanF v) Gen.broadcasts_S128x1_S128x128)

/-- The normalised tile. -/
abbrev vnF (v : FVec Ideal S128x128 .f32) : FVec Ideal S128x128 .f32 :=
  mulf (cenF v) (broadcastTo S128x128 (rsqrt (addf (meanF (mulf (cenF v) (cenF v)))
    (broadcast S128x1 (FloatOps.ofBits FTy.f32 897988541#32)))) Gen.broadcasts_S128x1_S128x128)

/-- The spatial weight, its upper triangle replaced by zeros. -/
abbrev swF (w : FVec Ideal S128x128 .f32) : FVec Ideal S128x128 .bf16 :=
  truncf .bf16 (select (cmpi CmpIPredicate.sle (iota Kind.tc S128x128 32 [1] Gen.iota_S128x128_d1_w32)
    (iota Kind.tc S128x128 32 [0] Gen.iota_S128x128_d0_w32)) w (broadcast S128x128 (FloatOps.ofBits FTy.f32 0#32)))
    Gen.bitsLt_bf16_f32

/-- The spatial gate: weight times normalised tile, plus bias. -/
abbrev zF (w b v : FVec Ideal S128x128 .f32) : FVec Ideal S128x128 .f32 :=
  addf (matmul dot_S128x128_S128x128_S128x128_1_0_0_1_n_n none (swF w) (truncf .bf16 (vnF v) Gen.bitsLt_bf16_f32)
    (constant S128x128 FTy.f32 0#32)) b

/-- The gradient of the short convolution. -/
abbrev dcvF (dm ga ab az : FVec Ideal S128x128 .f32) : FVec Ideal S128x128 .f32 :=
  mulf (mulf (mulf dm (sgm ga)) ab) (silu az)

/-- A tile moved up by `128 + 16 − k` modulo 144 rows, the 16 rows `n` following it. -/
abbrev upF (k : BitVec 32) (v : FVec Ideal S128x128 .f32) (n : FVec Ideal S16x128 .f32) : FVec Ideal S128x128 .f32 :=
  extractStridedSlice S128x128 ![0, 0] (dynamicRotate 0 k none
    (concatenate S144x128 0 [⟨S128x128, v⟩, ⟨S16x128, n⟩] Gen.concatenates_S128x128_S16x128_S144x128_d0)
    Gen.rotates_S144x128_d0) Gen.slices_S144x128_o0_0_S128x128

/-- The transposed short convolution of `d`, followed by the rows `n`. -/
abbrev dcaF (w0 w1 w2 : FVec Ideal S1x128 .f32) (d : FVec Ideal S128x128 .f32) (n : FVec Ideal S16x128 .f32) : FVec Ideal S128x128 .f32 :=
  addf (addf (mulf (broadcastTo S128x128 w2 Gen.broadcasts_S1x128_S128x128) d)
    (mulf (broadcastTo S128x128 w1 Gen.broadcasts_S1x128_S128x128) (upF 143#32 d n)))
    (mulf (broadcastTo S128x128 w0 Gen.broadcasts_S1x128_S128x128) (upF 142#32 d n))

/-- The first 16 rows of a tile. -/
abbrev headF (d : FVec Ideal S128x128 .f32) : FVec Ideal S16x128 .f32 :=
  extractStridedSlice S16x128 ![0, 0] d Gen.slices_S128x128_o0_0_S16x128

/-- Sixteen rows of zeros. -/
abbrev zero16 : FVec Ideal S16x128 .f32 := broadcast S16x128 (FloatOps.ofBits FTy.f32 0#32)

variable (m : (ℓ : Loc nD τ sig) → Buf (Elt Ideal) ℓ)

/-- Rows `r0 … r0 + 127` of segment `j`, as the point's body loads them. -/
abbrev P (c : Dev nD) (t : Fin cfg0.N) (j r0 : Nat) (hj : j < 12) (h : r0 + 128 ≤ 2048) : FVec Ideal S128x128 .f32 :=
  seg (View.readAt (Elt Ideal) (ms0_0 t).view (Rect.unit (s := S12x1x2048x128) ![j, 0, r0, 0] S1x1x128x128.size (inb4 hj h)).toLoadRect ((hs0_0 t).unread (iblk m c 0 t)))

/-- The same rows of the gradient of the merged activation. -/
abbrev DM (c : Dev nD) (t : Fin cfg0.N) (r0 : Nat) (h : r0 + 128 ≤ 2048) : FVec Ideal S128x128 .f32 :=
  act (View.readAt (Elt Ideal) (ms0_1 t).view (Rect.unit (s := S1x2048x128) ![0, r0, 0] S1x128x128.size (inb3 h)).toLoadRect ((hs0_1 t).unread (iblk m c 1 t)))

/-- The same rows of the recurrence's states. -/
abbrev HS (c : Dev nD) (t : Fin cfg0.N) (r0 : Nat) (h : r0 + 128 ≤ 2048) : FVec Ideal S128x128 .f32 :=
  sq (View.readAt (Elt Ideal) (ms0_2 t).view (Rect.unit (s := S1x2048x128) ![0, r0, 0] S1x128x128.size (inb3 h)).toLoadRect ((hs0_2 t).unread (iblk m c 2 t)))

/-- The same rows of the short convolution. -/
abbrev CV (c : Dev nD) (t : Fin cfg0.N) (r0 : Nat) (h : r0 + 128 ≤ 2048) : FVec Ideal S128x128 .f32 :=
  act (View.readAt (Elt Ideal) (ms0_3 t).view (Rect.unit (s := S1x2048x128) ![0, r0, 0] S1x128x128.size (inb3 h)).toLoadRect ((hs0_3 t).unread (iblk m c 3 t)))

/-- Tap `k` of the short convolution. -/
abbrev W (c : Dev nD) (t : Fin cfg0.N) (k : Nat) (hk : ∀ a, (![k, 0] : Fin 2 → Nat) a + S1x128.size a ≤ S3x128.size a) : FVec Ideal S1x128 .f32 :=
  View.readAt (Elt Ideal) (ms0_5 t).view (Rect.unit (s := S3x128) ![k, 0] S1x128.size hk).toLoadRect ((hs0_5 t).unread (iblk m c 5 t))

/-- The spatial weight of the point's head. -/
abbrev SWt (c : Dev nD) (t : Fin cfg0.N) : FVec Ideal S128x128 .f32 :=
  sq (View.readAt (Elt Ideal) (ms0_6 t).view (Rect.unit (s := S1x128x128) ![0, 0, 0] S1x128x128.size (by decide)).toLoadRect ((hs0_6 t).unread (iblk m c 6 t)))

/-- The spatial bias of the point's head. -/
abbrev SBt (c : Dev nD) (t : Fin cfg0.N) : FVec Ideal S128x128 .f32 :=
  sq (View.readAt (Elt Ideal) (ms0_7 t).view (Rect.unit (s := S1x128x128) ![0, 0, 0] S1x128x128.size (by decide)).toLoadRect ((hs0_7 t).unread (iblk m c 7 t)))

/-- The gradient of the short convolution on the rows from `r0`. -/
abbrev DCV (c : Dev nD) (t : Fin cfg0.N) (r0 : Nat) (h : r0 + 128 ≤ 2048) : FVec Ideal S128x128 .f32 :=
  dcvF (DM m c t r0 h) (P m c t 9 r0 (by decide) h) (P m c t 1 r0 (by decide) h) (P m c t 3 r0 (by decide) h)

/-- The spatial gate on the rows from `r0`. -/
abbrev Z (c : Dev nD) (t : Fin cfg0.N) (r0 : Nat) (h : r0 + 128 ≤ 2048) : FVec Ideal S128x128 .f32 :=
  zF (SWt m c t) (SBt m c t) (P m c t 5 r0 (by decide) h)

/-- The transposed convolution on the rows from `r0`, followed by the rows `n`. -/
abbrev DCA (c : Dev nD) (t : Fin cfg0.N) (r0 : Nat) (h : r0 + 128 ≤ 2048) (n : FVec Ideal S16x128 .f32) : FVec Ideal S128x128 .f32 :=
  dcaF (W m c t 0 (by decide)) (W m c t 1 (by decide)) (W m c t 2 (by decide)) (DCV m c t r0 h) n

/-- On the rows from `r0`: the gradient of the first gate. -/
abbrev vGA (c : Dev nD) (t : Fin cfg0.N) (r0 : Nat) (h : r0 + 128 ≤ 2048) : FVec Ideal S128x128 .f32 :=
  gateF (DM m c t r0 h) (P m c t 9 r0 (by decide) h) (mulf (mulf (silu (P m c t 3 r0 (by decide) h)) (P m c t 1 r0 (by decide) h)) (CV m c t r0 h))

/-- On the rows from `r0`: the gradient of the second gate. -/
abbrev vGS (c : Dev nD) (t : Fin cfg0.N) (r0 : Nat) (h : r0 + 128 ≤ 2048) : FVec Ideal S128x128 .f32 :=
  gateF (DM m c t r0 h) (P m c t 10 r0 (by decide) h) (mulf (mulf (silu (P m c t 6 r0 (by decide) h)) (P m c t 4 r0 (by decide) h)) (Z m c t r0 h))

/-- On the rows from `r0`: the gradient of the third gate. -/
abbrev vGR (c : Dev nD) (t : Fin cfg0.N) (r0 : Nat) (h : r0 + 128 ≤ 2048) : FVec Ideal S128x128 .f32 :=
  gateF (DM m c t r0 h) (P m c t 11 r0 (by decide) h) (mulf (silu (P m c t 8 r0 (by decide) h)) (HS m c t r0 h))

/-- On the rows from `r0`: the gradient of the gate `b` of the short convolution. -/
abbrev vAB (c : Dev nD) (t : Fin cfg0.N) (r0 : Nat) (h : r0 + 128 ≤ 2048) : FVec Ideal S128x128 .f32 :=
  mulf (mulf (mulf (DM m c t r0 h) (sgm (P m c t 9 r0 (by decide) h))) (CV m c t r0 h)) (silu (P m c t 3 r0 (by decide) h))

/-- On the rows from `r0`: the gradient of the gated half `u`. -/
abbrev vSU (c : Dev nD) (t : Fin cfg0.N) (r0 : Nat) (h : r0 + 128 ≤ 2048) : FVec Ideal S128x128 .f32 :=
  mulf (mulf (mulf (DM m c t r0 h) (sgm (P m c t 10 r0 (by decide) h))) (Z m c t r0 h)) (silu (P m c t 6 r0 (by decide) h))

/-- On the rows from `r0`: the gradient of the gate `c` of the short convolution, the rows of the convolution's gradient that follow being `n`. -/
abbrev vAC (c : Dev nD) (t : Fin cfg0.N) (r0 : Nat) (h : r0 + 128 ≤ 2048) (n : FVec Ideal S16x128 .f32) : FVec Ideal S128x128 .f32 :=
  mulf (DCA m c t r0 h n) (P m c t 0 r0 (by decide) h)

/-- On the rows from `r0`: the gradient of the convolved input, the rows of the convolution's gradient that follow being `n`. -/
abbrev vAX (c : Dev nD) (t : Fin cfg0.N) (r0 : Nat) (h : r0 + 128 ≤ 2048) (n : FVec Ideal S16x128 .f32) : FVec Ideal S128x128 .f32 :=
  mulf (DCA m c t r0 h n) (P m c t 2 r0 (by decide) h)

/-- The rows of the short convolution's gradient that follow the tile at `r0`: the next tile's first, zeros at the end. -/
def next (c : Dev nD) (t : Fin cfg0.N) (r0 : Nat) : FVec Ideal S16x128 .f32 :=
  if h : r0 + 128 + 128 ≤ 2048 then headF (DCV m c t (r0 + 128) h) else zero16

/-- At `y` every tile of the claimed segments has the value `v`, and every tile of another segment misses `y`. -/
structure Tiles (c : Dev nD) (t : Fin cfg0.N) (y : S12x1x2048x128.Idx) (v : Elt Ideal .bf16) : Prop where
  other : ∀ j r0 : Nat, (j = 3 ∨ j = 5 ∨ j = 6 ∨ j = 7 ∨ j = 8) → ∀ w, View.TileAt y ![j, 0, r0, 0] S1x1x128x128.size w v
  ga : ∀ r0 (h : r0 + 128 ≤ 2048), r0 % 128 = 0 → View.TileAt y ![9, 0, r0, 0] S1x1x128x128.size (put (vGA m c t r0 h)) v
  gs : ∀ r0 (h : r0 + 128 ≤ 2048), r0 % 128 = 0 → View.TileAt y ![10, 0, r0, 0] S1x1x128x128.size (put (vGS m c t r0 h)) v
  gr : ∀ r0 (h : r0 + 128 ≤ 2048), r0 % 128 = 0 → View.TileAt y ![11, 0, r0, 0] S1x1x128x128.size (put (vGR m c t r0 h)) v
  ab : ∀ r0 (h : r0 + 128 ≤ 2048), r0 % 128 = 0 → View.TileAt y ![1, 0, r0, 0] S1x1x128x128.size (put (vAB m c t r0 h)) v
  su : ∀ r0 (h : r0 + 128 ≤ 2048), r0 % 128 = 0 → View.TileAt y ![4, 0, r0, 0] S1x1x128x128.size (put (vSU m c t r0 h)) v
  ac : ∀ r0 (h : r0 + 128 ≤ 2048), r0 % 128 = 0 → View.TileAt y ![2, 0, r0, 0] S1x1x128x128.size (put (vAC m c t r0 h (next m c t r0))) v
  ax : ∀ r0 (h : r0 + 128 ≤ 2048), r0 % 128 = 0 → View.TileAt y ![0, 0, r0, 0] S1x1x128x128.size (put (vAX m c t r0 h (next m c t r0))) v

variable {m}

/-- One trip's twelve stores, before the others. -/
theorem Tiles.cons {c : Dev nD} {t : Fin cfg0.N} {y : S12x1x2048x128.Idx} {v : Elt Ideal .bf16} (T : Tiles m c t y v)
    (r0 : Nat) (h : r0 + 128 ≤ 2048) (h0 : r0 % 128 = 0) (n : FVec Ideal S16x128 .f32) (hn : next m c t r0 = n)
    (w3 w5 w6 w7 w8 : (⟨4, S1x1x128x128.size⟩ : Shape).Idx → Elt Ideal .bf16)
    (L : List (View.Piece (Elt Ideal) S12x1x2048x128 .bf16)) (hL : View.AllAt L y v) :
    View.AllAt (
      ⟨Rect.unit (s := S12x1x2048x128) ![7, 0, r0, 0] S1x1x128x128.size (inb4 (by decide) h), w7⟩ ::
      ⟨Rect.unit (s := S12x1x2048x128) ![8, 0, r0, 0] S1x1x128x128.size (inb4 (by decide) h), w8⟩ ::
      ⟨Rect.unit (s := S12x1x2048x128) ![5, 0, r0, 0] S1x1x128x128.size (inb4 (by decide) h), w5⟩ ::
      ⟨Rect.unit (s := S12x1x2048x128) ![4, 0, r0, 0] S1x1x128x128.size (inb4 (by decide) h), put (vSU m c t r0 h)⟩ ::
      ⟨Rect.unit (s := S12x1x2048x128) ![6, 0, r0, 0] S1x1x128x128.size (inb4 (by decide) h), w6⟩ ::
      ⟨Rect.unit (s := S12x1x2048x128) ![0, 0, r0, 0] S1x1x128x128.size (inb4 (by decide) h), put (vAX m c t r0 h n)⟩ ::
      ⟨Rect.unit (s := S12x1x2048x128) ![2, 0, r0, 0] S1x1x128x128.size (inb4 (by decide) h), put (vAC m c t r0 h n)⟩ ::
      ⟨Rect.unit (s := S12x1x2048x128) ![1, 0, r0, 0] S1x1x128x128.size (inb4 (by decide) h), put (vAB m c t r0 h)⟩ ::
      ⟨Rect.unit (s := S12x1x2048x128) ![3, 0, r0, 0] S1x1x128x128.size (inb4 (by decide) h), w3⟩ ::
      ⟨Rect.unit (s := S12x1x2048x128) ![11, 0, r0, 0] S1x1x128x128.size (inb4 (by decide) h), put (vGR m c t r0 h)⟩ ::
      ⟨Rect.unit (s := S12x1x2048x128) ![10, 0, r0, 0] S1x1x128x128.size (inb4 (by decide) h), put (vGS m c t r0 h)⟩ ::
      ⟨Rect.unit (s := S12x1x2048x128) ![9, 0, r0, 0] S1x1x128x128.size (inb4 (by decide) h), put (vGA m c t r0 h)⟩ :: L) y v := by
  subst hn
  refine View.allAt_cons_unit _ _ _ _ _ (T.other 7 r0 (by decide) _) ?_
  refine View.allAt_cons_unit _ _ _ _ _ (T.other 8 r0 (by decide) _) ?_
  refine View.allAt_cons_unit _ _ _ _ _ (T.other 5 r0 (by decide) _) ?_
  refine View.allAt_cons_unit _ _ _ _ _ (T.su r0 h h0) ?_
  refine View.allAt_cons_unit _ _ _ _ _ (T.other 6 r0 (by decide) _) ?_
  refine View.allAt_cons_unit _ _ _ _ _ (T.ax r0 h h0) ?_
  refine View.allAt_cons_unit _ _ _ _ _ (T.ac r0 h h0) ?_
  refine View.allAt_cons_unit _ _ _ _ _ (T.ab r0 h h0) ?_
  refine View.allAt_cons_unit _ _ _ _ _ (T.other 3 r0 (by decide) _) ?_
  refine View.allAt_cons_unit _ _ _ _ _ (T.gr r0 h h0) ?_
  refine View.allAt_cons_unit _ _ _ _ _ (T.gs r0 h h0) ?_
  refine View.allAt_cons_unit _ _ _ _ _ (T.ga r0 h h0) ?_
  exact hL

set_option maxHeartbeats 4000000 in
/-- What a point stores of the gradients of the projections, read at `y`. -/
theorem stored {c : Dev nD} {t : Fin cfg0.N} {y : S12x1x2048x128.Idx} {v : Elt Ideal .bf16} (T : Tiles m c t y v) :
    (outsAt0 m c t.val t.isLt).1 y = v := by
  by_cases h0 : t.val % 2 = 0
  · rw [outsAt0_A m c t h0 (by omega)]
    dsimp only
    unfold out0_A_15
    rw [View.read_writes_junk_eq_canon]
    refine View.canon_eq_of_allAt _ _ _ (cover0_A_15 ..) ?_
    refine T.cons 0 (by decide) (by decide) _ (dif_pos (by decide)) _ _ _ _ _ _ ?_
    refine T.cons 128 (by decide) (by decide) _ (dif_pos (by decide)) _ _ _ _ _ _ ?_
    refine T.cons 256 (by decide) (by decide) _ (dif_pos (by decide)) _ _ _ _ _ _ ?_
    refine T.cons 384 (by decide) (by decide) _ (dif_pos (by decide)) _ _ _ _ _ _ ?_
    refine T.cons 512 (by decide) (by decide) _ (dif_pos (by decide)) _ _ _ _ _ _ ?_
    refine T.cons 640 (by decide) (by decide) _ (dif_pos (by decide)) _ _ _ _ _ _ ?_
    refine T.cons 768 (by decide) (by decide) _ (dif_pos (by decide)) _ _ _ _ _ _ ?_
    refine T.cons 896 (by decide) (by decide) _ (dif_pos (by decide)) _ _ _ _ _ _ ?_
    refine T.cons 1024 (by decide) (by decide) _ (dif_pos (by decide)) _ _ _ _ _ _ ?_
    refine T.cons 1152 (by decide) (by decide) _ (dif_pos (by decide)) _ _ _ _ _ _ ?_
    refine T.cons 1280 (by decide) (by decide) _ (dif_pos (by decide)) _ _ _ _ _ _ ?_
    refine T.cons 1408 (by decide) (by decide) _ (dif_pos (by decide)) _ _ _ _ _ _ ?_
    refine T.cons 1536 (by decide) (by decide) _ (dif_pos (by decide)) _ _ _ _ _ _ ?_
    refine T.cons 1664 (by decide) (by decide) _ (dif_pos (by decide)) _ _ _ _ _ _ ?_
    refine T.cons 1792 (by decide) (by decide) _ (dif_pos (by decide)) _ _ _ _ _ _ ?_
    refine T.cons 1920 (by decide) (by decide) _ (dif_neg (by decide)) _ _ _ _ _ _ ?_
    exact View.allAt_nil _ _
  · rw [outsAt0_B m c t h0 (by omega)]
    dsimp only
    unfold out0_B_15
    rw [View.read_writes_junk_eq_canon]
    refine View.canon_eq_of_allAt _ _ _ (cover0_B_15 ..) ?_
    refine T.cons 0 (by decide) (by decide) _ (dif_pos (by decide)) _ _ _ _ _ _ ?_
    refine T.cons 128 (by decide) (by decide) _ (dif_pos (by decide)) _ _ _ _ _ _ ?_
    refine T.cons 256 (by decide) (by decide) _ (dif_pos (by decide)) _ _ _ _ _ _ ?_
    refine T.cons 384 (by decide) (by decide) _ (dif_pos (by decide)) _ _ _ _ _ _ ?_
    refine T.cons 512 (by decide) (by decide) _ (dif_pos (by decide)) _ _ _ _ _ _ ?_
    refine T.cons 640 (by decide) (by decide) _ (dif_pos (by decide)) _ _ _ _ _ _ ?_
    refine T.cons 768 (by decide) (by decide) _ (dif_pos (by decide)) _ _ _ _ _ _ ?_
    refine T.cons 896 (by decide) (by decide) _ (dif_pos (by decide)) _ _ _ _ _ _ ?_
    refine T.cons 1024 (by decide) (by decide) _ (dif_pos (by decide)) _ _ _ _ _ _ ?_
    refine T.cons 1152 (by decide) (by decide) _ (dif_pos (by decide)) _ _ _ _ _ _ ?_
    refine T.cons 1280 (by decide) (by decide) _ (dif_pos (by decide)) _ _ _ _ _ _ ?_
    refine T.cons 1408 (by decide) (by decide) _ (dif_pos (by decide)) _ _ _ _ _ _ ?_
    refine T.cons 1536 (by decide) (by decide) _ (dif_pos (by decide)) _ _ _ _ _ _ ?_
    refine T.cons 1664 (by decide) (by decide) _ (dif_pos (by decide)) _ _ _ _ _ _ ?_
    refine T.cons 1792 (by decide) (by decide) _ (dif_pos (by decide)) _ _ _ _ _ _ ?_
    refine T.cons 1920 (by decide) (by decide) _ (dif_neg (by decide)) _ _ _ _ _ _ ?_
    exact View.allAt_nil _ _

end Cert.Mixer

end
-- ==== Proof.MixerTile.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerStored

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

/-- The hyperbolic form of the logistic function. -/
theorem half_tanh (x : EReal) : ((1/2 : ℝ) : EReal) * Ideal.tanh (((1/2 : ℝ) : EReal) * x) + ((1/2 : ℝ) : EReal) = Ideal.logistic x := by
  induction x using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe]
    norm_cast
    rw [Real.tanh_eq_sinh_div_cosh, Real.sinh_eq, Real.cosh_eq]
    have e : Real.exp (-r) = Real.exp (-(1/2 * r)) * Real.exp (-(1/2 * r)) := by rw [← Real.exp_add]; congr 1; ring
    have e' : Real.exp (1/2 * r) * Real.exp (-(1/2 * r)) = 1 := by rw [← Real.exp_add]; norm_num
    rw [e]
    set a := Real.exp (1/2 * r)
    set b := Real.exp (-(1/2 * r))
    have ha : 0 < a := Real.exp_pos _
    have hb : 0 < b := Real.exp_pos _
    field_simp
    nlinarith [e']

abbrev REF (c : Dev nD) : FVec Ideal S12x2x2048x1024 .bf16 :=
  val_main_v244 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))

/-- The reference's gradient of segment `j` of the projections, for the claimed segments. -/
def SEG (c : Dev nD) (j : Nat) : FVec Ideal S2x2048x1024 .f32 :=
  match j with
  | 0 => val_main_v227 (F := Ideal) (m ((c : Thread nD τ).loc main_arg0)) (m ((c : Thread nD τ).loc main_arg1)) (m ((c : Thread nD τ).loc main_arg4))
  | 1 => val_main_v193 (F := Ideal) (m ((c : Thread nD τ).loc main_arg0)) (m ((c : Thread nD τ).loc main_arg1)) (m ((c : Thread nD τ).loc main_arg4))
  | 2 => val_main_v228 (F := Ideal) (m ((c : Thread nD τ).loc main_arg0)) (m ((c : Thread nD τ).loc main_arg1)) (m ((c : Thread nD τ).loc main_arg4))
  | 4 => val_main_v153 (F := Ideal) (m ((c : Thread nD τ).loc main_arg0)) (m ((c : Thread nD τ).loc main_arg1)) (m ((c : Thread nD τ).loc main_arg5)) (m ((c : Thread nD τ).loc main_arg6))
  | 9 => val_main_v147 (F := Ideal) (m ((c : Thread nD τ).loc main_arg0)) (m ((c : Thread nD τ).loc main_arg1)) (m ((c : Thread nD τ).loc main_arg4))
  | 10 => val_main_v144 (F := Ideal) (m ((c : Thread nD τ).loc main_arg0)) (m ((c : Thread nD τ).loc main_arg1)) (m ((c : Thread nD τ).loc main_arg5)) (m ((c : Thread nD τ).loc main_arg6))
  | 11 => val_main_v141 (F := Ideal) (m ((c : Thread nD τ).loc main_arg0)) (m ((c : Thread nD τ).loc main_arg1)) (m ((c : Thread nD τ).loc main_arg2))
  | _ => fun _ => 0

/-- The entry of an activation at the place of an entry of a segment. -/
abbrev act3 (i : S12x2x2048x1024.Idx) : S2x2048x1024.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- The segments of a stack that are claimed. -/
abbrev On (j : Nat) : Prop := j = 0 ∨ j = 1 ∨ j = 2 ∨ j = 4 ∨ j = 9 ∨ j = 10 ∨ j = 11

set_option maxHeartbeats 4000000 in
/-- The reference's first result on a claimed segment. -/
theorem ref_seg (c : Dev nD) (Y : S12x2x2048x1024.Idx) (hj : On (Y 0).val) : REF m c Y = SEG m c (Y 0).val (act3 Y) := by
  show val_main_v243 (F := Ideal) _ _ _ _ _ _ Y = _
  unfold val_main_v243
  concat_tiles i h
  all_goals first
    | exfalso; omega
    | rw [h]
      have e : idx_main_v231 i = act3 Y := funext fun a => match a with
        | ⟨0, _⟩ => Fin.ext h1
        | ⟨1, _⟩ => Fin.ext h2
        | ⟨2, _⟩ => Fin.ext h3
      first
        | exact (val_main_v231_apply ..).trans (congrArg _ e)
        | exact (val_main_v232_apply ..).trans (congrArg _ e)
        | exact (val_main_v233_apply ..).trans (congrArg _ e)
        | exact (val_main_v235_apply ..).trans (congrArg _ e)
        | exact (val_main_v240_apply ..).trans (congrArg _ e)
        | exact (val_main_v241_apply ..).trans (congrArg _ e)
        | exact (val_main_v242_apply ..).trans (congrArg _ e)

theorem idx_val : ∀ t : Fin cfg0.N, win0_0.index t = ![0, t.val % 2, 0, t.val / 2]
    ∧ win0_1.index t = ![t.val % 2, 0, t.val / 2]
    ∧ win0_2.index t = ![t.val % 2, 0, t.val / 2]
    ∧ win0_3.index t = ![t.val % 2, 0, t.val / 2]
    ∧ win0_5.index t = ![0, t.val / 2]
    ∧ win0_6.index t = ![t.val / 2, 0, 0]
    ∧ win0_7.index t = ![t.val / 2, 0, 0]
    ∧ win0_15.index t = ![0, t.val % 2, 0, t.val / 2]
    ∧ win0_16.index t = ![0, t.val / 2]
    ∧ win0_17.index t = ![t.val / 2, 0, 0]
    ∧ win0_18.index t = ![t.val / 2, 0, 0] :=
  (by decide +kernel : ∀ t : Fin grid0.N, _)

/-- The entry `i` of the point's tile from row `r0` is the entry `q` of an activation. -/
structure Here (t : Fin cfg0.N) (r0 : Nat) (i : S128x128.Idx) (q : S2x2048x1024.Idx) : Prop where
  batch : (q 0).val = t.val % 2
  row : (q 1).val = r0 + (i 0).val
  chan : (q 2).val = t.val / 2 * 128 + (i 1).val

/-- The projections' entry of segment `j`. -/
abbrev X (c : Dev nD) (j : Fin 12) (q : S2x2048x1024.Idx) : EReal :=
  m ((c : Thread nD τ).loc main_arg0) (ix4 j (q 0) (q 1) (q 2))

variable {m}

theorem P_at {c : Dev nD} {t : Fin cfg0.N} {r0 : Nat} {i : S128x128.Idx} {q : S2x2048x1024.Idx} (e : Here t r0 i q)
    (j : Nat) (hj : j < 12) (h : r0 + 128 ≤ 2048) : P m c t j r0 hj h i = X m c ⟨j, hj⟩ q := by
  obtain ⟨e0, e1, e2⟩ := e
  unfold P
  rw [View.readAt_eq_ld, Memref.IsWhole.read_unread]
  pointwise [X]
  blk_point [iblk, V, idx_val t, e0, e1, e2]

theorem DM_at {c : Dev nD} {t : Fin cfg0.N} {r0 : Nat} {i : S128x128.Idx} {q : S2x2048x1024.Idx} (e : Here t r0 i q)
    (h : r0 + 128 ≤ 2048) : DM m c t r0 h i = m ((c : Thread nD τ).loc main_arg1) q := by
  obtain ⟨e0, e1, e2⟩ := e
  unfold DM
  rw [View.readAt_eq_ld, Memref.IsWhole.read_unread]
  pointwise [X]
  blk_point [iblk, V, idx_val t, e0, e1, e2]

theorem HS_at {c : Dev nD} {t : Fin cfg0.N} {r0 : Nat} {i : S128x128.Idx} {q : S2x2048x1024.Idx} (e : Here t r0 i q)
    (h : r0 + 128 ≤ 2048) : HS m c t r0 h i = m ((c : Thread nD τ).loc main_arg2) q := by
  obtain ⟨e0, e1, e2⟩ := e
  unfold HS
  rw [View.readAt_eq_ld, Memref.IsWhole.read_unread]
  pointwise [X]
  blk_point [iblk, V, idx_val t, e0, e1, e2]

theorem SWt_at {c : Dev nD} {t : Fin cfg0.N} {i : S128x128.Idx} :
    SWt m c t i = m ((c : Thread nD τ).loc main_arg5) (ix3 ⟨t.val / 2, by have := t.isLt; change _ < 16 at this; omega⟩ (i 0) (i 1)) := by
  unfold SWt
  rw [View.readAt_eq_ld, Memref.IsWhole.read_unread]
  pointwise [X]
  blk_point [iblk, V, idx_val t]

theorem W_at {c : Dev nD} {t : Fin cfg0.N} {i : S1x128.Idx} {q : S2x2048x1024.Idx} (e : (q 2).val = t.val / 2 * 128 + (i 1).val) (k : Nat) (hk : k < 3) (h) :
    W m c t k h i = m ((c : Thread nD τ).loc main_arg4) (ix2 ⟨k, hk⟩ (q 2)) := by
  unfold W
  rw [View.readAt_eq_ld, Memref.IsWhole.read_unread]
  blk_point [iblk, V, idx_val t, e]

end Cert.Mixer

end
-- ==== Proof.MixerSaved.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerTile

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

variable {m}

theorem V_conv (c : Dev nD) : V m c main_v31 = val_main_v62 (F := Ideal) (m ((c : Thread nD τ).loc main_arg0)) (m ((c : Thread nD τ).loc main_arg4)) := by
  entry_read
  rfl

theorem CV_at {c : Dev nD} {t : Fin cfg0.N} {r0 : Nat} {i : S128x128.Idx} {q : S2x2048x1024.Idx} (e : Here t r0 i q)
    (h : r0 + 128 ≤ 2048) : CV m c t r0 h i = val_main_v62 (F := Ideal) (m ((c : Thread nD τ).loc main_arg0)) (m ((c : Thread nD τ).loc main_arg4)) q := by
  obtain ⟨e0, e1, e2⟩ := e
  unfold CV
  rw [View.readAt_eq_ld, Memref.IsWhole.read_unread]
  rw [← V_conv]
  pointwise []
  blk_point [iblk, idx_val t, e0, e1, e2]

theorem SBt_at {c : Dev nD} {t : Fin cfg0.N} {i : S128x128.Idx} :
    SBt m c t i = m ((c : Thread nD τ).loc main_arg6) (ix2 ⟨t.val / 2, by have := t.isLt; change _ < 16 at this; omega⟩ (i 0)) := by
  unfold SBt
  rw [View.readAt_eq_ld, Memref.IsWhole.read_unread]
  pointwise [X]
  blk_simp [iblk, idx_val t]
  entry_read
  pointwise []
  blk_ext [idx_val t]
end Cert.Mixer

end
-- ==== Proof.MixerSegments.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerSaved

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

/-- The gradient of the merged activation, the recurrence's states, the reference's short convolution, its spatial gate and its
transposed convolution. -/
abbrev Dm (c : Dev nD) (q : S2x2048x1024.Idx) : EReal := m ((c : Thread nD τ).loc main_arg1) q
@[inherit_doc Dm] abbrev Hs (c : Dev nD) (q : S2x2048x1024.Idx) : EReal := m ((c : Thread nD τ).loc main_arg2) q
@[inherit_doc Dm] abbrev Cv (c : Dev nD) (q : S2x2048x1024.Idx) : EReal := val_main_v62 (F := Ideal) (m ((c : Thread nD τ).loc main_arg0)) (m ((c : Thread nD τ).loc main_arg4)) q
@[inherit_doc Dm] abbrev Zr (c : Dev nD) (q : S2x2048x1024.Idx) : EReal := val_main_v101 (F := Ideal) (m ((c : Thread nD τ).loc main_arg0)) (m ((c : Thread nD τ).loc main_arg5)) (m ((c : Thread nD τ).loc main_arg6)) q
@[inherit_doc Dm] abbrev Dca (c : Dev nD) (q : S2x2048x1024.Idx) : EReal := val_main_v226 (F := Ideal) (m ((c : Thread nD τ).loc main_arg0)) (m ((c : Thread nD τ).loc main_arg1)) (m ((c : Thread nD τ).loc main_arg4)) q

/-- The logistic function of the projections' entry of segment `j`. -/
abbrev lg (c : Dev nD) (j : Fin 12) (q : S2x2048x1024.Idx) : EReal := Ideal.logistic (X m c j q)

variable {m}

theorem ofBits_half : Ideal.ofBits .f32 0x3F000000#32 = ((1/2 : ℝ) : EReal) := by
  simp [Ideal.ofBits, Ideal.ieee, -EReal.coe_mul]; norm_num

theorem sgm_at (v : FVec Ideal S128x128 .f32) (i : S128x128.Idx) : sgm v i = Ideal.logistic (v i) := by
  refine Eq.trans ?_ (half_tanh (v i))
  pointwise []
  rw [ofBits_half]

theorem silu_at (v : FVec Ideal S128x128 .f32) (i : S128x128.Idx) : silu v i = (v i : EReal) * Ideal.logistic (v i) :=
  congrArg (fun a : EReal => (v i : EReal) * a) (sgm_at v i)

theorem gate_at (dm g y : FVec Ideal S128x128 .f32) (i : S128x128.Idx) :
    gateF dm g y i = (dm i : EReal) * Ideal.logistic (g i) * y i * (1 - Ideal.logistic (g i)) := by
  rw [← sgm_at g i]
  pointwise []

theorem put_at (v : FVec Ideal S128x128 .f32) (x : S1x1x128x128.Idx) : put v x = v (ix2 (x 2) (x 3)) := by
  pointwise []

theorem seg11_at (c : Dev nD) (q : S2x2048x1024.Idx) :
    SEG m c 11 q = Dm m c q * (X m c 8 q * lg m c 8 q * Hs m c q) * (lg m c 11 q * (1 - lg m c 11 q)) := by
  dsimp only [SEG, lg]
  pointwise [X, Dm, Hs, Cv, Zr, Dca, Ideal.logistic, val_main_v141, val_main_v140, val_main_v138, val_main_v105, val_main_v104_0, val_main_v26, val_main_v25, val_main_v24, val_main_v104_2, val_main_call4_v4, val_main_call4_cst_0, val_main_call4_v3, val_main_call4_v2, val_main_call4_cst, val_main_call4_v1, val_main_call4_v0, val_main_v135, val_main_v132, val_main_v131, val_main_cst_17, val_main_v130, val_main_v129, val_main_cst_16, val_main_v128, val_main_v127, val_main_v35, val_main_v34, val_main_v33, val_main_v134, val_main_v133, val_main_cst_18]

theorem seg9_at (c : Dev nD) (q : S2x2048x1024.Idx) :
    SEG m c 9 q = Dm m c q * (X m c 3 q * lg m c 3 q * (X m c 1 q * Cv m c q)) * (lg m c 9 q * (1 - lg m c 9 q)) := by
  dsimp only [SEG, lg]
  pointwise [X, Dm, Hs, Cv, Zr, Dca, Ideal.logistic, val_main_v147, val_main_v146, val_main_v138, val_main_v64, val_main_v36_0, val_main_v11, val_main_v10, val_main_v9, val_main_v36_2, val_main_call0_v4, val_main_call0_cst_0, val_main_call0_v3, val_main_call0_v2, val_main_call0_cst, val_main_call0_v1, val_main_call0_v0, val_main_v63, val_main_v5, val_main_v4, val_main_v3, val_main_v114, val_main_v111, val_main_v110, val_main_cst_11, val_main_v109, val_main_v108, val_main_cst_10, val_main_v107, val_main_v106, val_main_v29, val_main_v28, val_main_v27, val_main_v113, val_main_v112, val_main_cst_12]

theorem seg10_at (c : Dev nD) (q : S2x2048x1024.Idx) :
    SEG m c 10 q = Dm m c q * (X m c 6 q * lg m c 6 q * (X m c 4 q * Zr m c q)) * (lg m c 10 q * (1 - lg m c 10 q)) := by
  dsimp only [SEG, lg]
  pointwise [X, Dm, Hs, Cv, Zr, Dca, Ideal.logistic, val_main_v144, val_main_v143, val_main_v138, val_main_v103, val_main_v65_0, val_main_v20, val_main_v19, val_main_v18, val_main_v65_2, val_main_call1_v4, val_main_call1_cst_0, val_main_call1_v3, val_main_call1_v2, val_main_call1_cst, val_main_call1_v1, val_main_call1_v0, val_main_v102, val_main_v14, val_main_v13, val_main_v12, val_main_v124, val_main_v121, val_main_v120, val_main_cst_14, val_main_v119, val_main_v118, val_main_cst_13, val_main_v117, val_main_v116, val_main_v32, val_main_v31, val_main_v30, val_main_v123, val_main_v122, val_main_cst_15]

theorem seg1_at (c : Dev nD) (q : S2x2048x1024.Idx) :
    SEG m c 1 q = X m c 3 q * lg m c 3 q * (lg m c 9 q * Dm m c q) * Cv m c q := by
  dsimp only [SEG, lg]
  pointwise [X, Dm, Hs, Cv, Zr, Dca, Ideal.logistic, val_main_v193, val_main_v190, val_main_v36_0, val_main_v11, val_main_v10, val_main_v9, val_main_v36_2, val_main_call0_v4, val_main_call0_cst_0, val_main_call0_v3, val_main_call0_v2, val_main_call0_cst, val_main_call0_v1, val_main_call0_v0, val_main_v145, val_main_v111, val_main_v110, val_main_cst_11, val_main_v109, val_main_v108, val_main_cst_10, val_main_v107, val_main_v106, val_main_v29, val_main_v28, val_main_v27, val_main_v138]

theorem seg4_at (c : Dev nD) (q : S2x2048x1024.Idx) :
    SEG m c 4 q = X m c 6 q * lg m c 6 q * (lg m c 10 q * Dm m c q) * Zr m c q := by
  dsimp only [SEG, lg]
  pointwise [X, Dm, Hs, Cv, Zr, Dca, Ideal.logistic, val_main_v153, val_main_v150, val_main_v65_0, val_main_v20, val_main_v19, val_main_v18, val_main_v65_2, val_main_call1_v4, val_main_call1_cst_0, val_main_call1_v3, val_main_call1_v2, val_main_call1_cst, val_main_call1_v1, val_main_call1_v0, val_main_v142, val_main_v121, val_main_v120, val_main_cst_14, val_main_v119, val_main_v118, val_main_cst_13, val_main_v117, val_main_v116, val_main_v32, val_main_v31, val_main_v30, val_main_v138]

theorem seg0_at (c : Dev nD) (q : S2x2048x1024.Idx) :
    SEG m c 0 q = X m c 2 q * Dca m c q := by
  dsimp only [SEG, lg]
  pointwise [X, Dm, Hs, Cv, Zr, Dca, Ideal.logistic, val_main_v227, val_main_v8, val_main_v7, val_main_v6]

theorem seg2_at (c : Dev nD) (q : S2x2048x1024.Idx) :
    SEG m c 2 q = Dca m c q * X m c 0 q := by
  dsimp only [SEG, lg]
  pointwise [X, Dm, Hs, Cv, Zr, Dca, Ideal.logistic, val_main_v228, val_main_v2, val_main_v1, val_main_v0]

end Cert.Mixer

end
-- ==== Proof.MixerGate.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerSegments

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

variable {m}

/-- The entry `i` of the point's tile from row `r0` is the entry `J` of the activation cut into chunks and heads. -/
structure There (t : Fin cfg0.N) (r0 : Nat) (i : S128x128.Idx) (J : ReferenceIdeal.S2x16x128x8x128.Idx) : Prop where
  batch : (J 0).val = t.val % 2
  chunk : (J 1).val * 128 = r0
  row : (J 2).val = (i 0).val
  head : (J 3).val = t.val / 2
  chan : (J 4).val = (i 1).val

theorem vn_at {c : Dev nD} {t : Fin cfg0.N} {r0 : Nat} {i : S128x128.Idx} {J : ReferenceIdeal.S2x16x128x8x128.Idx} (e : There t r0 i J)
    (h : r0 + 128 ≤ 2048) : vnF (P m c t 5 r0 (by decide) h) i = val_main_v89 (F := Ideal) (m ((c : Thread nD τ).loc main_arg0)) J := by
  obtain ⟨e0, e1, e2, e3, e4⟩ := e
  have d1 : (J 1).val < 16 := (J 1).isLt
  have d2 : (J 2).val < 128 := (J 2).isLt
  have d3 : (J 3).val < 8 := (J 3).isLt
  have k1 : ∀ k : Fin 128, P m c t 5 r0 (by decide) h (ix2 (i 0) k) = m ((c : Thread nD τ).loc main_arg0)
      (ix4 5 (J 0) ⟨(J 1).val * 128 + (J 2).val, by omega⟩ ⟨(J 3).val * 128 + k.val, by omega⟩) := fun k =>
    P_at (q := ix3 (J 0) ⟨(J 1).val * 128 + (J 2).val, by omega⟩ ⟨(J 3).val * 128 + k.val, by omega⟩)
      ⟨e0, by show (J 1).val * 128 + (J 2).val = r0 + (i 0).val; omega, by show (J 3).val * 128 + k.val = t.val / 2 * 128 + k.val; omega⟩ 5 (by decide) h
  have k2 : P m c t 5 r0 (by decide) h i = m ((c : Thread nD τ).loc main_arg0)
      (ix4 5 (J 0) ⟨(J 1).val * 128 + (J 2).val, by omega⟩ ⟨(J 3).val * 128 + (J 4).val, by have := (J 4).isLt; change _ < 128 at this; omega⟩) :=
    P_at (q := ix3 (J 0) ⟨(J 1).val * 128 + (J 2).val, by omega⟩ ⟨(J 3).val * 128 + (J 4).val, by have := (J 4).isLt; change _ < 128 at this; omega⟩)
      ⟨e0, by show (J 1).val * 128 + (J 2).val = r0 + (i 0).val; omega, by show (J 3).val * 128 + (J 4).val = t.val / 2 * 128 + (i 1).val; omega⟩ 5 (by decide) h
  unfold vnF cenF meanF
  generalize P m c t 5 r0 (by decide) h = p at k1 k2 ⊢
  pointwise [val_main_v89, val_main_v81, val_main_v66, val_main_v17, val_main_v16, val_main_v15, val_main_v80, val_main_v70, val_main_v68, val_main_v67, val_main_cst_2, val_main_v69, val_main_cst_3, val_main_v88, val_main_v84, val_main_v83, val_main_v79, val_main_v77, val_main_v76, val_main_v73, val_main_v72, val_main_v71, val_main_cst_5, val_main_v78, val_main_cst_6, val_main_v82, val_main_cst_7]
  simp only [k1, k2]

theorem le_at (a b : Fin 128) : IntOp.cmpi .sle (BitVec.ofNat 32 b.val) (BitVec.ofNat 32 a.val) = BitVec.ofBool (decide (b.val ≤ a.val)) :=
  WordCmp.cmpi_sle_ofNat (w := 32) (by omega) (by omega)

theorem ge_at (a b : Fin 128) : IntOp.cmpi .sge (IntOp.addi (BitVec.ofNat 32 a.val) 0#32) (BitVec.ofNat 32 b.val) = BitVec.ofBool (decide (b.val ≤ a.val)) := by
  rw [show IntOp.addi (BitVec.ofNat 32 a.val) 0#32 = BitVec.ofNat 32 a.val from BitVec.add_zero _]
  exact WordCmp.cmpi_sge_ofNat (w := 32) (by omega) (by omega)

/-- The reference's spatial weight, its upper triangle replaced by zeros. -/
theorem w_at (x : FVec Ideal S8x128x128 .f32) (h : Fin 8) (a b : Fin 128) :
    val_main_v94_0 (F := Ideal) x (ix3 h a b) = (if b.val ≤ a.val then x (ix3 h a b) else 0 : EReal) := by
  pointwise [val_main_v94_0, val_main_v94_1, val_main_v92, val_main_v91, val_main_call2_v4, val_main_call2_v2, val_main_call2_v0, val_main_call2_v1, val_main_call2_c, val_main_call2_v3, val_main_v90, val_main_c, val_main_call2_v5, val_main_call2_c_0, val_main_v93, val_main_cst_9]
  rw [ge_at]
  by_cases k : b.val ≤ a.val <;> simp [Scalar.select, k]

/-- The same of the kernel's. -/
theorem swF_at (w : FVec Ideal S128x128 .f32) (a b : Fin 128) :
    swF w (ix2 a b) = (if b.val ≤ a.val then w (ix2 a b) else 0 : EReal) := by
  pointwise []
  rw [le_at]
  by_cases k : b.val ≤ a.val <;> simp [Scalar.select, k]

/-- The matrix product of the kernel's gate as a sum. -/
theorem zF_at (w b v : FVec Ideal S128x128 .f32) (i : S128x128.Idx) :
    zF w b v i = (∑ k : Fin 128, (swF w (ix2 (i 0) k) : EReal) * vnF v (ix2 k (i 1))) + b i := by
  unfold zF
  generalize swF w = s
  generalize vnF v = u
  pointwise []

/-- The matrix product of the reference's gate as a sum. -/
theorem Zr_at (c : Dev nD) (q : S2x2048x1024.Idx) (n : Fin 16) (h : Fin 8) (a d : Fin 128)
    (hn : (q 1).val = n.val * 128 + a.val) (hh : (q 2).val = h.val * 128 + d.val) :
    Zr m c q = (∑ k : Fin 128, (val_main_v94_0 (F := Ideal) (m ((c : Thread nD τ).loc main_arg5)) (ix3 h a k) : EReal)
      * val_main_v89 (F := Ideal) (m ((c : Thread nD τ).loc main_arg0)) (ix5 (q 0) n k h d)) + m ((c : Thread nD τ).loc main_arg6) (ix2 h a) := by
  have e1 : (q 1).val / 128 = n.val := by omega
  have e2 : (q 1).val % 128 = a.val := by omega
  have e3 : (q 2).val / 128 = h.val := by omega
  have e4 : (q 2).val % 128 = d.val := by omega
  pointwise [Zr, val_main_v101, val_main_v100, val_main_v96, val_main_v95, val_main_v99, val_main_v98, val_main_v97]
  refine congrArg₂ (fun a b : EReal => a + b) (Fin.sum_fin_congr fun k => (EReal.mul_comm _ _).trans (congrArg₂ (fun a b : EReal => a * b) ?_ ?_)) ?_
  · blk_ext [e1, e2, e3, e4]
  · blk_ext [e1, e2, e3, e4]
  · blk_ext [e1, e2, e3, e4]

theorem Z_at {c : Dev nD} {t : Fin cfg0.N} {r0 : Nat} {i : S128x128.Idx} {q : S2x2048x1024.Idx} (e : Here t r0 i q)
    (h : r0 + 128 ≤ 2048) (h0 : r0 % 128 = 0) : Z m c t r0 h i = Zr m c q := by
  obtain ⟨e0, e1, e2⟩ := e
  have hd : t.val / 2 < 8 := by have := t.isLt; change _ < 16 at this; omega
  rw [Z, zF_at, Zr_at c q ⟨r0 / 128, by omega⟩ ⟨t.val / 2, hd⟩ (i 0) (i 1) (by show _ = r0 / 128 * 128 + _; omega) e2, SBt_at]
  refine congrArg (fun a : EReal => a + _) (Fin.sum_fin_congr fun k => congrArg₂ (fun a b : EReal => a * b) ?_ ?_)
  · refine (swF_at _ _ _).trans (Eq.trans ?_ (w_at _ _ _ _).symm)
    rw [SWt_at]
    rfl
  · exact vn_at ⟨e0, by show r0 / 128 * 128 = r0; omega, rfl, rfl, rfl⟩ h

end Cert.Mixer

end
-- ==== Proof.MixerConv.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerSegments

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

/-- The reference's gradient of the short convolution. -/
abbrev Dcv (c : Dev nD) (q : S2x2048x1024.Idx) : EReal :=
  val_main_v192 (F := Ideal) (m ((c : Thread nD τ).loc main_arg0)) (m ((c : Thread nD τ).loc main_arg1)) q

variable {m}

theorem Dcv_at (c : Dev nD) (q : S2x2048x1024.Idx) :
    Dcv m c q = X m c 1 q * (X m c 3 q * lg m c 3 q * (lg m c 9 q * Dm m c q)) := by
  dsimp only [lg]
  pointwise [X, Dm, Dcv, Ideal.logistic, val_main_v192, val_main_v5, val_main_v4, val_main_v3, val_main_v190, val_main_v36_0, val_main_v11, val_main_v10, val_main_v9, val_main_v36_2, val_main_call0_v4, val_main_call0_cst_0, val_main_call0_v3, val_main_call0_v2, val_main_call0_cst, val_main_call0_v1, val_main_call0_v0, val_main_v145, val_main_v111, val_main_v110, val_main_cst_11, val_main_v109, val_main_v108, val_main_cst_10, val_main_v107, val_main_v106, val_main_v29, val_main_v28, val_main_v27, val_main_v138]

theorem DCV_at {c : Dev nD} {t : Fin cfg0.N} {r0 : Nat} {i : S128x128.Idx} {q : S2x2048x1024.Idx} (e : Here t r0 i q)
    (h : r0 + 128 ≤ 2048) : DCV m c t r0 h i = Dcv m c q := by
  have a : DCV m c t r0 h i = (DM m c t r0 h i : EReal) * sgm (P m c t 9 r0 (by decide) h) i * P m c t 1 r0 (by decide) h i * silu (P m c t 3 r0 (by decide) h) i := rfl
  rw [a, sgm_at, silu_at, P_at e, P_at e, P_at e, DM_at e, Dcv_at]
  show Dm m c q * lg m c 9 q * X m c 1 q * (X m c 3 q * lg m c 3 q) = _
  ac_rfl

/-- Row `i + k` of a tile followed by sixteen more rows. -/
abbrev upto (k : Nat) (hk : k < 3) (v : FVec Ideal S128x128 .f32) (n : FVec Ideal S16x128 .f32) (i : S128x128.Idx) : EReal :=
  if h : (i 0).val + k < 128 then v (ix2 ⟨(i 0).val + k, h⟩ (i 1))
  else n (ix2 ⟨(i 0).val + k - 128, by have := (i 0).isLt; change _ < 128 at this; omega⟩ (i 1))

theorem up1_at (v : FVec Ideal S128x128 .f32) (n : FVec Ideal S16x128 .f32) (i : S128x128.Idx) :
    upF 143#32 v n i = upto 1 (by decide) v n i := by
  have hi : (i 0).val < 128 := (i 0).isLt
  have e : ((i 0).val + 144 - 143) % 144 = (i 0).val + 1 := by omega
  pointwise [upto]
  by_cases k : (i 0).val + 1 < 128
  · rw [dif_pos (by omega), dif_pos k]; exact congrArg v (by blk_ext [e])
  · rw [dif_neg (by omega), dif_neg k]; exact congrArg n (by blk_ext [e])

theorem up2_at (v : FVec Ideal S128x128 .f32) (n : FVec Ideal S16x128 .f32) (i : S128x128.Idx) :
    upF 142#32 v n i = upto 2 (by decide) v n i := by
  have hi : (i 0).val < 128 := (i 0).isLt
  have e : ((i 0).val + 144 - 142) % 144 = (i 0).val + 2 := by omega
  pointwise [upto]
  by_cases k : (i 0).val + 2 < 128
  · rw [dif_pos (by omega), dif_pos k]; exact congrArg v (by blk_ext [e])
  · rw [dif_neg (by omega), dif_neg k]; exact congrArg n (by blk_ext [e])

variable (m) in
/-- The gradient of the short convolution `k` rows further on, zero past the last row. -/
abbrev Dn (c : Dev nD) (q : S2x2048x1024.Idx) (k : Nat) : EReal :=
  if h : (q 1).val + k < 2048 then Dcv m c (ix3 (q 0) ⟨(q 1).val + k, h⟩ (q 2)) else 0

/-- A tile's shifted rows, the last ones taken from the rows that follow. -/
theorem upto_of {c : Dev nD} {t : Fin cfg0.N} {r0 : Nat} {i : S128x128.Idx} {q : S2x2048x1024.Idx} (e : Here t r0 i q)
    (h : r0 + 128 ≤ 2048) (h0 : r0 % 128 = 0) (k : Nat) (hk : k < 3) (d : FVec Ideal S128x128 .f32) (n : FVec Ideal S16x128 .f32)
    (hd : ∀ j q', Here t r0 j q' → d j = Dcv m c q')
    (hn : r0 + 128 < 2048 → ∀ (a : Fin 16) (b : Fin 128) (q' : S2x2048x1024.Idx), (q' 0).val = t.val % 2 → (q' 1).val = r0 + 128 + a.val →
      (q' 2).val = t.val / 2 * 128 + b.val → n (ix2 a b) = Dcv m c q')
    (hz : r0 + 128 = 2048 → ∀ (a : Fin 16) (b : Fin 128), n (ix2 a b) = (0 : EReal)) : upto k hk d n i = Dn m c q k := by
  obtain ⟨e0, e1, e2⟩ := e
  have hi : (i 0).val < 128 := (i 0).isLt
  by_cases g : (i 0).val + k < 128
  · rw [upto, dif_pos g, Dn, dif_pos (by omega)]
    exact hd _ _ ⟨e0, by show (q 1).val + k = r0 + ((i 0).val + k); omega, e2⟩
  · rw [upto, dif_neg g]
    by_cases l : r0 + 128 < 2048
    · rw [Dn, dif_pos (by omega)]
      exact hn l _ _ _ e0 (by show (q 1).val + k = r0 + 128 + ((i 0).val + k - 128); omega) e2
    · rw [Dn, dif_neg (by omega)]
      exact hz (by omega) _ _

theorem head_at (d : FVec Ideal S128x128 .f32) (a : Fin 16) (b : Fin 128) : headF d (ix2 a b) = d (ix2 ⟨a.val, by omega⟩ b) := by
  pointwise []

theorem next_at {c : Dev nD} {t : Fin cfg0.N} {r0 : Nat} (h0 : r0 % 128 = 0) (l : r0 + 128 < 2048) (a : Fin 16) (b : Fin 128) (q : S2x2048x1024.Idx)
    (e0 : (q 0).val = t.val % 2) (e1 : (q 1).val = r0 + 128 + a.val) (e2 : (q 2).val = t.val / 2 * 128 + b.val) :
    next m c t r0 (ix2 a b) = Dcv m c q := by
  unfold next
  rw [dif_pos (by omega), head_at]
  exact DCV_at ⟨e0, e1, e2⟩ _

theorem next_end {c : Dev nD} {t : Fin cfg0.N} {r0 : Nat} (l : r0 + 128 = 2048) (a : Fin 16) (b : Fin 128) :
    next m c t r0 (ix2 a b) = (0 : EReal) := by
  unfold next
  rw [dif_neg (by omega)]
  pointwise []

/-- The kernel's shifted rows of the short convolution's gradient. -/
theorem upto_at {c : Dev nD} {t : Fin cfg0.N} {r0 : Nat} {i : S128x128.Idx} {q : S2x2048x1024.Idx} (e : Here t r0 i q)
    (h : r0 + 128 ≤ 2048) (h0 : r0 % 128 = 0) (k : Nat) (hk : k < 3) : upto k hk (DCV m c t r0 h) (next m c t r0) i = Dn m c q k :=
  upto_of e h h0 k hk _ _ (fun _ _ e' => DCV_at e' h) (fun l => next_at h0 l) (fun l => next_end l)

variable (m) in
/-- Tap `k` of the short convolution, at the channel of an activation's entry. -/
abbrev Wt (c : Dev nD) (k : Fin 3) (q : S2x2048x1024.Idx) : EReal := m ((c : Thread nD τ).loc main_arg4) (ix2 k (q 2))

theorem Dca_at (c : Dev nD) (q : S2x2048x1024.Idx) :
    Dca m c q = Wt m c 2 q * Dcv m c q + Wt m c 1 q * Dn m c q 1 + Wt m c 0 q * Dn m c q 2 := by
  pointwise [Dca, Dcv, Dn, val_main_v226, val_main_v221, val_main_v210, val_main_v200, val_main_v195, val_main_v194, val_main_v59, val_main_v57, val_main_v56, val_main_cst_30, val_main_v209, val_main_v204, val_main_v203, val_main_v52, val_main_v50, val_main_v49, val_main_cst_34, val_main_v220, val_main_v215, val_main_v214, val_main_v44, val_main_v42, val_main_v41, val_main_cst_38]
  refine congrArg₂ (fun a b : EReal => a + b) (congrArg₂ (fun a b : EReal => a + b) rfl ?_) ?_
  · by_cases h : (q 1).val + 1 < 2048
    · rw [dif_pos (by omega), dif_pos h]
      refine congrArg₂ (fun a b : EReal => a * b) rfl (congrArg _ (by blk_ext [show 2 + (q 1).val - 1 = (q 1).val + 1 by omega]))
    · rw [dif_neg (by omega), dif_neg h, mul_zero]
  · by_cases h : (q 1).val + 2 < 2048
    · rw [dif_pos (by omega), dif_pos h]
      refine congrArg₂ (fun a b : EReal => a * b) rfl (congrArg _ (by blk_ext [show 2 + (q 1).val = (q 1).val + 2 by omega]))
    · rw [dif_neg (by omega), dif_neg h, mul_zero]

/-- The transposed convolution of a tile. -/
theorem dca_at (w0 w1 w2 : FVec Ideal S1x128 .f32) (d : FVec Ideal S128x128 .f32) (n : FVec Ideal S16x128 .f32) (i : S128x128.Idx) :
    dcaF w0 w1 w2 d n i = (w2 (ix2 0 (i 1)) : EReal) * d i + w1 (ix2 0 (i 1)) * upto 1 (by decide) d n i + w0 (ix2 0 (i 1)) * upto 2 (by decide) d n i := by
  rw [← up1_at, ← up2_at]
  unfold dcaF
  generalize upF 143#32 d n = u
  generalize upF 142#32 d n = v
  pointwise []

theorem DCA_at {c : Dev nD} {t : Fin cfg0.N} {r0 : Nat} {i : S128x128.Idx} {q : S2x2048x1024.Idx} (e : Here t r0 i q)
    (h : r0 + 128 ≤ 2048) (h0 : r0 % 128 = 0) : DCA m c t r0 h (next m c t r0) i = Dca m c q := by
  refine (dca_at _ _ _ _ _ i).trans (Eq.trans ?_ (Dca_at c q).symm)
  rw [upto_at e h h0 1 (by decide), upto_at e h h0 2 (by decide), DCV_at e h]
  exact congrArg₂ (fun a b : EReal => a + b) (congrArg₂ (fun a b : EReal => a + b)
    (congrArg₂ (fun a b : EReal => a * b) (W_at (i := ix2 0 (i 1)) e.chan 2 (by decide) (by decide)) rfl)
    (congrArg₂ (fun a b : EReal => a * b) (W_at (i := ix2 0 (i 1)) e.chan 1 (by decide) (by decide)) rfl))
    (congrArg₂ (fun a b : EReal => a * b) (W_at (i := ix2 0 (i 1)) e.chan 0 (by decide) (by decide)) rfl)

end Cert.Mixer

end
-- ==== Proof.MixerGrad.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerGate
public import proofs.«01_k».proof.Proof.MixerConv

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

variable {m}

/-- Where an entry of a stored tile lies. -/
theorem here_of {t : Fin cfg0.N} {j r0 : Nat} {y : S12x1x2048x128.Idx} {x : S1x1x128x128.Idx}
    (hx : ∀ a, (y a).val = (![j, 0, r0, 0] : Fin 4 → Nat) a + (x a).val) :
    Here t r0 (ix2 (x 2) (x 3)) (act3 (((cfg0.win 15).blk t).view.emb y)) := by
  have x1 : (x 1).val = 0 := by have := (x 1).isLt; change _ < 1 at this; omega
  have y1 : (y 1).val = 0 + (x 1).val := hx 1
  have y2 : (y 2).val = r0 + (x 2).val := hx 2
  have y3 : (y 3).val = 0 + (x 3).val := hx 3
  constructor
  · show (((cfg0.win 15).blk t).view.emb y 1).val = _
    blk_simp [idx_val t]
  · show (((cfg0.win 15).blk t).view.emb y 2).val = r0 + (x 2).val
    rw [← y2]
    blk_simp [idx_val t]
  · show (((cfg0.win 15).blk t).view.emb y 3).val = _ + (x 3).val
    blk_simp [idx_val t]
    omega

theorem seg_of (t : Fin cfg0.N) (y : S12x1x2048x128.Idx) : (((cfg0.win 15).blk t).view.emb y 0).val = (y 0).val := by
  blk_simp [idx_val t]

theorem vGA_at {c : Dev nD} {t : Fin cfg0.N} {r0 : Nat} {i : S128x128.Idx} {q : S2x2048x1024.Idx} (e : Here t r0 i q)
    (h : r0 + 128 ≤ 2048) : vGA m c t r0 h i = SEG m c 9 q := by
  refine (gate_at _ _ (mulf (mulf (silu (P m c t 3 r0 (by decide) h)) (P m c t 1 r0 (by decide) h)) (CV m c t r0 h)) i).trans ?_
  rw [show (mulf (mulf (silu (P m c t 3 r0 (by decide) h)) (P m c t 1 r0 (by decide) h)) (CV m c t r0 h)) i = (silu (P m c t 3 r0 (by decide) h) i * P m c t 1 r0 (by decide) h i * CV m c t r0 h i : EReal) from rfl, silu_at, P_at e, P_at e, P_at e, CV_at e, DM_at e, seg9_at]
  show Dm m c q * lg m c 9 q * (X m c 3 q * lg m c 3 q * X m c 1 q * Cv m c q) * (1 - lg m c 9 q) = _
  ac_rfl

theorem vGS_at {c : Dev nD} {t : Fin cfg0.N} {r0 : Nat} {i : S128x128.Idx} {q : S2x2048x1024.Idx} (e : Here t r0 i q)
    (h : r0 + 128 ≤ 2048) (h0 : r0 % 128 = 0) : vGS m c t r0 h i = SEG m c 10 q := by
  refine (gate_at _ _ (mulf (mulf (silu (P m c t 6 r0 (by decide) h)) (P m c t 4 r0 (by decide) h)) (Z m c t r0 h)) i).trans ?_
  rw [show (mulf (mulf (silu (P m c t 6 r0 (by decide) h)) (P m c t 4 r0 (by decide) h)) (Z m c t r0 h)) i = (silu (P m c t 6 r0 (by decide) h) i * P m c t 4 r0 (by decide) h i * Z m c t r0 h i : EReal) from rfl, silu_at, P_at e, P_at e, P_at e, Z_at e h h0, DM_at e, seg10_at]
  show Dm m c q * lg m c 10 q * (X m c 6 q * lg m c 6 q * X m c 4 q * Zr m c q) * (1 - lg m c 10 q) = _
  ac_rfl

theorem vGR_at {c : Dev nD} {t : Fin cfg0.N} {r0 : Nat} {i : S128x128.Idx} {q : S2x2048x1024.Idx} (e : Here t r0 i q)
    (h : r0 + 128 ≤ 2048) : vGR m c t r0 h i = SEG m c 11 q := by
  refine (gate_at _ _ (mulf (silu (P m c t 8 r0 (by decide) h)) (HS m c t r0 h)) i).trans ?_
  rw [show (mulf (silu (P m c t 8 r0 (by decide) h)) (HS m c t r0 h)) i = (silu (P m c t 8 r0 (by decide) h) i * HS m c t r0 h i : EReal) from rfl, silu_at, P_at e, P_at e, HS_at e, DM_at e, seg11_at]
  show Dm m c q * lg m c 11 q * (X m c 8 q * lg m c 8 q * Hs m c q) * (1 - lg m c 11 q) = _
  ac_rfl

theorem vAB_at {c : Dev nD} {t : Fin cfg0.N} {r0 : Nat} {i : S128x128.Idx} {q : S2x2048x1024.Idx} (e : Here t r0 i q)
    (h : r0 + 128 ≤ 2048) : vAB m c t r0 h i = SEG m c 1 q := by
  rw [show vAB m c t r0 h i = (DM m c t r0 h i * sgm (P m c t 9 r0 (by decide) h) i * CV m c t r0 h i * silu (P m c t 3 r0 (by decide) h) i : EReal) from rfl,
    sgm_at, silu_at, P_at e, P_at e, DM_at e, CV_at e, seg1_at]
  show Dm m c q * lg m c 9 q * Cv m c q * (X m c 3 q * lg m c 3 q) = _
  ac_rfl

theorem vSU_at {c : Dev nD} {t : Fin cfg0.N} {r0 : Nat} {i : S128x128.Idx} {q : S2x2048x1024.Idx} (e : Here t r0 i q)
    (h : r0 + 128 ≤ 2048) (h0 : r0 % 128 = 0) : vSU m c t r0 h i = SEG m c 4 q := by
  rw [show vSU m c t r0 h i = (DM m c t r0 h i * sgm (P m c t 10 r0 (by decide) h) i * Z m c t r0 h i * silu (P m c t 6 r0 (by decide) h) i : EReal) from rfl,
    sgm_at, silu_at, P_at e, P_at e, DM_at e, Z_at e h h0, seg4_at]
  show Dm m c q * lg m c 10 q * Zr m c q * (X m c 6 q * lg m c 6 q) = _
  ac_rfl

theorem vAX_at {c : Dev nD} {t : Fin cfg0.N} {r0 : Nat} {i : S128x128.Idx} {q : S2x2048x1024.Idx} (e : Here t r0 i q)
    (h : r0 + 128 ≤ 2048) (h0 : r0 % 128 = 0) : vAX m c t r0 h (next m c t r0) i = SEG m c 0 q := by
  rw [seg0_at]
  refine (congrArg₂ (fun a b : EReal => a * b) (DCA_at e h h0) (P_at e 2 (by decide) h)).trans ?_
  show Dca m c q * X m c 2 q = _
  ac_rfl

theorem vAC_at {c : Dev nD} {t : Fin cfg0.N} {r0 : Nat} {i : S128x128.Idx} {q : S2x2048x1024.Idx} (e : Here t r0 i q)
    (h : r0 + 128 ≤ 2048) (h0 : r0 % 128 = 0) : vAC m c t r0 h (next m c t r0) i = SEG m c 2 q := by
  rw [seg2_at]
  refine (congrArg₂ (fun a b : EReal => a * b) (DCA_at e h h0) (P_at e 0 (by decide) h)).trans ?_
  show Dca m c q * X m c 0 q = _
  ac_rfl

/-- The reference at an entry of a stored tile. -/
theorem ref_of {c : Dev nD} {t : Fin cfg0.N} {j r0 : Nat} {y : S12x1x2048x128.Idx} (x : S1x1x128x128.Idx)
    (hx : ∀ a, (y a).val = (![j, 0, r0, 0] : Fin 4 → Nat) a + (x a).val) (hj : On j) :
    REF m c (((cfg0.win 15).blk t).view.emb y) = SEG m c j (act3 (((cfg0.win 15).blk t).view.emb y)) := by
  have x0 : (x 0).val = 0 := by have := (x 0).isLt; change _ < 1 at this; omega
  have y0 : (y 0).val = j + (x 0).val := hx 0
  have e := seg_of t y
  rw [x0, Nat.add_zero] at y0
  rw [y0] at e
  rw [ref_seg m c _ (by rw [e]; exact hj), e]

/-- Every tile the point stores holds the reference's entries of the claimed segments. -/
theorem tiles (c : Dev nD) (t : Fin cfg0.N) (y : S12x1x2048x128.Idx) (hy : On (y 0).val) :
    Tiles m c t y (REF m c (((cfg0.win 15).blk t).view.emb y)) where
  other j r0 hj w x hx := by
    exfalso
    have x0 : (x 0).val = 0 := by have := (x 0).isLt; change _ < 1 at this; omega
    have y0 : (y 0).val = j + (x 0).val := hx 0
    unfold On at hy
    omega
  ga r0 h h0 x hx := by
    rw [ref_of x hx (by decide)]; exact (put_at _ x).trans (vGA_at (here_of hx) h)
  gs r0 h h0 x hx := by
    rw [ref_of x hx (by decide)]; exact (put_at _ x).trans (vGS_at (here_of hx) h h0)
  gr r0 h h0 x hx := by
    rw [ref_of x hx (by decide)]; exact (put_at _ x).trans (vGR_at (here_of hx) h)
  ab r0 h h0 x hx := by
    rw [ref_of x hx (by decide)]; exact (put_at _ x).trans (vAB_at (here_of hx) h)
  su r0 h h0 x hx := by
    rw [ref_of x hx (by decide)]; exact (put_at _ x).trans (vSU_at (here_of hx) h h0)
  ac r0 h h0 x hx := by
    rw [ref_of x hx (by decide)]; exact (put_at _ x).trans (vAC_at (here_of hx) h h0)
  ax r0 h h0 x hx := by
    rw [ref_of x hx (by decide)]; exact (put_at _ x).trans (vAX_at (here_of hx) h h0)

/-- The first result is the reference's on the claimed segments. -/
theorem final (c : Dev nD) (Y : S12x2x2048x1024.Idx) (hY : On (Y 0).val) : (dats m 0 c).arrAt 15 (cfgs 0).N Y = REF m c Y := by
  revert hY
  refine (dats m 0 c).arrAt_forall_of_covers 15 (fun Y v => On (Y 0).val → v = REF m c Y) (by decide +kernel) (fun t hf y hY => ?_) Y
  blk_simp
  rw [after0_15]
  rw [seg_of t y] at hY
  exact stored (tiles c t y hY)

end Cert.Mixer

end
-- ==== Proof.MixerAcc.lean ====
module

public import proofs.«01_k».proof.Proof.MixerStored

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen

/-- `x` and what the last `k` of the sixteen chunks add to it, the last chunk first. -/
def acc (f : Nat → EReal) (x : EReal) : Nat → EReal
  | 0 => x
  | k + 1 => acc f x k + f ((15 - k) * 128)

theorem acc_eq (f : Nat → EReal) (x : EReal) : acc f x 16 = x + ∑ k : Fin 16, f (k.val * 128) := by
  rw [Fin.sum_univ_eq_sum_range (fun k => f (k * 128))]
  simp only [Finset.sum_range_succ, Finset.sum_range_zero, acc]
  norm_num only
  ac_rfl

/-- A tile as a block. -/
abbrev put3 (v : FVec Ideal S128x128 .f32) : Vec Ideal S1x128x128 .f32 :=
  shapeCast S1x128x128 v Gen.shapeCasts_S128x128_S1x128x128

theorem put3_add (l : Vec Ideal S1x128x128 .f32) (D : FVec Ideal S128x128 .f32) (y : S1x128x128.Idx) :
    put3 (addf (sq l) D) y = (l y : EReal) + D (ix2 (y 1) (y 2)) := by
  pointwise []

/-- The stores `L` leave `x`. -/
def Left3 (L : List (View.Piece (Elt Ideal) S1x128x128 .f32)) (x : S1x128x128.Idx → EReal) : Prop :=
  ∀ y, View.canon L y = x y

/-- A store of zeros. -/
theorem Left3.zero (inb) (L) : Left3 (⟨Rect.unit ![0, 0, 0] S1x128x128.size inb,
    put3 (broadcast S128x128 (FloatOps.ofBits FTy.f32 0#32))⟩ :: L) (fun _ => 0) := by
  intro y
  refine (congrFun (View.canon_cons_unit_lit _ _ _ (by decide)) y).trans ?_
  pointwise []

/-- A store of what was loaded before any store, and `D`. -/
theorem Left3.first (M : Memref sig .tc .vmem S1x128x128 .f32) (hM : M.IsWhole) (X : Vec Ideal S1x128x128 .f32)
    (D : FVec Ideal S128x128 .f32) (inb inb') (L) :
    Left3 (⟨Rect.unit ![0, 0, 0] S1x128x128.size inb, put3 (addf (sq (View.readAt (Elt Ideal) M.view
      (Rect.unit ![0, 0, 0] S1x128x128.size inb').toLoadRect (hM.unread X))) D)⟩ :: L)
      (fun y => X y + D (ix2 (y 1) (y 2))) := by
  intro y
  refine (congrFun (View.canon_cons_unit_lit _ _ _ (by decide)) y).trans ((put3_add _ _ y).trans ?_)
  rw [View.readAt_eq_ld, Memref.IsWhole.read_unread]
  exact congrArg (fun a : EReal => a + _) (congrFun (View.ld_unit_lit (S := S1x128x128) (off := ![0, 0, 0]) _ _ (by decide)) y)

/-- A store of what the stores before it left, and `D`. -/
theorem Left3.cons {L : List (View.Piece (Elt Ideal) S1x128x128 .f32)} {x : S1x128x128.Idx → EReal} (h : Left3 L x)
    (v : View sig .tc .vmem S1x128x128 .f32) (D : FVec Ideal S128x128 .f32) (inb inb') :
    Left3 (⟨Rect.unit ![0, 0, 0] S1x128x128.size inb, put3 (addf (sq (v.readCov L
      (Rect.unit ![0, 0, 0] S1x128x128.size inb').toLoadRect)) D)⟩ :: L)
      (fun y => x y + D (ix2 (y 1) (y 2))) := by
  intro y
  refine (congrFun (View.canon_cons_unit_lit _ _ _ (by decide)) y).trans ((put3_add _ _ y).trans ?_)
  rw [View.readCov_eq_canon']
  exact congrArg (fun a : EReal => a + _) ((congrFun (View.ld_unit_lit (S := S1x128x128) (off := ![0, 0, 0]) _ _ (by decide)) y).trans (h y))

/-- The row sums of a tile, in every column. -/
abbrev sbF (d : FVec Ideal S128x128 .f32) : FVec Ideal S128x128 .f32 :=
  broadcastTo S128x128 (shapeCast S128x1 (shapeCast S128x1 (multiReduction FKind.add [1] S128 d (0#32) Gen.reduces_S128x128_S128 (by decide) (by decide))
    Gen.shapeCasts_S128_S128x1) Gen.shapeCasts_S128x1_S128x1) Gen.broadcasts_S128x1_S128x128

/-- The product of a gradient tile with the transposed normalised tile. -/
abbrev swG (d v : FVec Ideal S128x128 .f32) : FVec Ideal S128x128 .f32 :=
  matmul dot_S128x128_S128x128_S128x128_1_1_0_0_n_n none (truncf .bf16 d Gen.bitsLt_bf16_f32) (truncf .bf16 (vnF v) Gen.bitsLt_bf16_f32)
    (constant S128x128 FTy.f32 0#32)

variable (m : (ℓ : Loc nD τ sig) → Buf (Elt Ideal) ℓ)

/-- On the rows from `r0`: the gradient of the spatial gate. -/
abbrev DZ (c : Dev nD) (t : Fin cfg0.N) (r0 : Nat) (h : r0 + 128 ≤ 2048) : FVec Ideal S128x128 .f32 :=
  mulf (mulf (mulf (DM m c t r0 h) (sgm (P m c t 10 r0 (by decide) h))) (P m c t 4 r0 (by decide) h)) (silu (P m c t 6 r0 (by decide) h))

/-- What the chunk from row `r0` adds to the gradient of the spatial bias. -/
def chunkB (c : Dev nD) (t : Fin cfg0.N) (y : S1x128x128.Idx) (r0 : Nat) : EReal :=
  if h : r0 + 128 ≤ 2048 then sbF (DZ m c t r0 h) (ix2 (y 1) (y 2)) else 0

/-- What the chunk from row `r0` adds to the gradient of the spatial weight. -/
def chunkW (c : Dev nD) (t : Fin cfg0.N) (y : S1x128x128.Idx) (r0 : Nat) : EReal :=
  if h : r0 + 128 ≤ 2048 then swG (DZ m c t r0 h) (P m c t 5 r0 (by decide) h) (ix2 (y 1) (y 2)) else 0

variable {m}

theorem Left3.consB {c : Dev nD} {t : Fin cfg0.N} {L : List (View.Piece (Elt Ideal) S1x128x128 .f32)} {x : S1x128x128.Idx → EReal}
    (k r0 : Nat) (hk : r0 = (15 - k) * 128) (hr : r0 + 128 ≤ 2048) (v : View sig .tc .vmem S1x128x128 .f32) (inb inb')
    (h : Left3 L (fun y => acc (chunkB m c t y) (x y) k)) :
    Left3 (⟨Rect.unit ![0, 0, 0] S1x128x128.size inb, put3 (addf (sq (v.readCov L
      (Rect.unit ![0, 0, 0] S1x128x128.size inb').toLoadRect)) (sbF (DZ m c t r0 hr)))⟩ :: L)
      (fun y => acc (chunkB m c t y) (x y) (k + 1)) := by
  subst hk
  simp only [acc, chunkB, dif_pos hr]; exact h.cons v _ _ _

theorem Left3.firstB {c : Dev nD} {t : Fin cfg0.N} (M : Memref sig .tc .vmem S1x128x128 .f32) (hM : M.IsWhole) (X : Vec Ideal S1x128x128 .f32)
    (inb inb') (L) :
    Left3 (⟨Rect.unit ![0, 0, 0] S1x128x128.size inb, put3 (addf (sq (View.readAt (Elt Ideal) M.view
      (Rect.unit ![0, 0, 0] S1x128x128.size inb').toLoadRect (hM.unread X))) (sbF (DZ m c t 1920 (by decide))))⟩ :: L)
      (fun y => acc (chunkB m c t y) (X y) 1) := by
  simp only [acc, chunkB, dif_pos (show 1920 + 128 ≤ 2048 by decide)]; exact Left3.first M hM X _ _ _ _

theorem Left3.consW {c : Dev nD} {t : Fin cfg0.N} {L : List (View.Piece (Elt Ideal) S1x128x128 .f32)} {x : S1x128x128.Idx → EReal}
    (k r0 : Nat) (hk : r0 = (15 - k) * 128) (hr : r0 + 128 ≤ 2048) (v : View sig .tc .vmem S1x128x128 .f32) (inb inb')
    (h : Left3 L (fun y => acc (chunkW m c t y) (x y) k)) :
    Left3 (⟨Rect.unit ![0, 0, 0] S1x128x128.size inb, put3 (addf (sq (v.readCov L
      (Rect.unit ![0, 0, 0] S1x128x128.size inb').toLoadRect)) (swG (DZ m c t r0 hr) (P m c t 5 r0 (by decide) hr)))⟩ :: L)
      (fun y => acc (chunkW m c t y) (x y) (k + 1)) := by
  subst hk
  simp only [acc, chunkW, dif_pos hr]; exact h.cons v _ _ _

theorem Left3.firstW {c : Dev nD} {t : Fin cfg0.N} (M : Memref sig .tc .vmem S1x128x128 .f32) (hM : M.IsWhole) (X : Vec Ideal S1x128x128 .f32)
    (inb inb') (L) :
    Left3 (⟨Rect.unit ![0, 0, 0] S1x128x128.size inb, put3 (addf (sq (View.readAt (Elt Ideal) M.view
      (Rect.unit ![0, 0, 0] S1x128x128.size inb').toLoadRect (hM.unread X)))
      (swG (DZ m c t 1920 (by decide)) (P m c t 5 1920 (by decide) (by decide))))⟩ :: L)
      (fun y => acc (chunkW m c t y) (X y) 1) := by
  simp only [acc, chunkW, dif_pos (show 1920 + 128 ≤ 2048 by decide)]; exact Left3.first M hM X _ _ _ _

/-- A tile with zeros above the diagonal. -/
abbrev triF (v : FVec Ideal S128x128 .f32) : FVec Ideal S128x128 .f32 :=
  select (cmpi CmpIPredicate.sle (iota Kind.tc S128x128 32 [1] Gen.iota_S128x128_d1_w32)
    (iota Kind.tc S128x128 32 [0] Gen.iota_S128x128_d0_w32)) v (broadcast S128x128 (FloatOps.ofBits FTy.f32 0#32))

/-- The lower triangle of `x`. -/
def low (x : EReal) (y : S1x128x128.Idx) : EReal := if (y 2).val ≤ (y 1).val then x else 0

theorem tri_at (l : Vec Ideal S1x128x128 .f32) (y : S1x128x128.Idx) : put3 (triF (sq l)) y = low (l y) y := by
  pointwise [low]
  rw [WordCmp.cmpi_sle_ofNat (w := 32) (by have := (y 2).isLt; change _ < 128 at this; omega) (by have := (y 1).isLt; change _ < 128 at this; omega)]
  by_cases k : (y 2).val ≤ (y 1).val <;> simp [Scalar.select, k]

/-- A store of the lower triangle of what the stores before it left. -/
theorem Left3.tri {L : List (View.Piece (Elt Ideal) S1x128x128 .f32)} {x : S1x128x128.Idx → EReal}
    (v : View sig .tc .vmem S1x128x128 .f32) (inb inb') (h : Left3 L x) :
    Left3 (⟨Rect.unit ![0, 0, 0] S1x128x128.size inb, put3 (triF (sq (v.readCov L
      (Rect.unit ![0, 0, 0] S1x128x128.size inb').toLoadRect)))⟩ :: L) (fun y => low (x y) y) := by
  intro y
  refine (congrFun (View.canon_cons_unit_lit _ _ _ (by decide)) y).trans ((tri_at _ y).trans ?_)
  rw [View.readCov_eq_canon']
  exact congrArg (low · y) ((congrFun (View.ld_unit_lit (S := S1x128x128) (off := ![0, 0, 0]) _ _ (by decide)) y).trans (h y))

set_option maxHeartbeats 4000000 in
/-- The first point of a head leaves its own part of the bias's gradient. -/
theorem startB (c : Dev nD) (t : Fin cfg0.N) (h0 : t.val % 2 = 0) (y : S1x128x128.Idx) :
    (outsAt0 m c t.val t.isLt).2.2.2.1 y = acc (chunkB m c t y) 0 16 := by
  rw [outsAt0_A m c t h0 (by omega)]
  dsimp only
  unfold out0_A_18
  rw [View.read_writes_junk_eq_canon]
  refine Left3.consB (m := m) (c := c) (t := t) (x := fun _ => 0) 15 0 rfl (by decide) _ _ _ ?_ y
  refine Left3.consB (m := m) (c := c) (t := t) (x := fun _ => 0) 14 128 rfl (by decide) _ _ _ ?_
  refine Left3.consB (m := m) (c := c) (t := t) (x := fun _ => 0) 13 256 rfl (by decide) _ _ _ ?_
  refine Left3.consB (m := m) (c := c) (t := t) (x := fun _ => 0) 12 384 rfl (by decide) _ _ _ ?_
  refine Left3.consB (m := m) (c := c) (t := t) (x := fun _ => 0) 11 512 rfl (by decide) _ _ _ ?_
  refine Left3.consB (m := m) (c := c) (t := t) (x := fun _ => 0) 10 640 rfl (by decide) _ _ _ ?_
  refine Left3.consB (m := m) (c := c) (t := t) (x := fun _ => 0) 9 768 rfl (by decide) _ _ _ ?_
  refine Left3.consB (m := m) (c := c) (t := t) (x := fun _ => 0) 8 896 rfl (by decide) _ _ _ ?_
  refine Left3.consB (m := m) (c := c) (t := t) (x := fun _ => 0) 7 1024 rfl (by decide) _ _ _ ?_
  refine Left3.consB (m := m) (c := c) (t := t) (x := fun _ => 0) 6 1152 rfl (by decide) _ _ _ ?_
  refine Left3.consB (m := m) (c := c) (t := t) (x := fun _ => 0) 5 1280 rfl (by decide) _ _ _ ?_
  refine Left3.consB (m := m) (c := c) (t := t) (x := fun _ => 0) 4 1408 rfl (by decide) _ _ _ ?_
  refine Left3.consB (m := m) (c := c) (t := t) (x := fun _ => 0) 3 1536 rfl (by decide) _ _ _ ?_
  refine Left3.consB (m := m) (c := c) (t := t) (x := fun _ => 0) 2 1664 rfl (by decide) _ _ _ ?_
  refine Left3.consB (m := m) (c := c) (t := t) (x := fun _ => 0) 1 1792 rfl (by decide) _ _ _ ?_
  refine Left3.consB (m := m) (c := c) (t := t) (x := fun _ => 0) 0 1920 rfl (by decide) _ _ _ ?_
  exact Left3.zero _ _

set_option maxHeartbeats 4000000 in
/-- The first point of a head leaves its own part of the weight's gradient. -/
theorem startW (c : Dev nD) (t : Fin cfg0.N) (h0 : t.val % 2 = 0) (y : S1x128x128.Idx) :
    (outsAt0 m c t.val t.isLt).2.2.1 y = acc (chunkW m c t y) 0 16 := by
  rw [outsAt0_A m c t h0 (by omega)]
  dsimp only
  unfold out0_A_17
  rw [View.read_writes_junk_eq_canon]
  refine Left3.consW (m := m) (c := c) (t := t) (x := fun _ => 0) 15 0 rfl (by decide) _ _ _ ?_ y
  refine Left3.consW (m := m) (c := c) (t := t) (x := fun _ => 0) 14 128 rfl (by decide) _ _ _ ?_
  refine Left3.consW (m := m) (c := c) (t := t) (x := fun _ => 0) 13 256 rfl (by decide) _ _ _ ?_
  refine Left3.consW (m := m) (c := c) (t := t) (x := fun _ => 0) 12 384 rfl (by decide) _ _ _ ?_
  refine Left3.consW (m := m) (c := c) (t := t) (x := fun _ => 0) 11 512 rfl (by decide) _ _ _ ?_
  refine Left3.consW (m := m) (c := c) (t := t) (x := fun _ => 0) 10 640 rfl (by decide) _ _ _ ?_
  refine Left3.consW (m := m) (c := c) (t := t) (x := fun _ => 0) 9 768 rfl (by decide) _ _ _ ?_
  refine Left3.consW (m := m) (c := c) (t := t) (x := fun _ => 0) 8 896 rfl (by decide) _ _ _ ?_
  refine Left3.consW (m := m) (c := c) (t := t) (x := fun _ => 0) 7 1024 rfl (by decide) _ _ _ ?_
  refine Left3.consW (m := m) (c := c) (t := t) (x := fun _ => 0) 6 1152 rfl (by decide) _ _ _ ?_
  refine Left3.consW (m := m) (c := c) (t := t) (x := fun _ => 0) 5 1280 rfl (by decide) _ _ _ ?_
  refine Left3.consW (m := m) (c := c) (t := t) (x := fun _ => 0) 4 1408 rfl (by decide) _ _ _ ?_
  refine Left3.consW (m := m) (c := c) (t := t) (x := fun _ => 0) 3 1536 rfl (by decide) _ _ _ ?_
  refine Left3.consW (m := m) (c := c) (t := t) (x := fun _ => 0) 2 1664 rfl (by decide) _ _ _ ?_
  refine Left3.consW (m := m) (c := c) (t := t) (x := fun _ => 0) 1 1792 rfl (by decide) _ _ _ ?_
  refine Left3.consW (m := m) (c := c) (t := t) (x := fun _ => 0) 0 1920 rfl (by decide) _ _ _ ?_
  exact Left3.zero _ _

set_option maxHeartbeats 4000000 in
/-- The second point of a head adds its part of the bias's gradient. -/
theorem stepB (c : Dev nD) (t : Fin cfg0.N) (h0 : t.val % 2 ≠ 0) (y : S1x128x128.Idx) :
    (outsAt0 m c t.val t.isLt).2.2.2.1 y
      = acc (chunkB m c t y) ((outsAt0 m c (t.val - 1) (lt_of_le_of_lt (Nat.sub_le _ _) t.isLt)).2.2.2.1 y) 16 := by
  rw [outsAt0_B m c t h0 (by omega)]
  dsimp only
  unfold out0_B_18
  rw [View.read_writes_junk_eq_canon]
  refine Left3.consB (m := m) (c := c) (t := t) (x := (outsAt0 m c (t.val - 1) _).2.2.2.1) 15 0 rfl (by decide) _ _ _ ?_ y
  refine Left3.consB (m := m) (c := c) (t := t) (x := (outsAt0 m c (t.val - 1) _).2.2.2.1) 14 128 rfl (by decide) _ _ _ ?_
  refine Left3.consB (m := m) (c := c) (t := t) (x := (outsAt0 m c (t.val - 1) _).2.2.2.1) 13 256 rfl (by decide) _ _ _ ?_
  refine Left3.consB (m := m) (c := c) (t := t) (x := (outsAt0 m c (t.val - 1) _).2.2.2.1) 12 384 rfl (by decide) _ _ _ ?_
  refine Left3.consB (m := m) (c := c) (t := t) (x := (outsAt0 m c (t.val - 1) _).2.2.2.1) 11 512 rfl (by decide) _ _ _ ?_
  refine Left3.consB (m := m) (c := c) (t := t) (x := (outsAt0 m c (t.val - 1) _).2.2.2.1) 10 640 rfl (by decide) _ _ _ ?_
  refine Left3.consB (m := m) (c := c) (t := t) (x := (outsAt0 m c (t.val - 1) _).2.2.2.1) 9 768 rfl (by decide) _ _ _ ?_
  refine Left3.consB (m := m) (c := c) (t := t) (x := (outsAt0 m c (t.val - 1) _).2.2.2.1) 8 896 rfl (by decide) _ _ _ ?_
  refine Left3.consB (m := m) (c := c) (t := t) (x := (outsAt0 m c (t.val - 1) _).2.2.2.1) 7 1024 rfl (by decide) _ _ _ ?_
  refine Left3.consB (m := m) (c := c) (t := t) (x := (outsAt0 m c (t.val - 1) _).2.2.2.1) 6 1152 rfl (by decide) _ _ _ ?_
  refine Left3.consB (m := m) (c := c) (t := t) (x := (outsAt0 m c (t.val - 1) _).2.2.2.1) 5 1280 rfl (by decide) _ _ _ ?_
  refine Left3.consB (m := m) (c := c) (t := t) (x := (outsAt0 m c (t.val - 1) _).2.2.2.1) 4 1408 rfl (by decide) _ _ _ ?_
  refine Left3.consB (m := m) (c := c) (t := t) (x := (outsAt0 m c (t.val - 1) _).2.2.2.1) 3 1536 rfl (by decide) _ _ _ ?_
  refine Left3.consB (m := m) (c := c) (t := t) (x := (outsAt0 m c (t.val - 1) _).2.2.2.1) 2 1664 rfl (by decide) _ _ _ ?_
  refine Left3.consB (m := m) (c := c) (t := t) (x := (outsAt0 m c (t.val - 1) _).2.2.2.1) 1 1792 rfl (by decide) _ _ _ ?_
  exact Left3.firstB _ _ _ _ _ _

set_option maxHeartbeats 4000000 in
/-- The second point of a head adds its part of the weight's gradient and keeps the lower triangle. -/
theorem stepW (c : Dev nD) (t : Fin cfg0.N) (h0 : t.val % 2 ≠ 0) (y : S1x128x128.Idx) :
    (outsAt0 m c t.val t.isLt).2.2.1 y
      = low (acc (chunkW m c t y) ((outsAt0 m c (t.val - 1) (lt_of_le_of_lt (Nat.sub_le _ _) t.isLt)).2.2.1 y) 16) y := by
  rw [outsAt0_B m c t h0 (by omega)]
  dsimp only
  unfold out0_B_17
  rw [View.read_writes_junk_eq_canon]
  refine Left3.tri (x := fun y => acc (chunkW m c t y) ((outsAt0 m c (t.val - 1) _).2.2.1 y) 16) _ _ _ ?_ y
  refine Left3.consW (m := m) (c := c) (t := t) (x := (outsAt0 m c (t.val - 1) _).2.2.1) 15 0 rfl (by decide) _ _ _ ?_
  refine Left3.consW (m := m) (c := c) (t := t) (x := (outsAt0 m c (t.val - 1) _).2.2.1) 14 128 rfl (by decide) _ _ _ ?_
  refine Left3.consW (m := m) (c := c) (t := t) (x := (outsAt0 m c (t.val - 1) _).2.2.1) 13 256 rfl (by decide) _ _ _ ?_
  refine Left3.consW (m := m) (c := c) (t := t) (x := (outsAt0 m c (t.val - 1) _).2.2.1) 12 384 rfl (by decide) _ _ _ ?_
  refine Left3.consW (m := m) (c := c) (t := t) (x := (outsAt0 m c (t.val - 1) _).2.2.1) 11 512 rfl (by decide) _ _ _ ?_
  refine Left3.consW (m := m) (c := c) (t := t) (x := (outsAt0 m c (t.val - 1) _).2.2.1) 10 640 rfl (by decide) _ _ _ ?_
  refine Left3.consW (m := m) (c := c) (t := t) (x := (outsAt0 m c (t.val - 1) _).2.2.1) 9 768 rfl (by decide) _ _ _ ?_
  refine Left3.consW (m := m) (c := c) (t := t) (x := (outsAt0 m c (t.val - 1) _).2.2.1) 8 896 rfl (by decide) _ _ _ ?_
  refine Left3.consW (m := m) (c := c) (t := t) (x := (outsAt0 m c (t.val - 1) _).2.2.1) 7 1024 rfl (by decide) _ _ _ ?_
  refine Left3.consW (m := m) (c := c) (t := t) (x := (outsAt0 m c (t.val - 1) _).2.2.1) 6 1152 rfl (by decide) _ _ _ ?_
  refine Left3.consW (m := m) (c := c) (t := t) (x := (outsAt0 m c (t.val - 1) _).2.2.1) 5 1280 rfl (by decide) _ _ _ ?_
  refine Left3.consW (m := m) (c := c) (t := t) (x := (outsAt0 m c (t.val - 1) _).2.2.1) 4 1408 rfl (by decide) _ _ _ ?_
  refine Left3.consW (m := m) (c := c) (t := t) (x := (outsAt0 m c (t.val - 1) _).2.2.1) 3 1536 rfl (by decide) _ _ _ ?_
  refine Left3.consW (m := m) (c := c) (t := t) (x := (outsAt0 m c (t.val - 1) _).2.2.1) 2 1664 rfl (by decide) _ _ _ ?_
  refine Left3.consW (m := m) (c := c) (t := t) (x := (outsAt0 m c (t.val - 1) _).2.2.1) 1 1792 rfl (by decide) _ _ _ ?_
  exact Left3.firstW _ _ _ _ _ _

end Cert.Mixer

end
-- ==== Proof.MixerTaps.lean ====
module

public import proofs.«01_k».proof.Proof.MixerAcc

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen

/-- A loaded row. -/
abbrev row1 (v : Vec Ideal S1x128 .f32) : FVec Ideal S1x128 .f32 := shapeCast S1x128 v Gen.shapeCasts_S1x128_S1x128

/-- A store of a row of the three. -/
abbrev rowPiece (o : Fin 2 → Nat) (inb : ∀ a, o a + S1x128.size a ≤ S3x128.size a) (w : FVec Ideal S1x128 .f32) :
    View.Piece (Elt Ideal) S3x128 .f32 := ⟨Rect.unit (s := S3x128) o S1x128.size inb, w⟩

/-- The stores `L` leave `x`. -/
def LeftR (L : List (View.Piece (Elt Ideal) S3x128 .f32)) (x : S3x128.Idx → EReal) : Prop :=
  ∀ y, View.canon L y = x y

/-- A store of zeros. -/
theorem LeftR.zero (inb) (L) : LeftR (⟨Rect.unit ![0, 0] S3x128.size inb,
    (broadcast S3x128 (FloatOps.ofBits FTy.f32 0#32) : FVec Ideal S3x128 .f32)⟩ :: L) (fun _ => 0) := by
  intro y
  refine (congrFun (View.canon_cons_unit_lit (S := S3x128) (off := ![0, 0]) _ _ _ (by decide)) y).trans ?_
  pointwise []

/-- Row `k` of the three, in column `j`. -/
theorem row_emb (k : Fin 3) (inb) (j : Fin 128) :
    (Rect.unit (s := S3x128) ![k.val, 0] S1x128.size inb).emb (ix2 (0 : Fin 1) j) = (ix2 k j : S3x128.Idx) := by
  funext a
  match a with
  | ⟨0, _⟩ => exact Fin.ext ((Rect.idx_unit_val (s := S3x128) ![k.val, 0] S1x128.size inb (ix2 (0 : Fin 1) j) 0).trans rfl)
  | ⟨1, _⟩ => exact Fin.ext ((Rect.idx_unit_val (s := S3x128) ![k.val, 0] S1x128.size inb (ix2 (0 : Fin 1) j) 1).trans (Nat.zero_add _))

theorem row_off (k : Fin 3) (inb) (y : S3x128.Idx) (h : y 0 ≠ k) : y ∉ (Rect.unit (s := S3x128) ![k.val, 0] S1x128.size inb).set := by
  intro hm
  have a := Rect.mem_set_unit.mp hm 0
  apply h
  refine Fin.ext ?_
  have l : k.val ≤ (y 0).val := a.1
  have r : (y 0).val < k.val + 1 := a.2
  omega

/-- What a store of one row leaves. -/
theorem row_canon (k : Fin 3) (inb) (w : FVec Ideal S1x128 .f32) (L : List (View.Piece (Elt Ideal) S3x128 .f32)) (a : Fin 3) (j : Fin 128) :
    View.canon (rowPiece ![k.val, 0] inb w :: L) (ix2 a j) = if a = k then w (ix2 0 j) else View.canon L (ix2 a j) := by
  by_cases h : a = k
  · rw [if_pos h]
    subst h
    exact (congrArg _ (row_emb a inb j).symm).trans (View.canon_cons_emb (Rect.unit (s := S3x128) ![a.val, 0] S1x128.size inb) w L (ix2 0 j))
  · rw [if_neg h]
    exact View.canon_cons_of_not_mem _ L (row_off k inb _ h)

theorem row1_add (l : Vec Ideal S1x128 .f32) (D : FVec Ideal S1x128 .f32) (i : S1x128.Idx) : addf (row1 l) D i = (l i : EReal) + D i := by
  pointwise []

/-- Stores of the three rows of what the stores before them left, and `D`. -/
theorem LeftR.rows {L : List (View.Piece (Elt Ideal) S3x128 .f32)} {x : S3x128.Idx → EReal} (h : LeftR L x)
    (v : View sig .tc .vmem S3x128 .f32) (D : Fin 3 → FVec Ideal S1x128 .f32) (i0 i1 i2 j0 j1 j2) :
    LeftR (rowPiece ![0, 0] i0 (addf (row1 (v.readCov (rowPiece ![1, 0] i1 (addf (row1 (v.readCov (rowPiece ![2, 0] i2 (addf (row1 (v.readCov L
        (Rect.unit (s := S3x128) ![2, 0] S1x128.size j2).toLoadRect)) (D 2)) :: L)
        (Rect.unit (s := S3x128) ![1, 0] S1x128.size j1).toLoadRect)) (D 1)) :: rowPiece ![2, 0] i2 (addf (row1 (v.readCov L
        (Rect.unit (s := S3x128) ![2, 0] S1x128.size j2).toLoadRect)) (D 2)) :: L)
        (Rect.unit (s := S3x128) ![0, 0] S1x128.size j0).toLoadRect)) (D 0)) ::
      rowPiece ![1, 0] i1 (addf (row1 (v.readCov (rowPiece ![2, 0] i2 (addf (row1 (v.readCov L
        (Rect.unit (s := S3x128) ![2, 0] S1x128.size j2).toLoadRect)) (D 2)) :: L)
        (Rect.unit (s := S3x128) ![1, 0] S1x128.size j1).toLoadRect)) (D 1)) ::
      rowPiece ![2, 0] i2 (addf (row1 (v.readCov L (Rect.unit (s := S3x128) ![2, 0] S1x128.size j2).toLoadRect)) (D 2)) :: L)
      (fun y => x y + D (y 0) (ix2 0 (y 1))) := by
  have one : ∀ (k : Fin 3) (L' : List (View.Piece (Elt Ideal) S3x128 .f32)) (i j) (a : Fin 3) (b : Fin 128),
      View.canon (rowPiece ![k.val, 0] i (addf (row1 (v.readCov L' (Rect.unit (s := S3x128) ![k.val, 0] S1x128.size j).toLoadRect)) (D k)) :: L') (ix2 a b)
        = if a = k then (View.canon L' (ix2 a b) : EReal) + D k (ix2 0 b) else View.canon L' (ix2 a b) := by
    intro k L' i j a b
    refine (row_canon k i _ L' a b).trans ?_
    by_cases e : a = k
    · rw [if_pos e, if_pos e, row1_add, View.readCov_eq_canon', e]
      exact congrArg (fun z => (View.canon L' z : EReal) + _) (row_emb k j b)
    · rw [if_neg e, if_neg e]
  intro y
  obtain ⟨a, b, rfl⟩ : ∃ (a : Fin 3) (b : Fin 128), y = ix2 a b := ⟨y 0, y 1, eq_ix2 y⟩
  refine ((one 0 _ i0 j0 a b).trans (congrArg (fun z : EReal => if a = 0 then z + D 0 (ix2 0 b) else z)
    ((one 1 _ i1 j1 a b).trans (congrArg (fun z : EReal => if a = 1 then z + D 1 (ix2 0 b) else z)
    ((one 2 _ i2 j2 a b).trans (congrArg (fun z : EReal => if a = 2 then z + D 2 (ix2 0 b) else z) (h _))))))).trans ?_
  match a with
  | 0 => rfl
  | 1 => rfl
  | 2 => rfl

/-- Stores of the three rows of what was loaded before any store, and `D`. -/
theorem LeftR.first (M : Memref sig .tc .vmem S3x128 .f32) (hM : M.IsWhole) (X : Vec Ideal S3x128 .f32)
    (D : Fin 3 → FVec Ideal S1x128 .f32) (i0 i1 i2 j0 j1 j2) :
    LeftR [rowPiece ![0, 0] i0 (addf (row1 (View.readAt (Elt Ideal) M.view (Rect.unit (s := S3x128) ![0, 0] S1x128.size j0).toLoadRect (hM.unread X))) (D 0)),
      rowPiece ![1, 0] i1 (addf (row1 (View.readAt (Elt Ideal) M.view (Rect.unit (s := S3x128) ![1, 0] S1x128.size j1).toLoadRect (hM.unread X))) (D 1)),
      rowPiece ![2, 0] i2 (addf (row1 (View.readAt (Elt Ideal) M.view (Rect.unit (s := S3x128) ![2, 0] S1x128.size j2).toLoadRect (hM.unread X))) (D 2))]
      (fun y => X y + D (y 0) (ix2 0 (y 1))) := by
  have one : ∀ (k : Fin 3) (L' : List (View.Piece (Elt Ideal) S3x128 .f32)) (i j) (a : Fin 3) (b : Fin 128),
      View.canon (rowPiece ![k.val, 0] i (addf (row1 (View.readAt (Elt Ideal) M.view (Rect.unit (s := S3x128) ![k.val, 0] S1x128.size j).toLoadRect (hM.unread X))) (D k)) :: L') (ix2 a b)
        = if a = k then (X (ix2 a b) : EReal) + D k (ix2 0 b) else View.canon L' (ix2 a b) := by
    intro k L' i j a b
    refine (row_canon k i _ L' a b).trans ?_
    by_cases e : a = k
    · rw [if_pos e, if_pos e, row1_add, View.readAt_eq_ld, Memref.IsWhole.read_unread, e]
      exact congrArg (fun z => (X z : EReal) + _) (row_emb k j b)
    · rw [if_neg e, if_neg e]
  intro y
  obtain ⟨a, b, rfl⟩ : ∃ (a : Fin 3) (b : Fin 128), y = ix2 a b := ⟨y 0, y 1, eq_ix2 y⟩
  refine ((one 0 _ i0 j0 a b).trans (congrArg (fun z : EReal => if a = 0 then X (ix2 a b) + D 0 (ix2 0 b) else z)
    ((one 1 _ i1 j1 a b).trans (congrArg (fun z : EReal => if a = 1 then X (ix2 a b) + D 1 (ix2 0 b) else z)
    (one 2 _ i2 j2 a b))))).trans ?_
  match a with
  | 0 => rfl
  | 1 => rfl
  | 2 => rfl

/-- The column sums of a product. -/
abbrev tapF (d ca : FVec Ideal S128x128 .f32) : FVec Ideal S1x128 .f32 :=
  shapeCast S1x128 (multiReduction FKind.add [0] S128 (mulf d ca) (0#32) Gen.reduces_S128x128_S128_2 (.inl rfl) rfl) Gen.shapeCasts_S128_S1x128

variable (m : (ℓ : Loc nD τ sig) → Buf (Elt Ideal) ℓ)

/-- On the rows from `r0`: the input of the short convolution. -/
abbrev CA (c : Dev nD) (t : Fin cfg0.N) (r0 : Nat) (h : r0 + 128 ≤ 2048) : FVec Ideal S128x128 .f32 :=
  mulf (P m c t 2 r0 (by decide) h) (P m c t 0 r0 (by decide) h)

/-- On the rows from `r0`: what is added to the gradient of tap `k`. -/
def tapC (c : Dev nD) (t : Fin cfg0.N) (r0 : Nat) (h : r0 + 128 ≤ 2048) (n : FVec Ideal S16x128 .f32) : Fin 3 → FVec Ideal S1x128 .f32
  | 0 => tapF (upF 142#32 (DCV m c t r0 h) n) (CA m c t r0 h)
  | 1 => tapF (upF 143#32 (DCV m c t r0 h) n) (CA m c t r0 h)
  | 2 => tapF (DCV m c t r0 h) (CA m c t r0 h)

/-- What the chunk from row `r0` adds to the gradient of the taps. -/
def chunkC (c : Dev nD) (t : Fin cfg0.N) (y : S3x128.Idx) (r0 : Nat) : EReal :=
  if h : r0 + 128 ≤ 2048 then tapC m c t r0 h (next m c t r0) (y 0) (ix2 0 (y 1)) else 0

variable {m}

theorem next_lt (c : Dev nD) (t : Fin cfg0.N) (r0 : Nat) (h : r0 + 128 + 128 ≤ 2048) : headF (DCV m c t (r0 + 128) h) = next m c t r0 := by
  unfold next; rw [dif_pos h]

theorem next_last (c : Dev nD) (t : Fin cfg0.N) : zero16 = next m c t 1920 := by
  unfold next; rw [dif_neg (by decide)]

theorem LeftR.consC {c : Dev nD} {t : Fin cfg0.N} {L : List (View.Piece (Elt Ideal) S3x128 .f32)} {x : S3x128.Idx → EReal}
    (k r0 : Nat) (hk : r0 = (15 - k) * 128) (hr : r0 + 128 ≤ 2048) (n : FVec Ideal S16x128 .f32) (hn : n = next m c t r0)
    (v : View sig .tc .vmem S3x128 .f32) (i0 i1 i2 j0 j1 j2)
    (h : LeftR L (fun y => acc (chunkC m c t y) (x y) k)) :
    LeftR (rowPiece ![0, 0] i0 (addf (row1 (v.readCov (rowPiece ![1, 0] i1 (addf (row1 (v.readCov (rowPiece ![2, 0] i2 (addf (row1 (v.readCov L
        (Rect.unit (s := S3x128) ![2, 0] S1x128.size j2).toLoadRect)) (tapF (DCV m c t r0 hr) (CA m c t r0 hr))) :: L)
        (Rect.unit (s := S3x128) ![1, 0] S1x128.size j1).toLoadRect)) (tapF (upF 143#32 (DCV m c t r0 hr) n) (CA m c t r0 hr))) :: rowPiece ![2, 0] i2 (addf (row1 (v.readCov L
        (Rect.unit (s := S3x128) ![2, 0] S1x128.size j2).toLoadRect)) (tapF (DCV m c t r0 hr) (CA m c t r0 hr))) :: L)
        (Rect.unit (s := S3x128) ![0, 0] S1x128.size j0).toLoadRect)) (tapF (upF 142#32 (DCV m c t r0 hr) n) (CA m c t r0 hr))) ::
      rowPiece ![1, 0] i1 (addf (row1 (v.readCov (rowPiece ![2, 0] i2 (addf (row1 (v.readCov L
        (Rect.unit (s := S3x128) ![2, 0] S1x128.size j2).toLoadRect)) (tapF (DCV m c t r0 hr) (CA m c t r0 hr))) :: L)
        (Rect.unit (s := S3x128) ![1, 0] S1x128.size j1).toLoadRect)) (tapF (upF 143#32 (DCV m c t r0 hr) n) (CA m c t r0 hr))) ::
      rowPiece ![2, 0] i2 (addf (row1 (v.readCov L (Rect.unit (s := S3x128) ![2, 0] S1x128.size j2).toLoadRect)) (tapF (DCV m c t r0 hr) (CA m c t r0 hr))) :: L)
      (fun y => acc (chunkC m c t y) (x y) (k + 1)) := by
  subst hk hn
  simp only [acc, chunkC, dif_pos hr]
  exact h.rows v (tapC m c t _ hr (next m c t _)) _ _ _ _ _ _

theorem LeftR.firstC {c : Dev nD} {t : Fin cfg0.N} (n : FVec Ideal S16x128 .f32) (hn : n = next m c t 1920)
    (M : Memref sig .tc .vmem S3x128 .f32) (hM : M.IsWhole) (X : Vec Ideal S3x128 .f32) (i0 i1 i2 j0 j1 j2) :
    LeftR [rowPiece ![0, 0] i0 (addf (row1 (View.readAt (Elt Ideal) M.view (Rect.unit (s := S3x128) ![0, 0] S1x128.size j0).toLoadRect (hM.unread X)))
        (tapF (upF 142#32 (DCV m c t 1920 (by decide)) n) (CA m c t 1920 (by decide)))),
      rowPiece ![1, 0] i1 (addf (row1 (View.readAt (Elt Ideal) M.view (Rect.unit (s := S3x128) ![1, 0] S1x128.size j1).toLoadRect (hM.unread X)))
        (tapF (upF 143#32 (DCV m c t 1920 (by decide)) n) (CA m c t 1920 (by decide)))),
      rowPiece ![2, 0] i2 (addf (row1 (View.readAt (Elt Ideal) M.view (Rect.unit (s := S3x128) ![2, 0] S1x128.size j2).toLoadRect (hM.unread X)))
        (tapF (DCV m c t 1920 (by decide)) (CA m c t 1920 (by decide))))]
      (fun y => acc (chunkC m c t y) (X y) 1) := by
  subst hn
  simp only [acc, chunkC, dif_pos (show 1920 + 128 ≤ 2048 by decide)]
  exact LeftR.first M hM X (tapC m c t 1920 (by decide) (next m c t 1920)) _ _ _ _ _ _

set_option maxHeartbeats 4000000 in
/-- The first point of a head leaves its own part of the taps' gradient. -/
theorem startC (c : Dev nD) (t : Fin cfg0.N) (h0 : t.val % 2 = 0) (y : S3x128.Idx) :
    (outsAt0 m c t.val t.isLt).2.1 y = acc (chunkC m c t y) 0 16 := by
  rw [outsAt0_A m c t h0 (by omega)]
  dsimp only
  unfold out0_A_16
  rw [View.read_writes_junk_eq_canon]
  refine LeftR.consC (m := m) (c := c) (t := t) (x := fun _ => 0) 15 0 rfl (by decide) (headF (DCV m c t 128 (by decide))) (next_lt c t 0 (by decide)) _ _ _ _ _ _ _ ?_ y
  refine LeftR.consC (m := m) (c := c) (t := t) (x := fun _ => 0) 14 128 rfl (by decide) (headF (DCV m c t 256 (by decide))) (next_lt c t 128 (by decide)) _ _ _ _ _ _ _ ?_
  refine LeftR.consC (m := m) (c := c) (t := t) (x := fun _ => 0) 13 256 rfl (by decide) (headF (DCV m c t 384 (by decide))) (next_lt c t 256 (by decide)) _ _ _ _ _ _ _ ?_
  refine LeftR.consC (m := m) (c := c) (t := t) (x := fun _ => 0) 12 384 rfl (by decide) (headF (DCV m c t 512 (by decide))) (next_lt c t 384 (by decide)) _ _ _ _ _ _ _ ?_
  refine LeftR.consC (m := m) (c := c) (t := t) (x := fun _ => 0) 11 512 rfl (by decide) (headF (DCV m c t 640 (by decide))) (next_lt c t 512 (by decide)) _ _ _ _ _ _ _ ?_
  refine LeftR.consC (m := m) (c := c) (t := t) (x := fun _ => 0) 10 640 rfl (by decide) (headF (DCV m c t 768 (by decide))) (next_lt c t 640 (by decide)) _ _ _ _ _ _ _ ?_
  refine LeftR.consC (m := m) (c := c) (t := t) (x := fun _ => 0) 9 768 rfl (by decide) (headF (DCV m c t 896 (by decide))) (next_lt c t 768 (by decide)) _ _ _ _ _ _ _ ?_
  refine LeftR.consC (m := m) (c := c) (t := t) (x := fun _ => 0) 8 896 rfl (by decide) (headF (DCV m c t 1024 (by decide))) (next_lt c t 896 (by decide)) _ _ _ _ _ _ _ ?_
  refine LeftR.consC (m := m) (c := c) (t := t) (x := fun _ => 0) 7 1024 rfl (by decide) (headF (DCV m c t 1152 (by decide))) (next_lt c t 1024 (by decide)) _ _ _ _ _ _ _ ?_
  refine LeftR.consC (m := m) (c := c) (t := t) (x := fun _ => 0) 6 1152 rfl (by decide) (headF (DCV m c t 1280 (by decide))) (next_lt c t 1152 (by decide)) _ _ _ _ _ _ _ ?_
  refine LeftR.consC (m := m) (c := c) (t := t) (x := fun _ => 0) 5 1280 rfl (by decide) (headF (DCV m c t 1408 (by decide))) (next_lt c t 1280 (by decide)) _ _ _ _ _ _ _ ?_
  refine LeftR.consC (m := m) (c := c) (t := t) (x := fun _ => 0) 4 1408 rfl (by decide) (headF (DCV m c t 1536 (by decide))) (next_lt c t 1408 (by decide)) _ _ _ _ _ _ _ ?_
  refine LeftR.consC (m := m) (c := c) (t := t) (x := fun _ => 0) 3 1536 rfl (by decide) (headF (DCV m c t 1664 (by decide))) (next_lt c t 1536 (by decide)) _ _ _ _ _ _ _ ?_
  refine LeftR.consC (m := m) (c := c) (t := t) (x := fun _ => 0) 2 1664 rfl (by decide) (headF (DCV m c t 1792 (by decide))) (next_lt c t 1664 (by decide)) _ _ _ _ _ _ _ ?_
  refine LeftR.consC (m := m) (c := c) (t := t) (x := fun _ => 0) 1 1792 rfl (by decide) (headF (DCV m c t 1920 (by decide))) (next_lt c t 1792 (by decide)) _ _ _ _ _ _ _ ?_
  refine LeftR.consC (m := m) (c := c) (t := t) (x := fun _ => 0) 0 1920 rfl (by decide) (zero16) (next_last c t) _ _ _ _ _ _ _ ?_
  exact LeftR.zero _ _

set_option maxHeartbeats 4000000 in
/-- The second point of a head adds its part of the taps' gradient. -/
theorem stepC (c : Dev nD) (t : Fin cfg0.N) (h0 : t.val % 2 ≠ 0) (y : S3x128.Idx) :
    (outsAt0 m c t.val t.isLt).2.1 y
      = acc (chunkC m c t y) ((outsAt0 m c (t.val - 1) (lt_of_le_of_lt (Nat.sub_le _ _) t.isLt)).2.1 y) 16 := by
  rw [outsAt0_B m c t h0 (by omega)]
  dsimp only
  unfold out0_B_16
  rw [View.read_writes_junk_eq_canon]
  refine LeftR.consC (m := m) (c := c) (t := t) (x := (outsAt0 m c (t.val - 1) _).2.1) 15 0 rfl (by decide) (headF (DCV m c t 128 (by decide))) (next_lt c t 0 (by decide)) _ _ _ _ _ _ _ ?_ y
  refine LeftR.consC (m := m) (c := c) (t := t) (x := (outsAt0 m c (t.val - 1) _).2.1) 14 128 rfl (by decide) (headF (DCV m c t 256 (by decide))) (next_lt c t 128 (by decide)) _ _ _ _ _ _ _ ?_
  refine LeftR.consC (m := m) (c := c) (t := t) (x := (outsAt0 m c (t.val - 1) _).2.1) 13 256 rfl (by decide) (headF (DCV m c t 384 (by decide))) (next_lt c t 256 (by decide)) _ _ _ _ _ _ _ ?_
  refine LeftR.consC (m := m) (c := c) (t := t) (x := (outsAt0 m c (t.val - 1) _).2.1) 12 384 rfl (by decide) (headF (DCV m c t 512 (by decide))) (next_lt c t 384 (by decide)) _ _ _ _ _ _ _ ?_
  refine LeftR.consC (m := m) (c := c) (t := t) (x := (outsAt0 m c (t.val - 1) _).2.1) 11 512 rfl (by decide) (headF (DCV m c t 640 (by decide))) (next_lt c t 512 (by decide)) _ _ _ _ _ _ _ ?_
  refine LeftR.consC (m := m) (c := c) (t := t) (x := (outsAt0 m c (t.val - 1) _).2.1) 10 640 rfl (by decide) (headF (DCV m c t 768 (by decide))) (next_lt c t 640 (by decide)) _ _ _ _ _ _ _ ?_
  refine LeftR.consC (m := m) (c := c) (t := t) (x := (outsAt0 m c (t.val - 1) _).2.1) 9 768 rfl (by decide) (headF (DCV m c t 896 (by decide))) (next_lt c t 768 (by decide)) _ _ _ _ _ _ _ ?_
  refine LeftR.consC (m := m) (c := c) (t := t) (x := (outsAt0 m c (t.val - 1) _).2.1) 8 896 rfl (by decide) (headF (DCV m c t 1024 (by decide))) (next_lt c t 896 (by decide)) _ _ _ _ _ _ _ ?_
  refine LeftR.consC (m := m) (c := c) (t := t) (x := (outsAt0 m c (t.val - 1) _).2.1) 7 1024 rfl (by decide) (headF (DCV m c t 1152 (by decide))) (next_lt c t 1024 (by decide)) _ _ _ _ _ _ _ ?_
  refine LeftR.consC (m := m) (c := c) (t := t) (x := (outsAt0 m c (t.val - 1) _).2.1) 6 1152 rfl (by decide) (headF (DCV m c t 1280 (by decide))) (next_lt c t 1152 (by decide)) _ _ _ _ _ _ _ ?_
  refine LeftR.consC (m := m) (c := c) (t := t) (x := (outsAt0 m c (t.val - 1) _).2.1) 5 1280 rfl (by decide) (headF (DCV m c t 1408 (by decide))) (next_lt c t 1280 (by decide)) _ _ _ _ _ _ _ ?_
  refine LeftR.consC (m := m) (c := c) (t := t) (x := (outsAt0 m c (t.val - 1) _).2.1) 4 1408 rfl (by decide) (headF (DCV m c t 1536 (by decide))) (next_lt c t 1408 (by decide)) _ _ _ _ _ _ _ ?_
  refine LeftR.consC (m := m) (c := c) (t := t) (x := (outsAt0 m c (t.val - 1) _).2.1) 3 1536 rfl (by decide) (headF (DCV m c t 1664 (by decide))) (next_lt c t 1536 (by decide)) _ _ _ _ _ _ _ ?_
  refine LeftR.consC (m := m) (c := c) (t := t) (x := (outsAt0 m c (t.val - 1) _).2.1) 2 1664 rfl (by decide) (headF (DCV m c t 1792 (by decide))) (next_lt c t 1664 (by decide)) _ _ _ _ _ _ _ ?_
  refine LeftR.consC (m := m) (c := c) (t := t) (x := (outsAt0 m c (t.val - 1) _).2.1) 1 1792 rfl (by decide) (headF (DCV m c t 1920 (by decide))) (next_lt c t 1792 (by decide)) _ _ _ _ _ _ _ ?_
  exact LeftR.firstC zero16 (next_last c t) _ _ _ _ _ _ _ _ _

end Cert.Mixer

end
-- ==== Proof.MixerRows.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerConv
public import proofs.«01_k».proof.Proof.MixerSums

@[expose] public section

set_option maxRecDepth 16384

noncomputable section

open Idealize.ShloMosaic Idealize.ShloMosaic.TcCoe Idealize.SL.Sem
open scoped BigOperators

namespace Cert.Mixer

open Cert.KernelIdeal Cert.KernelIdeal.Gen
open Cert.ReferenceIdeal.Read

/-- A sum over rows, by chunks of 128. -/
theorem sum_rows (f : Nat → EReal) : ∑ s : Fin 2048, f s.val = ∑ k : Fin 16, ∑ a : Fin 128, f (k.val * 128 + a.val) := by
  rw [← Fintype.sum_prod_type' (fun (k : Fin 16) (a : Fin 128) => f (k.val * 128 + a.val))]
  refine (Fintype.sum_equiv (finProdFinEquiv (m := 16) (n := 128)) _ _ fun p => ?_).symm
  exact congrArg f (by show _ = p.2.val + 128 * p.1.val; omega)

/-- Moving a shift from one factor to the other. -/
theorem sum_shift (n k : Nat) (hk : k ≤ n) (D C : Nat → EReal) :
    ∑ s : Fin n, D s.val * (if s.val < k then 0 else C (s.val - k)) = ∑ s : Fin n, (if s.val + k < n then D (s.val + k) else 0) * C s.val := by
  obtain ⟨r, rfl⟩ := Nat.exists_eq_add_of_le hk
  rw [Fin.sum_univ_eq_sum_range (fun s => D s * (if s < k then 0 else C (s - k))), Fin.sum_univ_eq_sum_range (fun s => (if s + k < k + r then D (s + k) else 0) * C s)]
  rw [Finset.sum_range_add, add_comm k r, Finset.sum_range_add]
  rw [Finset.sum_eq_zero fun s hs => by rw [if_pos (Finset.mem_range.mp hs), mul_zero], zero_add]
  rw [Finset.sum_eq_zero (s := Finset.range k) fun s hs => by rw [if_neg (by omega), zero_mul], add_zero]
  refine Finset.sum_congr rfl fun s hs => ?_
  have := Finset.mem_range.mp hs
  rw [if_neg (by omega), if_pos (by omega), Nat.add_sub_cancel_left, add_comm k s]

variable (m : (ℓ : Loc nD τ sig) → Buf (Elt Ideal) ℓ)

/-- The input of the short convolution, and zero past the last row. -/
def Ci (c : Dev nD) (b : Fin 2) (j : Fin 1024) (s : Nat) : EReal :=
  if h : s < 2048 then (X m c 2 (ix3 b ⟨s, h⟩ j) : EReal) * X m c 0 (ix3 b ⟨s, h⟩ j) else 0

/-- The gradient of the short convolution, and zero past the last row. -/
def Di (c : Dev nD) (b : Fin 2) (j : Fin 1024) (s : Nat) : EReal :=
  if h : s < 2048 then Dcv m c (ix3 b ⟨s, h⟩ j) else 0

/-- The gradient of the tap that reads `k` rows back. -/
abbrev tapG (c : Dev nD) (j : Fin 1024) (k : Nat) : EReal :=
  ∑ b : Fin 2, ∑ s : Fin 2048, (Di m c b j s.val : EReal) * (if s.val < k then 0 else Ci m c b j (s.val - k))

variable {m}

theorem v37_at (c : Dev nD) (b : Fin 2) (s : Nat) (h : s < 2048) (j : Fin 1024) :
    val_main_v37 (F := Ideal) (m ((c : Thread nD τ).loc main_arg0)) (ix3 b ⟨s, h⟩ j) = Ci m c b j s := by
  unfold Ci
  rw [dif_pos h]
  pointwise [X, val_main_v37, val_main_v8, val_main_v7, val_main_v6, val_main_v2, val_main_v1, val_main_v0]

theorem v192_at (c : Dev nD) (b : Fin 2) (s : Fin 2048) (j : Fin 1024) :
    val_main_v192 (F := Ideal) (m ((c : Thread nD τ).loc main_arg0)) (m ((c : Thread nD τ).loc main_arg1)) (ix3 b s j) = Di m c b j s.val := by
  unfold Di
  rw [dif_pos s.isLt]

/-- The convolution's input, two rows of zeros before it. -/
theorem v39_at (c : Dev nD) (b : Fin 2) (s k : Nat) (h : s + 2 - k < 2050) (hk : k ≤ 2) (hs : s < 2048) (j : Fin 1024) :
    val_main_v39 (F := Ideal) (m ((c : Thread nD τ).loc main_arg0)) (ix3 b ⟨s + 2 - k, h⟩ j) = if s < k then 0 else Ci m c b j (s - k) := by
  by_cases l : s < k
  · rw [if_pos l]
    unfold val_main_v39
    pointwise [val_main_v38, val_main_cst]
    rw [dif_pos (by omega)]
  · rw [if_neg l, ← v37_at c b (s - k) (by omega) j]
    unfold val_main_v39
    generalize val_main_v37 (F := Ideal) (m ((c : Thread nD τ).loc main_arg0)) = V
    pointwise []
    rw [dif_neg (by omega)]
    exact congrArg V (by blk_ext)

theorem v58_at (c : Dev nD) (b : Fin 2) (s : Fin 2048) (j : Fin 1024) :
    val_main_v58 (F := Ideal) (m ((c : Thread nD τ).loc main_arg0)) (ix3 b s j) = if s.val < 0 then 0 else Ci m c b j (s.val - 0) := by
  rw [← v39_at c b s.val 0 (by omega) (by omega) s.isLt j]
  unfold val_main_v58
  generalize val_main_v39 (F := Ideal) (m ((c : Thread nD τ).loc main_arg0)) = V
  pointwise []
  exact congrArg V (by blk_ext)

theorem v51_at (c : Dev nD) (b : Fin 2) (s : Fin 2048) (j : Fin 1024) :
    val_main_v51 (F := Ideal) (m ((c : Thread nD τ).loc main_arg0)) (ix3 b s j) = if s.val < 1 then 0 else Ci m c b j (s.val - 1) := by
  rw [← v39_at c b s.val 1 (by omega) (by omega) s.isLt j]
  unfold val_main_v51
  generalize val_main_v39 (F := Ideal) (m ((c : Thread nD τ).loc main_arg0)) = V
  pointwise []
  exact congrArg V (by blk_ext)

theorem v43_at (c : Dev nD) (b : Fin 2) (s : Fin 2048) (j : Fin 1024) :
    val_main_v43 (F := Ideal) (m ((c : Thread nD τ).loc main_arg0)) (ix3 b s j) = if s.val < 2 then 0 else Ci m c b j (s.val - 2) := by
  rw [← v39_at c b s.val 2 (by omega) (by omega) s.isLt j]
  unfold val_main_v43
  generalize val_main_v39 (F := Ideal) (m ((c : Thread nD τ).loc main_arg0)) = V
  pointwise []
  exact congrArg V (by blk_ext)

theorem v197_at (c : Dev nD) (j : Fin 1024) :
    val_main_v197 (F := Ideal) (m ((c : Thread nD τ).loc main_arg0)) (m ((c : Thread nD τ).loc main_arg1)) (ix1 j) = tapG m c j 0 := by
  unfold val_main_v197 tapG
  simp only [← v58_at, ← v192_at]
  refine (hostReduceAdd_r3 _ _ _ _ j (drop3 _ j)).trans ?_
  pointwise [val_main_cst_28, val_main_v196]

theorem v206_at (c : Dev nD) (j : Fin 1024) :
    val_main_v206 (F := Ideal) (m ((c : Thread nD τ).loc main_arg0)) (m ((c : Thread nD τ).loc main_arg1)) (ix1 j) = tapG m c j 1 := by
  unfold val_main_v206 tapG
  simp only [← v51_at, ← v192_at]
  refine (hostReduceAdd_r3 _ _ _ _ j (drop3 _ j)).trans ?_
  pointwise [val_main_cst_32, val_main_v205]

theorem v217_at (c : Dev nD) (j : Fin 1024) :
    val_main_v217 (F := Ideal) (m ((c : Thread nD τ).loc main_arg0)) (m ((c : Thread nD τ).loc main_arg1)) (ix1 j) = tapG m c j 2 := by
  unfold val_main_v217 tapG
  simp only [← v43_at, ← v192_at]
  refine (hostReduceAdd_r3 _ _ _ _ j (drop3 _ j)).trans ?_
  pointwise [val_main_cst_36, val_main_v216]

theorem v199_at (c : Dev nD) (j : Fin 1024) :
    val_main_v199 (F := Ideal) (m ((c : Thread nD τ).loc main_arg0)) (m ((c : Thread nD τ).loc main_arg1)) (ix1 j) = tapG m c j 0 := by
  rw [← v197_at]
  unfold val_main_v199 val_main_v198
  generalize val_main_v197 (F := Ideal) (m ((c : Thread nD τ).loc main_arg0)) (m ((c : Thread nD τ).loc main_arg1)) = G
  refine (hostReduceAdd_r3 _ _ _ _ j (drop3 _ j)).trans ?_
  pointwise [val_main_cst_29, Fin.sum_univ_one]

theorem v208_at (c : Dev nD) (j : Fin 1024) :
    val_main_v208 (F := Ideal) (m ((c : Thread nD τ).loc main_arg0)) (m ((c : Thread nD τ).loc main_arg1)) (ix1 j) = tapG m c j 1 := by
  rw [← v206_at]
  unfold val_main_v208 val_main_v207
  generalize val_main_v206 (F := Ideal) (m ((c : Thread nD τ).loc main_arg0)) (m ((c : Thread nD τ).loc main_arg1)) = G
  refine (hostReduceAdd_r3 _ _ _ _ j (drop3 _ j)).trans ?_
  pointwise [val_main_cst_33, Fin.sum_univ_one]

theorem v219_at (c : Dev nD) (j : Fin 1024) :
    val_main_v219 (F := Ideal) (m ((c : Thread nD τ).loc main_arg0)) (m ((c : Thread nD τ).loc main_arg1)) (ix1 j) = tapG m c j 2 := by
  rw [← v217_at]
  unfold val_main_v219 val_main_v218
  generalize val_main_v217 (F := Ideal) (m ((c : Thread nD τ).loc main_arg0)) (m ((c : Thread nD τ).loc main_arg1)) = G
  refine (hostReduceAdd_r3 _ _ _ _ j (drop3 _ j)).trans ?_
  pointwise [val_main_cst_37, Fin.sum_univ_one]

/-- The reference's gradient of the taps. -/
theorem v224_at (c : Dev nD) (k : Fin 3) (j : Fin 1024) :
    val_main_v224 (F := Ideal) (m ((c : Thread nD τ).loc main_arg0)) (m ((c : Thread nD τ).loc main_arg1)) (ix2 k j) = tapG m c j (2 - k.val) := by
  unfold val_main_v224 val_main_v213 val_main_v202 val_main_v212 val_main_v223 val_main_v201 val_main_v211 val_main_v222
  have h0 := v199_at (m := m) c j
  have h1 := v208_at (m := m) c j
  have h2 := v219_at (m := m) c j
  generalize val_main_v199 (F := Ideal) (m ((c : Thread nD τ).loc main_arg0)) (m ((c : Thread nD τ).loc main_arg1)) = G0 at h0 ⊢
  generalize val_main_v208 (F := Ideal) (m ((c : Thread nD τ).loc main_arg0)) (m ((c : Thread nD τ).loc main_arg1)) = G1 at h1 ⊢
  generalize val_main_v219 (F := Ideal) (m ((c : Thread nD τ).loc main_arg0)) (m ((c : Thread nD τ).loc main_arg1)) = G2 at h2 ⊢
  match k with
  | 0 =>
    refine Eq.trans ?_ h2
    pointwise [val_main_cst_31, val_main_cst_35, val_main_cst_39]
  | 1 =>
    refine Eq.trans ?_ h1
    pointwise [val_main_cst_31, val_main_cst_35, val_main_cst_39]
  | 2 =>
    refine Eq.trans ?_ h0
    pointwise [val_main_cst_31, val_main_cst_35, val_main_cst_39]

end Cert.Mixer

end
-- ==== Proof.MixerWeights.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerAcc
public import proofs.«01_k».proof.Proof.MixerGate
public import proofs.«01_k».proof.Proof.MixerSums

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable (m : (ℓ : Loc nD τ sig) → Buf (Elt Ideal) ℓ)

/-- The gradient of the spatial gate. -/
abbrev Gz (c : Dev nD) (q : S2x2048x1024.Idx) : EReal :=
  val_main_v152 (F := Ideal) (m ((c : Thread nD τ).loc main_arg0)) (m ((c : Thread nD τ).loc main_arg1)) q

variable {m}

theorem Gz_at (c : Dev nD) (q : S2x2048x1024.Idx) :
    Gz m c q = X m c 4 q * (X m c 6 q * lg m c 6 q * (lg m c 10 q * Dm m c q)) := by
  dsimp only [lg]
  pointwise [X, Dm, Gz, Ideal.logistic, val_main_v152, val_main_v14, val_main_v13, val_main_v12, val_main_v150, val_main_v65_0, val_main_v20, val_main_v19, val_main_v18, val_main_v65_2, val_main_call1_v4, val_main_call1_cst_0, val_main_call1_v3, val_main_call1_v2, val_main_call1_cst, val_main_call1_v1, val_main_call1_v0, val_main_v142, val_main_v121, val_main_v120, val_main_cst_14, val_main_v119, val_main_v118, val_main_cst_13, val_main_v117, val_main_v116, val_main_v32, val_main_v31, val_main_v30, val_main_v138]

theorem DZ_at {c : Dev nD} {t : Fin cfg0.N} {r0 : Nat} {i : S128x128.Idx} {q : S2x2048x1024.Idx} (e : Here t r0 i q)
    (h : r0 + 128 ≤ 2048) : DZ m c t r0 h i = Gz m c q := by
  have a : DZ m c t r0 h i = (DM m c t r0 h i : EReal) * sgm (P m c t 10 r0 (by decide) h) i * P m c t 4 r0 (by decide) h i * silu (P m c t 6 r0 (by decide) h) i := rfl
  rw [a, sgm_at, silu_at, P_at e, P_at e, P_at e, DM_at e, Gz_at]
  show Dm m c q * lg m c 10 q * X m c 4 q * (X m c 6 q * lg m c 6 q) = _
  ac_rfl

/-- The entry of row `a` of chunk `k`, head `h` and channel `d`. -/
abbrev at5 (b : Fin 2) (k : Fin 16) (a : Fin 128) (h : Fin 8) (d : Fin 128) : S2x2048x1024.Idx :=
  ix3 b ⟨k.val * 128 + a.val, by omega⟩ ⟨h.val * 128 + d.val, by omega⟩

/-- The gradient of the spatial gate, cut into chunks and heads. -/
theorem v154_at (c : Dev nD) (b : Fin 2) (k : Fin 16) (a : Fin 128) (h : Fin 8) (d : Fin 128) :
    val_main_v154 (F := Ideal) (m ((c : Thread nD τ).loc main_arg0)) (m ((c : Thread nD τ).loc main_arg1)) (ix5 b k a h d) = Gz m c (at5 b k a h d) := by
  unfold val_main_v154 Gz
  generalize val_main_v152 (F := Ideal) (m ((c : Thread nD τ).loc main_arg0)) (m ((c : Thread nD τ).loc main_arg1)) = G
  pointwise []
  blk_ext

theorem v155_at (c : Dev nD) (a : Fin 128) (h : Fin 8) :
    val_main_v155 (F := Ideal) (m ((c : Thread nD τ).loc main_arg0)) (m ((c : Thread nD τ).loc main_arg1)) (ix2 a h)
      = ∑ b : Fin 2, ∑ k : Fin 16, ∑ d : Fin 128, Gz m c (at5 b k a h d) := by
  unfold val_main_v155
  simp only [← v154_at]
  generalize val_main_v154 (F := Ideal) (m ((c : Thread nD τ).loc main_arg0)) (m ((c : Thread nD τ).loc main_arg1)) = G
  refine (hostReduceAdd_r5 _ _ _ _ a h (drop5 _ a h)).trans ?_
  pointwise [val_main_cst_19]

/-- The reference's gradient of the spatial bias. -/
theorem v246_at (c : Dev nD) (h : Fin 8) (a d : Fin 128) :
    val_main_v246 (F := Ideal) (m ((c : Thread nD τ).loc main_arg0)) (m ((c : Thread nD τ).loc main_arg1)) (ix3 h a d)
      = ∑ b : Fin 2, ∑ k : Fin 16, ∑ d : Fin 128, Gz m c (at5 b k a h d) := by
  rw [← v155_at]
  unfold val_main_v246 val_main_v245 val_main_v158 val_main_v157 val_main_v156
  generalize val_main_v155 (F := Ideal) (m ((c : Thread nD τ).loc main_arg0)) (m ((c : Thread nD τ).loc main_arg1)) = G
  pointwise []
  refine (hostReduceAdd_r5 _ _ _ _ a h (drop5 _ _ _)).trans ?_
  pointwise [val_main_cst_20, Fin.sum_univ_one]

/-- The reference's gradient of the spatial weight. -/
theorem v160_at (c : Dev nD) (h : Fin 8) (a a' : Fin 128) :
    val_main_v160 (F := Ideal) (m ((c : Thread nD τ).loc main_arg0)) (m ((c : Thread nD τ).loc main_arg1)) (ix3 h a a')
      = ∑ b : Fin 2, ∑ k : Fin 16, ∑ d : Fin 128, (Gz m c (at5 b k a h d) : EReal)
        * val_main_v89 (F := Ideal) (m ((c : Thread nD τ).loc main_arg0)) (ix5 b k a' h d) := by
  simp only [← v154_at]
  unfold val_main_v160 val_main_v159
  generalize val_main_v154 (F := Ideal) (m ((c : Thread nD τ).loc main_arg0)) (m ((c : Thread nD τ).loc main_arg1)) = G
  generalize val_main_v89 (F := Ideal) (m ((c : Thread nD τ).loc main_arg0)) = V
  pointwise []
  refine (matmul3 _ _ _ _).trans ?_
  pointwise []

/-- The reference keeps the lower triangle. -/
theorem v163_at (c : Dev nD) (h : Fin 8) (a a' : Fin 128) :
    val_main_v163 (F := Ideal) (m ((c : Thread nD τ).loc main_arg0)) (m ((c : Thread nD τ).loc main_arg1)) (ix3 h a a')
      = if a'.val ≤ a.val then val_main_v160 (F := Ideal) (m ((c : Thread nD τ).loc main_arg0)) (m ((c : Thread nD τ).loc main_arg1)) (ix3 h a a') else (0 : EReal) := by
  unfold val_main_v163
  generalize val_main_v160 (F := Ideal) (m ((c : Thread nD τ).loc main_arg0)) (m ((c : Thread nD τ).loc main_arg1)) = G
  pointwise [val_main_v94_1, val_main_v92, val_main_v91, val_main_call2_v4, val_main_call2_v2, val_main_call2_v0, val_main_call2_v1, val_main_call2_c, val_main_call2_v3, val_main_v90, val_main_c, val_main_call2_v5, val_main_call2_c_0, val_main_call6_v0, val_main_call6_cst]
  rw [ge_at]
  by_cases k : a'.val ≤ a.val <;> simp [Scalar.select, k]

theorem sbF_at (d : FVec Ideal S128x128 .f32) (i : S128x128.Idx) : sbF d i = ∑ x : Fin 128, (d (ix2 (i 0) x) : EReal) := by
  pointwise []

theorem swG_at (d v : FVec Ideal S128x128 .f32) (i : S128x128.Idx) :
    swG d v i = ∑ x : Fin 128, (d (ix2 (i 0) x) : EReal) * vnF v (ix2 (i 1) x) := by
  unfold swG
  generalize vnF v = u
  pointwise []

/-- The head of a point. -/
abbrev hd (t : Fin cfg0.N) : Fin 8 := ⟨t.val / 2, by have := t.isLt; change _ < 16 at this; omega⟩

theorem chunkB_at (c : Dev nD) (t : Fin cfg0.N) (y : S1x128x128.Idx) (b : Fin 2) (hb : t.val % 2 = b.val) (k : Fin 16) :
    chunkB m c t y (k.val * 128) = ∑ d : Fin 128, Gz m c (at5 b k (y 1) (hd t) d) := by
  unfold chunkB
  rw [dif_pos (by omega), sbF_at]
  exact Fin.sum_fin_congr fun d => DZ_at ⟨hb.symm, rfl, rfl⟩ _

theorem chunkW_at (c : Dev nD) (t : Fin cfg0.N) (y : S1x128x128.Idx) (b : Fin 2) (hb : t.val % 2 = b.val) (k : Fin 16) :
    chunkW m c t y (k.val * 128) = ∑ d : Fin 128, (Gz m c (at5 b k (y 1) (hd t) d) : EReal)
      * val_main_v89 (F := Ideal) (m ((c : Thread nD τ).loc main_arg0)) (ix5 b k (y 2) (hd t) d) := by
  have e : ∀ d : Fin 128, vnF (P m c t 5 (k.val * 128) (by decide) (by omega)) (ix2 (y 2) d)
      = val_main_v89 (F := Ideal) (m ((c : Thread nD τ).loc main_arg0)) (ix5 b k (y 2) (hd t) d) := fun d =>
    have e0 : There t (k.val * 128) (ix2 (y 2) d) (ix5 b k (y 2) (hd t) d) := ⟨hb.symm, rfl, rfl, rfl, rfl⟩
    vn_at e0 (by omega)
  unfold chunkW
  rw [dif_pos (by omega), swG_at]
  exact Fin.sum_fin_congr fun d => congrArg₂ (fun a b : EReal => a * b) (DZ_at ⟨hb.symm, rfl, rfl⟩ _) (e d)

/-- The two points of a head together. -/
theorem both (c : Dev nD) (t : Fin cfg0.N) (h0 : t.val % 2 ≠ 0) (f : Fin cfg0.N → Nat → EReal) (g : Fin 2 → Fin 16 → EReal)
    (h : ∀ t' (b : Fin 2), t'.val / 2 = t.val / 2 → t'.val % 2 = b.val → ∀ k : Fin 16, f t' (k.val * 128) = g b k) :
    acc (f t) (acc (f ⟨t.val - 1, lt_of_le_of_lt (Nat.sub_le _ _) t.isLt⟩) 0 16) 16 = ∑ b : Fin 2, ∑ k : Fin 16, g b k := by
  rw [acc_eq, acc_eq, Fin.sum_univ_two (M := EReal), zero_add]
  exact congrArg₂ (fun a b : EReal => a + b) (Fin.sum_fin_congr fun k => h _ 0 (by show (t.val - 1) / 2 = _; omega) (by show (t.val - 1) % 2 = 0; omega) k)
    (Fin.sum_fin_congr fun k => h _ 1 rfl (by show t.val % 2 = 1; omega) k)

/-- Where a point's block of a head's gradient lies. -/
theorem emb18 (t : Fin cfg0.N) (y : S1x128x128.Idx) : ((cfg0.win 18).blk t).view.emb y = (ix3 (hd t) (y 1) (y 2) : S8x128x128.Idx) := by
  blk_ext [idx_val t]

theorem emb17 (t : Fin cfg0.N) (y : S1x128x128.Idx) : ((cfg0.win 17).blk t).view.emb y = (ix3 (hd t) (y 1) (y 2) : S8x128x128.Idx) := by
  blk_ext [idx_val t]

/-- The fourth result is the reference's. -/
theorem finalB (c : Dev nD) : (dats m 0 c).arrAt 18 (cfgs 0).N
    = val_main_v246 (F := Ideal) (m ((c : Thread nD τ).loc main_arg0)) (m ((c : Thread nD τ).loc main_arg1)) := by
  refine (dats m 0 c).arrAt_eq_of_covers 18 _ (by decide +kernel) fun t hf y => ?_
  have h0 := (flush0_18 t).mp hf
  blk_simp
  rw [after0_18]
  refine (stepB c t (by omega) y).trans ?_
  rw [startB c ⟨t.val - 1, lt_of_le_of_lt (Nat.sub_le _ _) t.isLt⟩ (by show (t.val - 1) % 2 = 0; omega) y]
  refine Eq.trans ?_ ((congrArg _ (emb18 t y)).trans (v246_at c (hd t) (y 1) (y 2))).symm
  refine both c t (by omega) (fun t' => chunkB m c t' y) _ (fun t' b e hb k => ?_)
  rw [chunkB_at c t' y b hb k, show hd t' = hd t from Fin.ext e]

/-- The third result is the reference's. -/
theorem finalW (c : Dev nD) : (dats m 0 c).arrAt 17 (cfgs 0).N
    = val_main_v163 (F := Ideal) (m ((c : Thread nD τ).loc main_arg0)) (m ((c : Thread nD τ).loc main_arg1)) := by
  refine (dats m 0 c).arrAt_eq_of_covers 17 _ (by decide +kernel) fun t hf y => ?_
  have h0 := (flush0_17 t).mp hf
  blk_simp
  rw [after0_17]
  refine (stepW c t (by omega) y).trans ?_
  rw [startW c ⟨t.val - 1, lt_of_le_of_lt (Nat.sub_le _ _) t.isLt⟩ (by show (t.val - 1) % 2 = 0; omega) y]
  refine Eq.trans ?_ ((congrArg _ (emb17 t y)).trans (v163_at c (hd t) (y 1) (y 2))).symm
  refine congrArg (fun a : EReal => if (y 2).val ≤ (y 1).val then a else 0) (Eq.trans ?_ (v160_at c (hd t) (y 1) (y 2)).symm)
  refine both c t (by omega) (fun t' => chunkW m c t' y) _ (fun t' b e hb k => ?_)
  rw [chunkW_at c t' y b hb k, show hd t' = hd t from Fin.ext e]

end Cert.Mixer

end
-- ==== Proof.MixerTapsValue.lean ====
module

public import proofs.«01_k».proof.Proof.Gen.KernelIdeal.Frame
public import proofs.«01_k».proof.Proof.Gen.ReferenceIdeal.Read
public import Idealize.ShloMosaic.Lib.Pipeline.ValueKit
public import proofs.«01_k».proof.Proof.MixerTaps
public import proofs.«01_k».proof.Proof.MixerRows
public import proofs.«01_k».proof.Proof.MixerWeights

@[expose] public section

set_option maxRecDepth 16384

noncomputable section

open Idealize.ShloMosaic Idealize.ShloMosaic.TcCoe Idealize.SL.Sem
open Idealize.ShloMosaic.Pipeline (Dat)
open scoped BigOperators

namespace Cert.Mixer

open Cert.KernelIdeal Cert.KernelIdeal.Gen
open Cert.ReferenceIdeal.Read

variable {m : (ℓ : Loc nD τ sig) → Buf (Elt Ideal) ℓ}

/-- The channel of a point's column. -/
abbrev ch (t : Fin cfg0.N) (j : Fin 128) : Fin 1024 :=
  ⟨t.val / 2 * 128 + j.val, by have := t.isLt; change _ < 16 at this; omega⟩

theorem tapF_at (d ca : FVec Ideal S128x128 .f32) (j : Fin 128) :
    tapF d ca (ix2 0 j) = ∑ a : Fin 128, (d (ix2 a j) : EReal) * ca (ix2 a j) := by
  pointwise []

/-- The gradient of the short convolution `k` rows on, and zero past the last row. -/
abbrev Ds (m : (ℓ : Loc nD τ sig) → Buf (Elt Ideal) ℓ) (c : Dev nD) (b : Fin 2) (j : Fin 1024) (k s : Nat) : EReal :=
  if s + k < 2048 then Di m c b j (s + k) else 0

theorem Dn_at (c : Dev nD) (b : Fin 2) (j : Fin 1024) (k s : Nat) (h : s < 2048) : Dn m c (ix3 b ⟨s, h⟩ j) k = Ds m c b j k s := by
  by_cases l : s + k < 2048
  · refine Eq.trans (dif_pos l) ?_
    unfold Ds Di
    rw [if_pos l, dif_pos l]
    rfl
  · refine Eq.trans (dif_neg l) ?_
    unfold Ds
    rw [if_neg l]

theorem CA_at {c : Dev nD} {t : Fin cfg0.N} {r0 : Nat} (h : r0 + 128 ≤ 2048) (b : Fin 2) (hb : t.val % 2 = b.val) (a j : Fin 128) :
    CA m c t r0 h (ix2 a j) = Ci m c b (ch t j) (r0 + a.val) := by
  have e : Here t r0 (ix2 a j) (ix3 b ⟨r0 + a.val, by omega⟩ (ch t j)) := ⟨hb.symm, rfl, rfl⟩
  have p : CA m c t r0 h (ix2 a j) = (P m c t 2 r0 (by decide) h (ix2 a j) : EReal) * P m c t 0 r0 (by decide) h (ix2 a j) := rfl
  rw [p, P_at e, P_at e]
  unfold Ci
  rw [dif_pos (show r0 + a.val < 2048 by omega)]
  rfl

/-- What a chunk adds to the gradient of a tap. -/
theorem chunkC_at (c : Dev nD) (t : Fin cfg0.N) (k : Fin 3) (j : Fin 128) (b : Fin 2) (hb : t.val % 2 = b.val) (n : Fin 16) :
    chunkC m c t (ix2 k j) (n.val * 128)
      = ∑ a : Fin 128, (Ds m c b (ch t j) (2 - k.val) (n.val * 128 + a.val) : EReal) * Ci m c b (ch t j) (n.val * 128 + a.val) := by
  have h : n.val * 128 + 128 ≤ 2048 := by omega
  have e : ∀ a : Fin 128, Here t (n.val * 128) (ix2 a j) (ix3 b ⟨n.val * 128 + a.val, by omega⟩ (ch t j)) := fun a => ⟨hb.symm, rfl, rfl⟩
  unfold chunkC
  rw [dif_pos h]
  match k with
  | 0 =>
    refine (tapF_at _ _ j).trans (Fin.sum_fin_congr fun a => congrArg₂ (fun a b : EReal => a * b) ?_ (CA_at h b hb a j))
    exact (up2_at _ _ _).trans ((upto_at (e a) h (by omega) 2 (by decide)).trans (Dn_at c b _ 2 _ _))
  | 1 =>
    refine (tapF_at _ _ j).trans (Fin.sum_fin_congr fun a => congrArg₂ (fun a b : EReal => a * b) ?_ (CA_at h b hb a j))
    exact (up1_at _ _ _).trans ((upto_at (e a) h (by omega) 1 (by decide)).trans (Dn_at c b _ 1 _ _))
  | 2 =>
    refine (tapF_at _ _ j).trans (Fin.sum_fin_congr fun a => congrArg₂ (fun a b : EReal => a * b) ?_ (CA_at h b hb a j))
    refine (DCV_at (e a) h).trans (Eq.trans ?_ (Dn_at c b _ 0 _ (show n.val * 128 + a.val < 2048 by omega)))
    have l : n.val * 128 + a.val + 0 < 2048 := by omega
    symm
    refine Eq.trans (dif_pos l) ?_
    rfl

theorem tapG_at (c : Dev nD) (j : Fin 1024) (k : Nat) (hk : k ≤ 2048) :
    tapG m c j k = ∑ b : Fin 2, ∑ n : Fin 16, ∑ a : Fin 128, (Ds m c b j k (n.val * 128 + a.val) : EReal) * Ci m c b j (n.val * 128 + a.val) :=
  Fin.sum_fin_congr fun b => (sum_shift 2048 k hk (Di m c b j) (Ci m c b j)).trans (sum_rows fun s => Ds m c b j k s * Ci m c b j s)

/-- Where a point's block of the taps' gradient lies. -/
theorem emb16 (t : Fin cfg0.N) (y : S3x128.Idx) : ((cfg0.win 16).blk t).view.emb y = (ix2 (y 0) (ch t (y 1)) : S3x1024.Idx) := by
  blk_ext [idx_val t]

/-- The second result is the reference's. -/
theorem finalC (c : Dev nD) : (dats m 0 c).arrAt 16 (cfgs 0).N
    = val_main_v224 (F := Ideal) (m ((c : Thread nD τ).loc main_arg0)) (m ((c : Thread nD τ).loc main_arg1)) := by
  refine (dats m 0 c).arrAt_eq_of_covers 16 _ (by decide +kernel) fun t hf y => ?_
  have h0 := (flush0_16 t).mp hf
  blk_simp
  rw [after0_16]
  refine (stepC c t (by omega) y).trans ?_
  rw [startC c ⟨t.val - 1, lt_of_le_of_lt (Nat.sub_le _ _) t.isLt⟩ (by show (t.val - 1) % 2 = 0; omega) y]
  refine Eq.trans ?_ ((congrArg _ (emb16 t y)).trans ((v224_at c (y 0) (ch t (y 1))).trans (tapG_at c _ _ (by omega)))).symm
  refine both c t (by omega) (fun t' => chunkC m c t' y) _ (fun t' b e hb k => ?_)
  have q : ch t' (y 1) = ch t (y 1) := Fin.ext (by show t'.val / 2 * 128 + _ = t.val / 2 * 128 + _; rw [e])
  rw [← q]
  exact (congrArg (fun z => chunkC m c t' z _) (eq_ix2 y)).trans (chunkC_at c t' (y 0) (y 1) b hb k)

end Cert.Mixer

end
-- ==== Proof.MixerClaim.lean ====
module

public import proofs.«01_k».proof.Defs
public import proofs.«01_k».proof.Proof.MixerGrad
public import proofs.«01_k».proof.Proof.MixerTapsValue
public import Idealize.ShloMosaic.Lib.Claim

@[expose] public section

noncomputable section

namespace Cert.Mixer

open Idealize.ShloMosaic Idealize.SL.Sem

theorem claimed_facts : Cert.On_claimed.Facts := ⟨by decide, by decide, by decide⟩

/-- The segments which the mask selects are those of `On`. -/
theorem on_of_claimed (a : Fin 12)
    (h : IntOp.ori (IntOp.ori (IntOp.ori (IntOp.ori (IntOp.ori (IntOp.ori (IntOp.cmpi .eq (BitVec.ofNat 32 a.val) 0#32)
      (IntOp.cmpi .eq (BitVec.ofNat 32 a.val) 1#32)) (IntOp.cmpi .eq (BitVec.ofNat 32 a.val) 2#32))
      (IntOp.cmpi .eq (BitVec.ofNat 32 a.val) 4#32)) (IntOp.cmpi .eq (BitVec.ofNat 32 a.val) 9#32))
      (IntOp.cmpi .eq (BitVec.ofNat 32 a.val) 10#32)) (IntOp.cmpi .eq (BitVec.ofNat 32 a.val) 11#32) = 1#1) : On a.val := by
  revert h; unfold On; revert a; decide

open Cert.ReferenceIdeal in
/-- The reference ends with `REF` in its first result. -/
theorem ref_result (m : (ℓ : Loc KernelIdeal.nD KernelIdeal.τ KernelIdeal.sig) → Buf (Elt Ideal) ℓ)
    (m' : (ℓ : Loc nD τ sig) → Buf (Elt Ideal) ℓ) (c : Dev KernelIdeal.nD)
    (h0 : m' ((c.tc : Thread nD τ).loc main_arg0) = m ((c.tc : Thread KernelIdeal.nD KernelIdeal.τ).loc KernelIdeal.main_arg0))
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2))
    (h4 : m' ((c.tc : Thread nD τ).loc main_arg4) = m ((c.tc : Thread KernelIdeal.nD KernelIdeal.τ).loc KernelIdeal.main_arg4))
    (h5 : m' ((c.tc : Thread nD τ).loc main_arg5) = m ((c.tc : Thread KernelIdeal.nD KernelIdeal.τ).loc KernelIdeal.main_arg5))
    (h6 : m' ((c.tc : Thread nD τ).loc main_arg6) = m ((c.tc : Thread KernelIdeal.nD KernelIdeal.τ).loc KernelIdeal.main_arg6)) :
    Read.val_main_v244 (F := Ideal) (m' ((c.tc : Thread nD τ).loc main_arg0)) (m' ((c.tc : Thread nD τ).loc main_arg1))
      (m' ((c.tc : Thread nD τ).loc main_arg2)) (m' ((c.tc : Thread nD τ).loc main_arg4))
      (m' ((c.tc : Thread nD τ).loc main_arg5)) (m' ((c.tc : Thread nD τ).loc main_arg6)) = REF m c := by
  rw [h0, h1, h2, h4, h5, h6]

set_option maxHeartbeats 1600000 in
/-- The kernel's gradients of the projections are the reference's on the claimed segments, and its gradients of the taps,
    of the spatial weight and of the spatial bias are the reference's everywhere. -/
theorem algebraic : Cert.algebraic_KernelIdeal_ReferenceIdeal_on_claimed
    (hKernelIdeal := Cert.KernelIdeal.Gen.facts) (hReferenceIdeal := Cert.ReferenceIdeal.Gen.facts) (hOn_claimed := claimed_facts) := by
  intro m g m' g' _ hagree
  refine ⟨fun c => REF m c,
    fun c => Cert.ReferenceIdeal.Read.val_main_v224 (F := Ideal) (m ((c.tc : Thread KernelIdeal.nD KernelIdeal.τ).loc KernelIdeal.main_arg0)) (m ((c.tc : Thread KernelIdeal.nD KernelIdeal.τ).loc KernelIdeal.main_arg1)),
    fun c => Cert.ReferenceIdeal.Read.val_main_v163 (F := Ideal) (m ((c.tc : Thread KernelIdeal.nD KernelIdeal.τ).loc KernelIdeal.main_arg0)) (m ((c.tc : Thread KernelIdeal.nD KernelIdeal.τ).loc KernelIdeal.main_arg1)),
    fun c => Cert.ReferenceIdeal.Read.val_main_v246 (F := Ideal) (m ((c.tc : Thread KernelIdeal.nD KernelIdeal.τ).loc KernelIdeal.main_arg0)) (m ((c.tc : Thread KernelIdeal.nD KernelIdeal.τ).loc KernelIdeal.main_arg1)), ?_, ?_⟩
  · refine (θ_run _ _ _).mono (fun r h c => ⟨fun i hi => (congrFun ((h.1 c).1 15) i).trans (final c i (on_of_claimed (i 0) hi)),
      fun i _ => (congrFun ((h.1 c).1 16) i).trans (congrFun (finalC c) i),
      fun i _ => (congrFun ((h.1 c).1 17) i).trans (congrFun (finalW c) i),
      fun i _ => (congrFun ((h.1 c).1 18) i).trans (congrFun (finalB c) i), h.2.1 c⟩)
      (θ_run_and (Cert.KernelIdeal.Gen.run_main m g) (Cert.KernelIdeal.Gen.frame m g))
  · refine (θ_run _ _ _).mono (fun r h c => ⟨fun i _ => ?_, fun i _ => ?_, fun i _ => ?_, fun i _ => ?_,
      (h c).2.2.2.2⟩) (Cert.ReferenceIdeal.Value.run m' g')
    all_goals obtain ⟨h0, h1, h2, h3, h4, h5, h6, _⟩ := hagree c
    · exact congrFun ((h c).1.trans ((Cert.ReferenceIdeal.Read.val_main_v244_eq _).trans
        (ref_result m m' c h0 h1 h2 h4 h5 h6))) i
    · exact congrFun ((h c).2.1.trans ((Cert.ReferenceIdeal.Read.val_main_v224_eq _).trans
        (congrArg₂ (Cert.ReferenceIdeal.Read.val_main_v224 (F := Ideal)) h0 h1))) i
    · exact congrFun ((h c).2.2.1.trans ((Cert.ReferenceIdeal.Read.val_main_v163_eq _).trans
        (congrArg₂ (Cert.ReferenceIdeal.Read.val_main_v163 (F := Ideal)) h0 h1))) i
    · exact congrFun ((h c).2.2.2.1.trans ((Cert.ReferenceIdeal.Read.val_main_v246_eq _).trans
        (congrArg₂ (Cert.ReferenceIdeal.Read.val_main_v246 (F := Ideal)) h0 h1))) i

end Cert.Mixer

end
-- ==== Proof.lean ====
module

public import proofs.«01_k».proof.Defs
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.OutProjBwd
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.InProjBwdH
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.InProjBwdW
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.InProj
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.NormMod
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.OutProjNorm
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.ModProj
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.ModGrad
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.AdamWMod
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.AdamBMod
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.AdamGain
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.AdamConv
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamWIn
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamWOut
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamRep
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.NormModBwdX
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.LossHeadX
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.MixerClaim
public import Idealize.ShloMosaic.Adequacy
public import Idealize.ShloMosaic.Init
public import Idealize.ShloMosaic.Lib.Claim

@[expose] public section

noncomputable section

namespace Cert.Proof

open Idealize.ShloMosaic Idealize.SL.Sem

theorem frame_kernel3 : Cert.quiescent_Kernel3 := fun m ρ _ => Cert.Kernel3.Gen.frame m ρ

theorem frame_kernel3_ideal : Cert.quiescent_Kernel3Ideal := fun m ρ _ => Cert.Kernel3Ideal.Gen.frame m ρ

theorem frame_reference3 : Cert.quiescent_Reference3Ideal := by
  intro m g _
  exact (θ_run _ _ _).mono (fun r h => ⟨fun c => (h c).2.2.2,
    sem_eq_zero_of_no_sems (by decide) r.2⟩) (Cert.Reference3Ideal.Value.run m g)

set_option maxHeartbeats 1600000 in
/-- The kernel's results are the reference's: `OutProjBwd` proves each of them. -/
theorem algebraic3 : Cert.algebraic_Kernel3Ideal_Reference3Ideal := by
  pair_intro
  · run_from Cert.Kernel3Ideal.Gen.run_main m g
  · hlo_run
    · exact (Cert.OutProjBwd.finalM m c).symm
    · exact (Cert.OutProjBwd.finalW m c).symm
    · exact (Cert.OutProjBwd.finalG m c).symm

theorem frame_kernel4 : Cert.quiescent_Kernel4 := fun m ρ _ => Cert.Kernel4.Gen.frame m ρ

theorem frame_kernel4_ideal : Cert.quiescent_Kernel4Ideal := fun m ρ _ => Cert.Kernel4Ideal.Gen.frame m ρ

theorem frame_reference4 : Cert.quiescent_Reference4Ideal := by
  intro m g _
  exact (θ_run _ _ _).mono (fun r h => ⟨fun c => (h c).2,
    sem_eq_zero_of_no_sems (by decide) r.2⟩) (Cert.Reference4Ideal.Value.run m g)

set_option maxHeartbeats 1600000 in
/-- The kernel's results are the reference's: `InProjBwdH` proves each of them. -/
theorem algebraic4 : Cert.algebraic_Kernel4Ideal_Reference4Ideal := by
  pair_intro
  · run_from Cert.Kernel4Ideal.Gen.run_main m g
  · hlo_run
    exact (Cert.InProjBwdH.final m c).symm

theorem frame_kernel5 : Cert.quiescent_Kernel5 := fun m ρ _ => Cert.Kernel5.Gen.frame m ρ

theorem frame_kernel5_ideal : Cert.quiescent_Kernel5Ideal := fun m ρ _ => Cert.Kernel5Ideal.Gen.frame m ρ

theorem frame_reference5 : Cert.quiescent_Reference5Ideal := by
  intro m g _
  exact (θ_run _ _ _).mono (fun r h => ⟨fun c => (h c).2,
    sem_eq_zero_of_no_sems (by decide) r.2⟩) (Cert.Reference5Ideal.Value.run m g)

set_option maxHeartbeats 1600000 in
/-- The kernel's results are the reference's: `InProjBwdW` proves each of them. -/
theorem algebraic5 : Cert.algebraic_Kernel5Ideal_Reference5Ideal := by
  pair_intro
  · run_from Cert.Kernel5Ideal.Gen.run_main m g
  · hlo_run
    exact (Cert.InProjBwdW.final m c).symm

theorem frame_kernel6 : Cert.quiescent_Kernel6 := fun m ρ _ => Cert.Kernel6.Gen.frame m ρ

theorem frame_kernel6_ideal : Cert.quiescent_Kernel6Ideal := fun m ρ _ => Cert.Kernel6Ideal.Gen.frame m ρ

theorem frame_reference6 : Cert.quiescent_Reference6Ideal := by
  intro m g _
  exact (θ_run _ _ _).mono (fun r h => ⟨fun c => (h c).2,
    sem_eq_zero_of_no_sems (by decide) r.2⟩) (Cert.Reference6Ideal.Value.run m g)

set_option maxHeartbeats 1600000 in
/-- The kernel's results are the reference's: `InProj` proves each of them. -/
theorem algebraic6 : Cert.algebraic_Kernel6Ideal_Reference6Ideal := by
  pair_intro
  · run_from Cert.Kernel6Ideal.Gen.run_main m g
  · hlo_run
    exact (Cert.InProj.final m c).symm

theorem frame_kernel7 : Cert.quiescent_Kernel7 := fun m ρ _ => Cert.Kernel7.Gen.frame m ρ

theorem frame_kernel7_ideal : Cert.quiescent_Kernel7Ideal := fun m ρ _ => Cert.Kernel7Ideal.Gen.frame m ρ

theorem frame_reference7 : Cert.quiescent_Reference7Ideal := by
  intro m g _
  exact (θ_run _ _ _).mono (fun r h => ⟨fun c => (h c).2.2,
    sem_eq_zero_of_no_sems (by decide) r.2⟩) (Cert.Reference7Ideal.Value.run m g)

set_option maxHeartbeats 1600000 in
/-- The kernel's results are the reference's: `NormMod` proves each of them. -/
theorem algebraic7 : Cert.algebraic_Kernel7Ideal_Reference7Ideal := by
  pair_intro
  · run_from Cert.Kernel7Ideal.Gen.run_main m g
  · hlo_run
    · exact (Cert.NormMod.final m c).symm
    · exact (Cert.NormMod.finalT m c).symm

theorem frame_kernel8 : Cert.quiescent_Kernel8 := fun m ρ _ => Cert.Kernel8.Gen.frame m ρ

theorem frame_kernel8_ideal : Cert.quiescent_Kernel8Ideal := fun m ρ _ => Cert.Kernel8Ideal.Gen.frame m ρ

theorem frame_reference8 : Cert.quiescent_Reference8Ideal := by
  intro m g _
  exact (θ_run _ _ _).mono (fun r h => ⟨fun c => (h c).2.2.2,
    sem_eq_zero_of_no_sems (by decide) r.2⟩) (Cert.Reference8Ideal.Value.run m g)

set_option maxHeartbeats 1600000 in
/-- The kernel's results are the reference's: `OutProjNorm` proves each of them. -/
theorem algebraic8 : Cert.algebraic_Kernel8Ideal_Reference8Ideal := by
  pair_intro
  · run_from Cert.Kernel8Ideal.Gen.run_main m g
  · hlo_run
    · exact (Cert.OutProjNorm.finalX m c).symm
    · exact (Cert.OutProjNorm.final m c).symm
    · exact (Cert.OutProjNorm.finalT m c).symm

theorem frame_kernel10 : Cert.quiescent_Kernel10 := fun m ρ _ => Cert.Kernel10.Gen.frame m ρ

theorem frame_kernel10_ideal : Cert.quiescent_Kernel10Ideal := fun m ρ _ => Cert.Kernel10Ideal.Gen.frame m ρ

theorem frame_reference10 : Cert.quiescent_Reference10Ideal := by
  intro m g _
  exact (θ_run _ _ _).mono (fun r h => ⟨fun c => (h c).2,
    sem_eq_zero_of_no_sems (by decide) r.2⟩) (Cert.Reference10Ideal.Value.run m g)

set_option maxHeartbeats 1600000 in
/-- The kernel's results are the reference's: `ModProj` proves each of them. -/
theorem algebraic10 : Cert.algebraic_Kernel10Ideal_Reference10Ideal := by
  pair_intro
  · run_from Cert.Kernel10Ideal.Gen.run_main m g
  · hlo_run
    exact (Cert.ModProj.final m c).symm

theorem frame_kernel11 : Cert.quiescent_Kernel11 := fun m ρ _ => Cert.Kernel11.Gen.frame m ρ

theorem frame_kernel11_ideal : Cert.quiescent_Kernel11Ideal := fun m ρ _ => Cert.Kernel11Ideal.Gen.frame m ρ

theorem frame_reference11 : Cert.quiescent_Reference11Ideal := by
  intro m g _
  exact (θ_run _ _ _).mono (fun r h => ⟨fun c => (h c).2.2,
    sem_eq_zero_of_no_sems (by decide) r.2⟩) (Cert.Reference11Ideal.Value.run m g)

set_option maxHeartbeats 1600000 in
/-- The kernel's results are the reference's: `ModGrad` proves each of them. -/
theorem algebraic11 : Cert.algebraic_Kernel11Ideal_Reference11Ideal := by
  pair_intro
  · run_from Cert.Kernel11Ideal.Gen.run_main m g
  · hlo_run
    · exact (Cert.ModGrad.finalW m c).symm
    · exact (Cert.ModGrad.finalB m c).symm

theorem frame_kernel12 : Cert.quiescent_Kernel12 := fun m ρ _ => Cert.Kernel12.Gen.frame m ρ

theorem frame_kernel12_ideal : Cert.quiescent_Kernel12Ideal := fun m ρ _ => Cert.Kernel12Ideal.Gen.frame m ρ

theorem frame_reference12 : Cert.quiescent_Reference12Ideal := by
  intro m g _
  exact (θ_run _ _ _).mono (fun r h => ⟨fun c => (h c).2.2.2.2,
    sem_eq_zero_of_no_sems (by decide) r.2⟩) (Cert.Reference12Ideal.Value.run m g)

set_option maxHeartbeats 1600000 in
/-- The kernel's results are the reference's: `AdamWMod` proves each of them. -/
theorem algebraic12 : Cert.algebraic_Kernel12Ideal_Reference12Ideal := by
  pair_intro
  · run_from Cert.Kernel12Ideal.Gen.run_main m g
  · hlo_run
    · exact (Cert.AdamWMod.finalG m c).symm
    · exact (Cert.AdamWMod.finalD m c).symm
    · exact (Cert.AdamWMod.finalM m c).symm
    · exact (Cert.AdamWMod.finalV m c).symm

theorem frame_kernel13 : Cert.quiescent_Kernel13 := fun m ρ _ => Cert.Kernel13.Gen.frame m ρ

theorem frame_kernel13_ideal : Cert.quiescent_Kernel13Ideal := fun m ρ _ => Cert.Kernel13Ideal.Gen.frame m ρ

theorem frame_reference13 : Cert.quiescent_Reference13Ideal := by
  intro m g _
  exact (θ_run _ _ _).mono (fun r h => ⟨fun c => (h c).2.2.2.2,
    sem_eq_zero_of_no_sems (by decide) r.2⟩) (Cert.Reference13Ideal.Value.run m g)

set_option maxHeartbeats 1600000 in
/-- The kernel's results are the reference's: `AdamBMod` proves each of them. -/
theorem algebraic13 : Cert.algebraic_Kernel13Ideal_Reference13Ideal := by
  pair_intro
  · run_from Cert.Kernel13Ideal.Gen.run_main m g
  · hlo_run
    · exact (Cert.AdamBMod.finalG m c).symm
    · exact (Cert.AdamBMod.finalD m c).symm
    · exact (Cert.AdamBMod.finalM m c).symm
    · exact (Cert.AdamBMod.finalV m c).symm

theorem frame_kernel14 : Cert.quiescent_Kernel14 := fun m ρ _ => Cert.Kernel14.Gen.frame m ρ

theorem frame_kernel14_ideal : Cert.quiescent_Kernel14Ideal := fun m ρ _ => Cert.Kernel14Ideal.Gen.frame m ρ

theorem frame_reference14 : Cert.quiescent_Reference14Ideal := by
  intro m g _
  exact (θ_run _ _ _).mono (fun r h => ⟨fun c => (h c).2.2.2.2,
    sem_eq_zero_of_no_sems (by decide) r.2⟩) (Cert.Reference14Ideal.Value.run m g)

set_option maxHeartbeats 1600000 in
/-- The kernel's results are the reference's: `AdamGain` proves each of them. -/
theorem algebraic14 : Cert.algebraic_Kernel14Ideal_Reference14Ideal := by
  pair_intro
  · run_from Cert.Kernel14Ideal.Gen.run_main m g
  · hlo_run
    · exact (Cert.AdamGain.finalG m c).symm
    · exact (Cert.AdamGain.finalD m c).symm
    · exact (Cert.AdamGain.finalM m c).symm
    · exact (Cert.AdamGain.finalV m c).symm

theorem frame_kernel15 : Cert.quiescent_Kernel15 := fun m ρ _ => Cert.Kernel15.Gen.frame m ρ

theorem frame_kernel15_ideal : Cert.quiescent_Kernel15Ideal := fun m ρ _ => Cert.Kernel15Ideal.Gen.frame m ρ

theorem frame_reference15 : Cert.quiescent_Reference15Ideal := by
  intro m g _
  exact (θ_run _ _ _).mono (fun r h => ⟨fun c => (h c).2.2.2.2,
    sem_eq_zero_of_no_sems (by decide) r.2⟩) (Cert.Reference15Ideal.Value.run m g)

set_option maxHeartbeats 1600000 in
/-- The kernel's results are the reference's: `AdamConv` proves each of them. -/
theorem algebraic15 : Cert.algebraic_Kernel15Ideal_Reference15Ideal := by
  pair_intro
  · run_from Cert.Kernel15Ideal.Gen.run_main m g
  · hlo_run
    · exact (Cert.AdamConv.finalG m c).symm
    · exact (Cert.AdamConv.finalD m c).symm
    · exact (Cert.AdamConv.finalM m c).symm
    · exact (Cert.AdamConv.finalV m c).symm

theorem frame_kernel16 : Cert.quiescent_Kernel16 := fun m ρ _ => Cert.Kernel16.Gen.frame m ρ

theorem frame_kernel16_ideal : Cert.quiescent_Kernel16Ideal := fun m ρ _ => Cert.Kernel16Ideal.Gen.frame m ρ

theorem frame_reference16 : Cert.quiescent_Reference16Ideal := by
  intro m g _
  exact (θ_run _ _ _).mono (fun r h => ⟨fun c => (h c).2.2.2.2,
    sem_eq_zero_of_no_sems (by decide) r.2⟩) (Cert.Reference16Ideal.Value.run m g)

/-- The kernel's results are the reference's: `AdamWIn` proves each of them. -/
theorem algebraic16 : Cert.algebraic_Kernel16Ideal_Reference16Ideal := by
  intro m g m' g' _ hagree
  refine ⟨Cert.AdamWIn.REFG m, Cert.AdamWIn.REFD m, Cert.AdamWIn.REFM m, Cert.AdamWIn.REFV m, ?_, ?_⟩
  · exact (θ_run _ _ _).mono (fun r h c => ⟨(h c).1.trans (Cert.AdamWIn.finalG m c), (h c).2.1.trans (Cert.AdamWIn.finalD m c),
      (h c).2.2.1.trans (Cert.AdamWIn.finalM m c), (h c).2.2.2.1.trans (Cert.AdamWIn.finalV m c), (h c).2.2.2.2⟩)
      (Cert.Kernel16Ideal.Value.run_blocks m g)
  · refine (θ_run _ _ _).mono (fun r h c => ⟨(h c).1.trans ((Cert.Reference16Ideal.Read.val_main_v36_eq  _ _).trans ?_),
      (h c).2.1.trans ((Cert.Reference16Ideal.Read.val_main_v39_eq  _ _ _ _ _).trans ?_),
      (h c).2.2.1.trans ((Cert.Reference16Ideal.Read.val_main_v42_eq  _ _ _).trans ?_),
      (h c).2.2.2.1.trans ((Cert.Reference16Ideal.Read.val_main_v45_eq  _ _ _).trans ?_), (h c).2.2.2.2⟩) (Cert.Reference16Ideal.Value.run m' g')
    all_goals obtain ⟨h0, h1, h2, h3, h4, h5, h6, h7⟩ := hagree c
    · rw [h0, h4]
    · rw [h0, h1, h2, h3, h5]
    · rw [h0, h2, h6]
    · rw [h0, h3, h7]

theorem frame_kernel17 : Cert.quiescent_Kernel17 := fun m ρ _ => Cert.Kernel17.Gen.frame m ρ

theorem frame_kernel17_ideal : Cert.quiescent_Kernel17Ideal := fun m ρ _ => Cert.Kernel17Ideal.Gen.frame m ρ

theorem frame_reference17 : Cert.quiescent_Reference17Ideal := by
  intro m g _
  exact (θ_run _ _ _).mono (fun r h => ⟨fun c => (h c).2.2.2.2,
    sem_eq_zero_of_no_sems (by decide) r.2⟩) (Cert.Reference17Ideal.Value.run m g)

/-- The kernel's results are the reference's: `AdamWOut` proves each of them. -/
theorem algebraic17 : Cert.algebraic_Kernel17Ideal_Reference17Ideal := by
  intro m g m' g' _ hagree
  refine ⟨Cert.AdamWOut.REFG m, Cert.AdamWOut.REFD m, Cert.AdamWOut.REFM m, Cert.AdamWOut.REFV m, ?_, ?_⟩
  · exact (θ_run _ _ _).mono (fun r h c => ⟨(h c).1.trans (Cert.AdamWOut.finalG m c), (h c).2.1.trans (Cert.AdamWOut.finalD m c),
      (h c).2.2.1.trans (Cert.AdamWOut.finalM m c), (h c).2.2.2.1.trans (Cert.AdamWOut.finalV m c), (h c).2.2.2.2⟩)
      (Cert.Kernel17Ideal.Value.run_blocks m g)
  · refine (θ_run _ _ _).mono (fun r h c => ⟨(h c).1.trans ((Cert.Reference17Ideal.Read.val_main_v34_eq  _ _).trans ?_),
      (h c).2.1.trans ((Cert.Reference17Ideal.Read.val_main_v37_eq  _ _ _ _ _).trans ?_),
      (h c).2.2.1.trans ((Cert.Reference17Ideal.Read.val_main_v40_eq  _ _ _).trans ?_),
      (h c).2.2.2.1.trans ((Cert.Reference17Ideal.Read.val_main_v43_eq  _ _ _).trans ?_), (h c).2.2.2.2⟩) (Cert.Reference17Ideal.Value.run m' g')
    all_goals obtain ⟨h0, h1, h2, h3, h4, h5, h6, h7⟩ := hagree c
    · rw [h0, h4]
    · rw [h0, h1, h2, h3, h5]
    · rw [h0, h2, h6]
    · rw [h0, h3, h7]

theorem frame_kernel18 : Cert.quiescent_Kernel18 := fun m ρ _ => Cert.Kernel18.Gen.frame m ρ

theorem frame_kernel18_ideal : Cert.quiescent_Kernel18Ideal := fun m ρ _ => Cert.Kernel18Ideal.Gen.frame m ρ

theorem frame_reference18 : Cert.quiescent_Reference18Ideal := by
  intro m g _
  exact (θ_run _ _ _).mono (fun r h => ⟨fun c => (h c).2.2.2.2,
    sem_eq_zero_of_no_sems (by decide) r.2⟩) (Cert.Reference18Ideal.Value.run m g)

/-- The kernel's results are the reference's: `AdamRep` proves each of them. -/
theorem algebraic18 : Cert.algebraic_Kernel18Ideal_Reference18Ideal := by
  intro m g m' g' _ hagree
  refine ⟨Cert.AdamRep.REFG m, Cert.AdamRep.REFD m, Cert.AdamRep.REFM m, Cert.AdamRep.REFV m, ?_, ?_⟩
  · exact (θ_run _ _ _).mono (fun r h c => ⟨(h c).1.trans (Cert.AdamRep.finalG m c), (h c).2.1.trans (Cert.AdamRep.finalD m c),
      (h c).2.2.1.trans (Cert.AdamRep.finalM m c), (h c).2.2.2.1.trans (Cert.AdamRep.finalV m c), (h c).2.2.2.2⟩)
      (Cert.Kernel18Ideal.Value.run_blocks m g)
  · refine (θ_run _ _ _).mono (fun r h c => ⟨(h c).1.trans ((Cert.Reference18Ideal.Read.val_main_v34_eq  _ _).trans ?_),
      (h c).2.1.trans ((Cert.Reference18Ideal.Read.val_main_v37_eq  _ _ _ _ _).trans ?_),
      (h c).2.2.1.trans ((Cert.Reference18Ideal.Read.val_main_v40_eq  _ _ _).trans ?_),
      (h c).2.2.2.1.trans ((Cert.Reference18Ideal.Read.val_main_v43_eq  _ _ _).trans ?_), (h c).2.2.2.2⟩) (Cert.Reference18Ideal.Value.run m' g')
    all_goals obtain ⟨h0, h1, h2, h3, h4, h5, h6, h7⟩ := hagree c
    · rw [h0, h4]
    · rw [h0, h1, h2, h3, h5]
    · rw [h0, h2, h6]
    · rw [h0, h3, h7]

theorem frame_kernel19 : Cert.quiescent_Kernel19 := fun m ρ _ => Cert.Kernel19.Gen.frame m ρ

theorem frame_kernel19_ideal : Cert.quiescent_Kernel19Ideal := fun m ρ _ => Cert.Kernel19Ideal.Gen.frame m ρ

theorem frame_reference19 : Cert.quiescent_Reference19Ideal := by
  intro m g _
  exact (θ_run _ _ _).mono (fun r h => ⟨fun c => (h c).2.2.2.2,
    sem_eq_zero_of_no_sems (by decide) r.2⟩) (Cert.Reference19Ideal.Value.run m g)

/-- The kernel's results are the reference's: `NormModBwd` proves each of them. -/
theorem algebraic19 : Cert.algebraic_Kernel19Ideal_Reference19Ideal := by
  intro m g m' g' _ hagree
  refine ⟨Cert.NormModBwd.REFX m, Cert.NormModBwd.REFS m, Cert.NormModBwd.REFC m, Cert.NormModBwd.REFG m, ?_, ?_⟩
  · exact (θ_run _ _ _).mono (fun r h c => ⟨(h c).1.trans (Cert.NormModBwd.finalX m c),
      (h c).2.1.trans (Cert.NormModBwd.finalS m c),
      (h c).2.2.1.trans (Cert.NormModBwd.finalC m c),
      (h c).2.2.2.1.trans (Cert.NormModBwd.finalG m c),
      (h c).2.2.2.2⟩)
      (Cert.Kernel19Ideal.Value.run_blocks m g)
  · refine (θ_run _ _ _).mono (fun r h c => ⟨(h c).1.trans ((Cert.Reference19Ideal.Read.val_main_v52_eq _ _).trans ?_),
      (h c).2.1.trans ((Cert.Reference19Ideal.Read.val_main_v25_eq _).trans ?_),
      (h c).2.2.1.trans ((Cert.Reference19Ideal.Read.val_main_v28_eq _ _ _).trans ?_),
      (h c).2.2.2.1.trans ((Cert.Reference19Ideal.Read.val_main_v37_eq _ _ _).trans ?_), (h c).2.2.2.2⟩)
      (Cert.Reference19Ideal.Value.run m' g')
    all_goals obtain ⟨h0, h1, h2, h3, h4⟩ := hagree c
    · rw [h0, h1, h2, h3, h4]
    · rw [h0]
    · rw [h0, h1, h3]
    · rw [h0, h1, h4]

theorem frame_kernel20 : Cert.quiescent_Kernel20 := fun m ρ _ => Cert.Kernel20.Gen.frame m ρ

theorem frame_kernel20_ideal : Cert.quiescent_Kernel20Ideal := fun m ρ _ => Cert.Kernel20Ideal.Gen.frame m ρ

theorem frame_reference20 : Cert.quiescent_Reference20Ideal := by
  intro m g _
  exact (θ_run _ _ _).mono (fun r h => ⟨fun c => (h c).2.2.2,
    sem_eq_zero_of_no_sems (by decide) r.2⟩) (Cert.Reference20Ideal.Value.run m g)

/-- The kernel's results are the reference's: `LossHead` proves each of them. -/
theorem algebraic20 : Cert.algebraic_Kernel20Ideal_Reference20Ideal := by
  intro m g m' g' _ hagree
  refine ⟨Cert.LossHead.REFL m, Cert.LossHead.REFX m, Cert.LossHead.REFG m, ?_, ?_⟩
  · exact (θ_run _ _ _).mono (fun r h c => ⟨(h c).1.trans (Cert.LossHead.finalL m c),
      (h c).2.1.trans (Cert.LossHead.finalX m c),
      (h c).2.2.1.trans (Cert.LossHead.finalG m c),
      (h c).2.2.2⟩)
      (Cert.Kernel20Ideal.Value.run_blocks m g)
  · refine (θ_run _ _ _).mono (fun r h c => ⟨(h c).1.trans ((Cert.Reference20Ideal.Read.val_main_v58_eq _ _).trans ?_),
      (h c).2.1.trans ((Cert.Reference20Ideal.Read.val_main_v57_eq _ _).trans ?_),
      (h c).2.2.1.trans ((Cert.Reference20Ideal.Read.val_main_v43_eq _ _).trans ?_), (h c).2.2.2⟩)
      (Cert.Reference20Ideal.Value.run m' g')
    all_goals obtain ⟨h0, h1, h2, h3, h4, h5⟩ := hagree c
    · rw [h0, h1, h2, h3, h4, h5]
    · rw [h0, h1, h2, h3, h4, h5]
    · rw [h0, h1, h2, h3, h4, h5]

theorem frame_kernel : Cert.quiescent_Kernel := fun m ρ _ => Cert.Kernel.Gen.frame m ρ

theorem frame_kernel_ideal : Cert.quiescent_KernelIdeal := fun m ρ _ => Cert.KernelIdeal.Gen.frame m ρ

theorem frame_reference : Cert.quiescent_ReferenceIdeal := by
  intro m g _
  exact (θ_run _ _ _).mono (fun r h => ⟨fun c => (h c).2.2.2.2,
    sem_eq_zero_of_no_sems (by decide) r.2⟩) (Cert.ReferenceIdeal.Value.run m g)

theorem claim : Cert.Claim :=
  ⟨Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel.Gen.facts,
   Cert.KernelIdeal.Gen.facts,
   Cert.ReferenceIdeal.Gen.facts,
   Cert.Mixer.claimed_facts,
   frame_kernel3,
   frame_kernel3_ideal,
   frame_reference3,
   frame_kernel4,
   frame_kernel4_ideal,
   frame_reference4,
   frame_kernel5,
   frame_kernel5_ideal,
   frame_reference5,
   frame_kernel6,
   frame_kernel6_ideal,
   frame_reference6,
   frame_kernel7,
   frame_kernel7_ideal,
   frame_reference7,
   frame_kernel8,
   frame_kernel8_ideal,
   frame_reference8,
   frame_kernel10,
   frame_kernel10_ideal,
   frame_reference10,
   frame_kernel11,
   frame_kernel11_ideal,
   frame_reference11,
   frame_kernel12,
   frame_kernel12_ideal,
   frame_reference12,
   frame_kernel13,
   frame_kernel13_ideal,
   frame_reference13,
   frame_kernel14,
   frame_kernel14_ideal,
   frame_reference14,
   frame_kernel15,
   frame_kernel15_ideal,
   frame_reference15,
   frame_kernel16,
   frame_kernel16_ideal,
   frame_reference16,
   frame_kernel17,
   frame_kernel17_ideal,
   frame_reference17,
   frame_kernel18,
   frame_kernel18_ideal,
   frame_reference18,
   frame_kernel19,
   frame_kernel19_ideal,
   frame_reference19,
   frame_kernel20,
   frame_kernel20_ideal,
   frame_reference20,
   frame_kernel,
   frame_kernel_ideal,
   frame_reference,
   trivial,
   algebraic3,
   trivial,
   algebraic4,
   trivial,
   algebraic5,
   trivial,
   algebraic6,
   trivial,
   algebraic7,
   trivial,
   algebraic8,
   trivial,
   algebraic10,
   trivial,
   algebraic11,
   trivial,
   algebraic12,
   trivial,
   algebraic13,
   trivial,
   algebraic14,
   trivial,
   algebraic15,
   trivial,
   algebraic16,
   trivial,
   algebraic17,
   trivial,
   algebraic18,
   trivial,
   algebraic19,
   trivial,
   algebraic20,
   trivial,
   Cert.Mixer.algebraic⟩

end Cert.Proof

end
